-- ==== Defs.lean ====
def Pre_Kernel [hPre_rows_apart : Cert.Pre_rows_apart.Facts] (m : (ℓ : Loc Cert.Kernel.nD Cert.Kernel.τ Cert.Kernel.sig) → Buf (Elt Bits) ℓ) : Prop :=
  ∀ c : Dev Cert.Kernel.nD,
    (Cert.Pre_rows_apart.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_rows_apart.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_rows_apart : Cert.Pre_rows_apart.Facts] (m : (ℓ : Loc Cert.KernelIdeal.nD Cert.KernelIdeal.τ Cert.KernelIdeal.sig) → Buf (Elt Ideal) ℓ) : Prop :=
  ∀ c : Dev Cert.KernelIdeal.nD,
    (Cert.Pre_rows_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_rows_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_apart [hPre_rows_apart : Cert.Pre_rows_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_rows_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Reference [hPre_rows_apart : Cert.Pre_rows_apart.Facts] (m : (ℓ : Loc Cert.Reference.nD Cert.Reference.τ Cert.Reference.sig) → Buf (Elt Bits) ℓ) : Prop :=
  ∀ c : Dev Cert.Reference.nD,
    (Cert.Pre_rows_apart.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).1 = (fun _ => 1#1)
    ∧ (Cert.Pre_rows_apart.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).2 = (fun _ => 1#1)

def Pre_Kernel2 [hPre_some_rows : Cert.Pre_some_rows.Facts] (m : (ℓ : Loc Cert.Kernel2.nD Cert.Kernel2.τ Cert.Kernel2.sig) → Buf (Elt Bits) ℓ) : Prop :=
  ∀ c : Dev Cert.Kernel2.nD,
    (Cert.Pre_some_rows.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_some_rows : Cert.Pre_some_rows.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_some_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Kernel2Ideal_finite_weights [hPre_finite_weights : Cert.Pre_finite_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_some_rows [hPre_some_rows : Cert.Pre_some_rows.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_some_rows.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_weights [hPre_finite_weights : Cert.Pre_finite_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2 = (fun _ => 1#1)

def quiescent_Kernel [hKernel : Cert.Kernel.Facts] [hPre_rows_apart : Cert.Pre_rows_apart.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_apart : Cert.Pre_rows_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_apart [hReferenceIdeal : Cert.ReferenceIdeal.Facts] [hPre_rows_apart : Cert.Pre_rows_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_rows_apart : Cert.Pre_rows_apart.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] [hPre_some_rows : Cert.Pre_some_rows.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_some_rows : Cert.Pre_some_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_weights [hKernel2Ideal : Cert.Kernel2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_some_rows [hReference2Ideal : Cert.Reference2Ideal.Facts] [hPre_some_rows : Cert.Pre_some_rows.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_some_rows m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_weights [hReference3Ideal : Cert.Reference3Ideal.Facts] [hPre_finite_weights : Cert.Pre_finite_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def bitexact_Kernel_Reference [hKernel : Cert.Kernel.Facts] [hReference : Cert.Reference.Facts] [hPre_rows_apart : Cert.Pre_rows_apart.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v30)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v30) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v33) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def algebraic_KernelIdeal_ReferenceIdeal [hKernelIdeal : Cert.KernelIdeal.Facts] [hReferenceIdeal : Cert.ReferenceIdeal.Facts] [hPre_rows_apart : Cert.Pre_rows_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_written [hKernel2Ideal : Cert.Kernel2Ideal.Facts] [hReference2Ideal : Cert.Reference2Ideal.Facts] [hPre_some_rows : Cert.Pre_some_rows.Facts] [hOn_written : Cert.On_written.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![62976, 2048]⟩ : Shape).Idx, (Cert.On_written.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v48) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![62976, 2048]⟩ : Shape).Idx, (Cert.On_written.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v89) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def algebraic_Kernel2Ideal_Reference3Ideal_on_written_pre_finite_weights [hKernel2Ideal : Cert.Kernel2Ideal.Facts] [hReference3Ideal : Cert.Reference3Ideal.Facts] [hPre_finite_weights : Cert.Pre_finite_weights.Facts] [hOn_written : Cert.On_written.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel2Ideal_finite_weights m →
    (∀ c : Dev Cert.Kernel2Ideal.nD,
      m' ((c.tc : Thread Cert.Reference3Ideal.nD Cert.Reference3Ideal.τ).loc Cert.Reference3Ideal.main_arg0) = m ((c.tc : Thread Cert.Kernel2Ideal.nD Cert.Kernel2Ideal.τ).loc Cert.Kernel2Ideal.main_arg0)
      ∧ m' ((c.tc : Thread Cert.Reference3Ideal.nD Cert.Reference3Ideal.τ).loc Cert.Reference3Ideal.main_arg1) = m ((c.tc : Thread Cert.Kernel2Ideal.nD Cert.Kernel2Ideal.τ).loc Cert.Kernel2Ideal.main_arg1)
      ∧ m' ((c.tc : Thread Cert.Reference3Ideal.nD Cert.Reference3Ideal.τ).loc Cert.Reference3Ideal.main_arg2) = m ((c.tc : Thread Cert.Kernel2Ideal.nD Cert.Kernel2Ideal.τ).loc Cert.Kernel2Ideal.main_arg2)
      ∧ m' ((c.tc : Thread Cert.Reference3Ideal.nD Cert.Reference3Ideal.τ).loc Cert.Reference3Ideal.main_arg3) = m ((c.tc : Thread Cert.Kernel2Ideal.nD Cert.Kernel2Ideal.τ).loc Cert.Kernel2Ideal.main_arg3)
      ∧ m' ((c.tc : Thread Cert.Reference3Ideal.nD Cert.Reference3Ideal.τ).loc Cert.Reference3Ideal.main_arg4) = m ((c.tc : Thread Cert.Kernel2Ideal.nD Cert.Kernel2Ideal.τ).loc Cert.Kernel2Ideal.main_arg4)
      ∧ m' ((c.tc : Thread Cert.Reference3Ideal.nD Cert.Reference3Ideal.τ).loc Cert.Reference3Ideal.main_arg5) = m ((c.tc : Thread Cert.Kernel2Ideal.nD Cert.Kernel2Ideal.τ).loc Cert.Kernel2Ideal.main_arg5)
      ∧ m' ((c.tc : Thread Cert.Reference3Ideal.nD Cert.Reference3Ideal.τ).loc Cert.Reference3Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![62976, 2048]⟩ : Shape).Idx, (Cert.On_written.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v48) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![62976, 2048]⟩ : Shape).Idx, (Cert.On_written.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference3Ideal.nD Cert.Reference3Ideal.τ).loc Cert.Reference3Ideal.main_v91) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference3Ideal : Cert.Reference3Ideal.Facts) (hPre_rows_apart : Cert.Pre_rows_apart.Facts) (hPre_some_rows : Cert.Pre_some_rows.Facts) (hPre_finite_weights : Cert.Pre_finite_weights.Facts) (hOn_written : Cert.On_written.Facts),
    quiescent_Kernel (hKernel := hKernel) (hPre_rows_apart := hPre_rows_apart)
    ∧ quiescent_KernelIdeal (hKernelIdeal := hKernelIdeal) (hPre_rows_apart := hPre_rows_apart)
    ∧ quiescent_ReferenceIdeal (hReferenceIdeal := hReferenceIdeal)
    ∧ quiescent_ReferenceIdeal_pre_rows_apart (hReferenceIdeal := hReferenceIdeal) (hPre_rows_apart := hPre_rows_apart)
    ∧ quiescent_Reference (hReference := hReference) (hPre_rows_apart := hPre_rows_apart)
    ∧ quiescent_Kernel2 (hKernel2 := hKernel2) (hPre_some_rows := hPre_some_rows)
    ∧ quiescent_Kernel2Ideal (hKernel2Ideal := hKernel2Ideal) (hPre_some_rows := hPre_some_rows)
    ∧ quiescent_Kernel2Ideal_pre_finite_weights (hKernel2Ideal := hKernel2Ideal) (hPre_finite_weights := hPre_finite_weights)
    ∧ quiescent_Reference2Ideal (hReference2Ideal := hReference2Ideal)
    ∧ quiescent_Reference2Ideal_pre_some_rows (hReference2Ideal := hReference2Ideal) (hPre_some_rows := hPre_some_rows)
    ∧ quiescent_Reference3Ideal (hReference3Ideal := hReference3Ideal)
    ∧ quiescent_Reference3Ideal_pre_finite_weights (hReference3Ideal := hReference3Ideal) (hPre_finite_weights := hPre_finite_weights)
    ∧ preserves_Kernel_KernelIdeal
    ∧ bitexact_Kernel_Reference (hKernel := hKernel) (hReference := hReference) (hPre_rows_apart := hPre_rows_apart)
    ∧ algebraic_KernelIdeal_ReferenceIdeal (hKernelIdeal := hKernelIdeal) (hReferenceIdeal := hReferenceIdeal) (hPre_rows_apart := hPre_rows_apart)
    ∧ preserves_Kernel2_Kernel2Ideal
    ∧ algebraic_Kernel2Ideal_Reference2Ideal_on_written (hKernel2Ideal := hKernel2Ideal) (hReference2Ideal := hReference2Ideal) (hPre_some_rows := hPre_some_rows) (hOn_written := hOn_written)
    ∧ algebraic_Kernel2Ideal_Reference3Ideal_on_written_pre_finite_weights (hKernel2Ideal := hKernel2Ideal) (hReference3Ideal := hReference3Ideal) (hPre_finite_weights := hPre_finite_weights) (hOn_written := hOn_written)
-- ==== On_written.lean ====
abbrev S1x128 : Shape := ⟨2, ![1, 128]⟩
abbrev S62976x2176 : Shape := ⟨2, ![62976, 2176]⟩
abbrev S1x32x2048x256 : Shape := ⟨4, ![1, 32, 2048, 256]⟩
abbrev S1x32x256x2048 : Shape := ⟨4, ![1, 32, 256, 2048]⟩
abbrev S1x2048 : Shape := ⟨2, ![1, 2048]⟩
abbrev S2048 : Shape := ⟨1, ![2048]⟩
abbrev S62976 : Shape := ⟨1, ![62976]⟩
abbrev S1x112 : Shape := ⟨2, ![1, 112]⟩
abbrev S112 : Shape := ⟨1, ![112]⟩
abbrev S_ : Shape := ⟨0, ![]⟩
abbrev S1 : Shape := ⟨1, ![1]⟩
abbrev S62976x1 : Shape := ⟨2, ![62976, 1]⟩
abbrev S62976x2048 : Shape := ⟨2, ![62976, 2048]⟩

class Facts : Prop where
  slices_S1x128_S1x112_0_0 : S1x128.Slices ![0, 0] S1x112
  shapeCasts_S1x112_S112 : S1x112.ShapeCasts S112
  bcast_S_S112 : S_.BroadcastsInDim S112 (![] : Fin 0 → Fin S112.rank)
  bcast_S_S_ : S_.BroadcastsInDim S_ (![] : Fin 0 → Fin S_.rank)
  reduceWindows_S112_S112_w112s1p111_0 : S112.ReduceWindows (![112] : Fin 1 → Nat) ![1] ![111] ![0] S112
  h_S_ : 0 < S_.numel
  slices_S112_S1_111 : S112.Slices ![111] S1
  shapeCasts_S1_S_ : S1.ShapeCasts S_
  bcast_S_S62976 : S_.BroadcastsInDim S62976 (![] : Fin 0 → Fin S62976.rank)
  bcast_S62976_S62976x1_0 : S62976.BroadcastsInDim S62976x1 (![0] : Fin 1 → Fin S62976x1.rank)
  bcast_S62976x1_S62976x2048_0_1 : S62976x1.BroadcastsInDim S62976x2048 (![0, 1] : Fin 2 → Fin S62976x2048.rank)

variable [Facts]

def fn_where {F : FTy → Type} [FloatOps F] (arg0 : IVec S112 1) (arg1 : IVec S112 32) (arg2 : IVec S112 32) : IVec S112 32 :=
  let v0 : IVec S112 32 := select arg0 arg1 arg2
  v0

def fn_floor_divide {F : FTy → Type} [FloatOps F] (arg0 : IVec S112 32) (arg1 : IVec S_ 32) : IVec S112 32 :=
  let v0 : IVec S_ 32 := id arg1
  let v1 : IVec S112 32 := broadcastInDim S112 ![] bcast_S_S112 v0
  let v2 : IVec S112 32 := Host.divsi arg0 v1
  let v3 : IVec S112 32 := signi arg0
  let v4 : IVec S_ 32 := signi v0
  let v5 : IVec S112 32 := broadcastInDim S112 ![] bcast_S_S112 v4
  let v6 : IVec S112 1 := cmpi .ne v3 v5
  let v7 : IVec S112 32 := broadcastInDim S112 ![] bcast_S_S112 v0
  let v8 : IVec S112 32 := Host.remsi arg0 v7
  let c : IVec S_ 32 := constantI S_ 32 0#32
  let v9 : IVec S112 32 := broadcastInDim S112 ![] bcast_S_S112 c
  let v10 : IVec S112 1 := cmpi .ne v8 v9
  let v11 : IVec S112 1 := andi v6 v10
  let c_0 : IVec S_ 32 := constantI S_ 32 1#32
  let v12 : IVec S112 32 := broadcastInDim S112 ![] bcast_S_S112 c_0
  let v13 : IVec S112 32 := subi v2 v12
  let v14 : IVec S112 32 := fn_where (F := F) v11 v13 v2
  v14

def fn_cumsum_0 {F : FTy → Type} [FloatOps F] (arg0 : IVec S112 32) : IVec S112 32 :=
  let c : IVec S_ 32 := constantI S_ 32 0#32
  let v0 : IVec S_ 32 := broadcastInDim S_ ![] bcast_S_S_ c
  let v1 : IVec S112 32 := (fun x v => Host.reduceWindow IntOp.addi ![112] ![1] ![111] ![0] x v reduceWindows_S112_S112_w112s1p111_0 h_S_) arg0 v0
  v1

def fn_cumsum {F : FTy → Type} [FloatOps F] (arg0 : IVec S112 32) : IVec S112 32 :=
  let v0 : IVec S112 32 := fn_cumsum_0 (F := F) arg0
  v0

def fn {F : FTy → Type} [FloatOps F] (main_arg0 : FVec F S1x128 .f32) (main_arg1 : FVec F S62976x2176 .f32) (main_arg2 : FVec F S1x32x2048x256 .f32) (main_arg3 : FVec F S1x32x2048x256 .f32) (main_arg4 : FVec F S1x32x256x2048 .f32) (main_arg5 : FVec F S1x2048 .f32) (main_arg6 : FVec F S2048 .f32) : IVec S62976x2048 1 :=
  let main_v0 : IVec S62976 32 := iotaInDim S62976 32 0
  let main_v1 : FVec F S1x112 .f32 := (extractStridedSlice S1x112 ![0, 0] · slices_S1x128_S1x112_0_0) main_arg0
  let main_v2 : FVec F S112 .f32 := shapeCast S112 main_v1 shapeCasts_S1x112_S112
  let main_v3 : IVec S112 32 := fptosi 32 main_v2
  let main_c : IVec S_ 32 := constantI S_ 32 256#32
  let main_v4 : IVec S112 32 := broadcastInDim S112 ![] bcast_S_S112 main_c
  let main_v5 : IVec S112 32 := addi main_v3 main_v4
  let main_c_0 : IVec S_ 32 := constantI S_ 32 1#32
  let main_v6 : IVec S112 32 := broadcastInDim S112 ![] bcast_S_S112 main_c_0
  let main_v7 : IVec S112 32 := subi main_v5 main_v6
  let main_c_1 : IVec S_ 32 := constantI S_ 32 256#32
  let main_v8 : IVec S112 32 := fn_floor_divide (F := F) main_v7 main_c_1
  let main_c_2 : IVec S_ 32 := constantI S_ 32 256#32
  let main_v9 : IVec S112 32 := broadcastInDim S112 ![] bcast_S_S112 main_c_2
  let main_v10 : IVec S112 32 := muli main_v8 main_v9
  let main_v11 : IVec S112 32 := fn_cumsum (F := F) main_v10
  let main_v12 : IVec S1 32 := (extractStridedSlice S1 ![111] · slices_S112_S1_111) main_v11
  let main_v13 : IVec S_ 32 := shapeCast S_ main_v12 shapeCasts_S1_S_
  let main_v14 : IVec S62976 32 := broadcastInDim S62976 ![] bcast_S_S62976 main_v13
  let main_v15 : IVec S62976 1 := cmpi .slt main_v0 main_v14
  let main_v16 : IVec S62976x1 1 := broadcastInDim S62976x1 ![0] bcast_S62976_S62976x1_0 main_v15
  let main_v17 : IVec S62976x2048 1 := broadcastInDim S62976x2048 ![0, 1] bcast_S62976x1_S62976x2048_0_1 main_v16
  main_v17
-- ==== Pre_finite_weights.lean ====
abbrev S1x128 : Shape := ⟨2, ![1, 128]⟩
abbrev S62976x2176 : Shape := ⟨2, ![62976, 2176]⟩
abbrev S1x32x2048x256 : Shape := ⟨4, ![1, 32, 2048, 256]⟩
abbrev S1x32x256x2048 : Shape := ⟨4, ![1, 32, 256, 2048]⟩
abbrev S1x2048 : Shape := ⟨2, ![1, 2048]⟩
abbrev S2048 : Shape := ⟨1, ![2048]⟩
abbrev S1x112 : Shape := ⟨2, ![1, 112]⟩
abbrev S112 : Shape := ⟨1, ![112]⟩
abbrev S_ : Shape := ⟨0, ![]⟩
abbrev S1 : Shape := ⟨1, ![1]⟩
abbrev S62976x2 : Shape := ⟨2, ![62976, 2]⟩
abbrev S62976 : Shape := ⟨1, ![62976]⟩
abbrev S62976x1 : Shape := ⟨2, ![62976, 1]⟩

class Facts : Prop where
  slices_S1x128_S1x112_0_0 : S1x128.Slices ![0, 0] S1x112
  shapeCasts_S1x112_S112 : S1x112.ShapeCasts S112
  bcast_S_S112 : S_.BroadcastsInDim S112 (![] : Fin 0 → Fin S112.rank)
  bcast_S_S_ : S_.BroadcastsInDim S_ (![] : Fin 0 → Fin S_.rank)
  reduceWindows_S112_S112_w112s1p111_0 : S112.ReduceWindows (![112] : Fin 1 → Nat) ![1] ![111] ![0] S112
  h_S_ : 0 < S_.numel
  slices_S112_S1_111 : S112.Slices ![111] S1
  shapeCasts_S1_S_ : S1.ShapeCasts S_
  slices_S62976x2176_S62976x2_0_2050 : S62976x2176.Slices ![0, 2050] S62976x2
  bcast_S62976_S62976x1_0 : S62976.BroadcastsInDim S62976x1 (![0] : Fin 1 → Fin S62976x1.rank)
  bcast_S_S62976x1 : S_.BroadcastsInDim S62976x1 (![] : Fin 0 → Fin S62976x1.rank)
  bcast_S_S62976x2 : S_.BroadcastsInDim S62976x2 (![] : Fin 0 → Fin S62976x2.rank)
  bcast_S62976x1_S62976x2_0_1 : S62976x1.BroadcastsInDim S62976x2 (![0, 1] : Fin 2 → Fin S62976x2.rank)

variable [Facts]

def fn_where {F : FTy → Type} [FloatOps F] (arg0 : IVec S112 1) (arg1 : IVec S112 32) (arg2 : IVec S112 32) : IVec S112 32 :=
  let v0 : IVec S112 32 := select arg0 arg1 arg2
  v0

def fn_floor_divide {F : FTy → Type} [FloatOps F] (arg0 : IVec S112 32) (arg1 : IVec S_ 32) : IVec S112 32 :=
  let v0 : IVec S_ 32 := id arg1
  let v1 : IVec S112 32 := broadcastInDim S112 ![] bcast_S_S112 v0
  let v2 : IVec S112 32 := Host.divsi arg0 v1
  let v3 : IVec S112 32 := signi arg0
  let v4 : IVec S_ 32 := signi v0
  let v5 : IVec S112 32 := broadcastInDim S112 ![] bcast_S_S112 v4
  let v6 : IVec S112 1 := cmpi .ne v3 v5
  let v7 : IVec S112 32 := broadcastInDim S112 ![] bcast_S_S112 v0
  let v8 : IVec S112 32 := Host.remsi arg0 v7
  let c : IVec S_ 32 := constantI S_ 32 0#32
  let v9 : IVec S112 32 := broadcastInDim S112 ![] bcast_S_S112 c
  let v10 : IVec S112 1 := cmpi .ne v8 v9
  let v11 : IVec S112 1 := andi v6 v10
  let c_0 : IVec S_ 32 := constantI S_ 32 1#32
  let v12 : IVec S112 32 := broadcastInDim S112 ![] bcast_S_S112 c_0
  let v13 : IVec S112 32 := subi v2 v12
  let v14 : IVec S112 32 := fn_where (F := F) v11 v13 v2
  v14

def fn_cumsum_0 {F : FTy → Type} [FloatOps F] (arg0 : IVec S112 32) : IVec S112 32 :=
  let c : IVec S_ 32 := constantI S_ 32 0#32
  let v0 : IVec S_ 32 := broadcastInDim S_ ![] bcast_S_S_ c
  let v1 : IVec S112 32 := (fun x v => Host.reduceWindow IntOp.addi ![112] ![1] ![111] ![0] x v reduceWindows_S112_S112_w112s1p111_0 h_S_) arg0 v0
  v1

def fn_cumsum {F : FTy → Type} [FloatOps F] (arg0 : IVec S112 32) : IVec S112 32 :=
  let v0 : IVec S112 32 := fn_cumsum_0 (F := F) arg0
  v0

def fn_part1 {F : FTy → Type} [FloatOps F] (main_v13 : FVec F S62976x2 .f32) (main_v14 : IVec S_ 1) (main_v18 : IVec S62976x1 1) : IVec S_ 1 × IVec S62976x2 1 :=
  let main_v19 : FVec F S62976x2 .f32 := Host.absf main_v13
  let main_cst : FVec F S_ .f32 := constant S_ .f32 0x7F800000#32
  let main_v20 : FVec F S62976x2 .f32 := broadcastInDim S62976x2 ![] bcast_S_S62976x2 main_cst
  let main_v21 : IVec S62976x2 1 := cmpf .olt main_v19 main_v20
  let main_v22 : IVec S62976x2 1 := broadcastInDim S62976x2 ![0, 1] bcast_S62976x1_S62976x2_0_1 main_v18
  let main_v23 : IVec S62976x2 1 := ori main_v22 main_v21
  (main_v14, main_v23)

def fn {F : FTy → Type} [FloatOps F] (main_arg0 : FVec F S1x128 .f32) (main_arg1 : FVec F S62976x2176 .f32) (main_arg2 : FVec F S1x32x2048x256 .f32) (main_arg3 : FVec F S1x32x2048x256 .f32) (main_arg4 : FVec F S1x32x256x2048 .f32) (main_arg5 : FVec F S1x2048 .f32) (main_arg6 : FVec F S2048 .f32) : IVec S_ 1 × IVec S62976x2 1 :=
  let main_v0 : FVec F S1x112 .f32 := (extractStridedSlice S1x112 ![0, 0] · slices_S1x128_S1x112_0_0) main_arg0
  let main_v1 : FVec F S112 .f32 := shapeCast S112 main_v0 shapeCasts_S1x112_S112
  let main_v2 : IVec S112 32 := fptosi 32 main_v1
  let main_c : IVec S_ 32 := constantI S_ 32 256#32
  let main_v3 : IVec S112 32 := broadcastInDim S112 ![] bcast_S_S112 main_c
  let main_v4 : IVec S112 32 := addi main_v2 main_v3
  let main_c_0 : IVec S_ 32 := constantI S_ 32 1#32
  let main_v5 : IVec S112 32 := broadcastInDim S112 ![] bcast_S_S112 main_c_0
  let main_v6 : IVec S112 32 := subi main_v4 main_v5
  let main_c_1 : IVec S_ 32 := constantI S_ 32 256#32
  let main_v7 : IVec S112 32 := fn_floor_divide (F := F) main_v6 main_c_1
  let main_c_2 : IVec S_ 32 := constantI S_ 32 256#32
  let main_v8 : IVec S112 32 := broadcastInDim S112 ![] bcast_S_S112 main_c_2
  let main_v9 : IVec S112 32 := muli main_v7 main_v8
  let main_v10 : IVec S112 32 := fn_cumsum (F := F) main_v9
  let main_v11 : IVec S1 32 := (extractStridedSlice S1 ![111] · slices_S112_S1_111) main_v10
  let main_v12 : IVec S_ 32 := shapeCast S_ main_v11 shapeCasts_S1_S_
  let main_v13 : FVec F S62976x2 .f32 := (extractStridedSlice S62976x2 ![0, 2050] · slices_S62976x2176_S62976x2_0_2050) main_arg1
  let main_c_3 : IVec S_ 32 := constantI S_ 32 1#32
  let main_v14 : IVec S_ 1 := cmpi .sge main_v12 main_c_3
  let main_v15 : IVec S62976 32 := iotaInDim S62976 32 0
  let main_v16 : IVec S62976x1 32 := broadcastInDim S62976x1 ![0] bcast_S62976_S62976x1_0 main_v15
  let main_v17 : IVec S62976x1 32 := broadcastInDim S62976x1 ![] bcast_S_S62976x1 main_v12
  let main_v18 : IVec S62976x1 1 := cmpi .sge main_v16 main_v17
  fn_part1 (F := F) main_v13 main_v14 main_v18
-- ==== Pre_rows_apart.lean ====
abbrev S1x128 : Shape := ⟨2, ![1, 128]⟩
abbrev S1024x128 : Shape := ⟨2, ![1024, 128]⟩
abbrev S1024x2176 : Shape := ⟨2, ![1024, 2176]⟩
abbrev S62976x2176 : Shape := ⟨2, ![62976, 2176]⟩
abbrev S1x112 : Shape := ⟨2, ![1, 112]⟩
abbrev S112 : Shape := ⟨1, ![112]⟩
abbrev S_ : Shape := ⟨0, ![]⟩
abbrev S1024x1 : Shape := ⟨2, ![1024, 1]⟩
abbrev S1024 : Shape := ⟨1, ![1024]⟩
abbrev S1024x112 : Shape := ⟨2, ![1024, 112]⟩
abbrev S1x1024 : Shape := ⟨2, ![1, 1024]⟩
abbrev S1024x1024 : Shape := ⟨2, ![1024, 1024]⟩

class Facts : Prop where
  slices_S1x128_S1x112_0_0 : S1x128.Slices ![0, 0] S1x112
  shapeCasts_S1x112_S112 : S1x112.ShapeCasts S112
  bcast_S_S112 : S_.BroadcastsInDim S112 (![] : Fin 0 → Fin S112.rank)
  bcast_S_S_ : S_.BroadcastsInDim S_ (![] : Fin 0 → Fin S_.rank)
  reduceWindows_S112_S112_w112s1p111_0 : S112.ReduceWindows (![112] : Fin 1 → Nat) ![1] ![111] ![0] S112
  h_S_ : 0 < S_.numel
  slices_S1024x128_S1024x1_0_0 : S1024x128.Slices ![0, 0] S1024x1
  shapeCasts_S1024x1_S1024 : S1024x1.ShapeCasts S1024
  bcast_S1024_S1024x1_0 : S1024.BroadcastsInDim S1024x1 (![0] : Fin 1 → Fin S1024x1.rank)
  bcast_S112_S1x112_1 : S112.BroadcastsInDim S1x112 (![1] : Fin 1 → Fin S1x112.rank)
  bcast_S1024x1_S1024x112_0_1 : S1024x1.BroadcastsInDim S1024x112 (![0, 1] : Fin 2 → Fin S1024x112.rank)
  bcast_S1x112_S1024x112_0_1 : S1x112.BroadcastsInDim S1024x112 (![0, 1] : Fin 2 → Fin S1024x112.rank)
  bcast_S112_S1024x112_1 : S112.BroadcastsInDim S1024x112 (![1] : Fin 1 → Fin S1024x112.rank)
  bcast_S_S1024x112 : S_.BroadcastsInDim S1024x112 (![] : Fin 0 → Fin S1024x112.rank)
  reducesTo_S1024x112_S1024_d1 : S1024x112.ReducesTo [1] S1024
  slices_S1024x128_S1024x1_0_1 : S1024x128.Slices ![0, 1] S1024x1
  bcast_S_S1024 : S_.BroadcastsInDim S1024 (![] : Fin 0 → Fin S1024.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)

variable [Facts]

def fn_where {F : FTy → Type} [FloatOps F] (arg0 : IVec S112 1) (arg1 : IVec S112 32) (arg2 : IVec S112 32) : IVec S112 32 :=
  let v0 : IVec S112 32 := select arg0 arg1 arg2
  v0

def fn_floor_divide {F : FTy → Type} [FloatOps F] (arg0 : IVec S112 32) (arg1 : IVec S_ 32) : IVec S112 32 :=
  let v0 : IVec S_ 32 := id arg1
  let v1 : IVec S112 32 := broadcastInDim S112 ![] bcast_S_S112 v0
  let v2 : IVec S112 32 := Host.divsi arg0 v1
  let v3 : IVec S112 32 := signi arg0
  let v4 : IVec S_ 32 := signi v0
  let v5 : IVec S112 32 := broadcastInDim S112 ![] bcast_S_S112 v4
  let v6 : IVec S112 1 := cmpi .ne v3 v5
  let v7 : IVec S112 32 := broadcastInDim S112 ![] bcast_S_S112 v0
  let v8 : IVec S112 32 := Host.remsi arg0 v7
  let c : IVec S_ 32 := constantI S_ 32 0#32
  let v9 : IVec S112 32 := broadcastInDim S112 ![] bcast_S_S112 c
  let v10 : IVec S112 1 := cmpi .ne v8 v9
  let v11 : IVec S112 1 := andi v6 v10
  let c_0 : IVec S_ 32 := constantI S_ 32 1#32
  let v12 : IVec S112 32 := broadcastInDim S112 ![] bcast_S_S112 c_0
  let v13 : IVec S112 32 := subi v2 v12
  let v14 : IVec S112 32 := fn_where (F := F) v11 v13 v2
  v14

def fn_cumsum_0 {F : FTy → Type} [FloatOps F] (arg0 : IVec S112 32) : IVec S112 32 :=
  let c : IVec S_ 32 := constantI S_ 32 0#32
  let v0 : IVec S_ 32 := broadcastInDim S_ ![] bcast_S_S_ c
  let v1 : IVec S112 32 := (fun x v => Host.reduceWindow IntOp.addi ![112] ![1] ![111] ![0] x v reduceWindows_S112_S112_w112s1p111_0 h_S_) arg0 v0
  v1

def fn_cumsum {F : FTy → Type} [FloatOps F] (arg0 : IVec S112 32) : IVec S112 32 :=
  let v0 : IVec S112 32 := fn_cumsum_0 (F := F) arg0
  v0

def fn_where_1 {F : FTy → Type} [FloatOps F] (arg0 : IVec S1024x112 1) (arg1 : IVec S112 32) (arg2 : IVec S_ 32) : IVec S1024x112 32 :=
  let v0 : IVec S_ 32 := id arg2
  let v1 : IVec S1024x112 32 := broadcastInDim S1024x112 ![1] bcast_S112_S1024x112_1 arg1
  let v2 : IVec S1024x112 32 := broadcastInDim S1024x112 ![] bcast_S_S1024x112 v0
  let v3 : IVec S1024x112 32 := select arg0 v1 v2
  v3

def fn_part2 {F : FTy → Type} [FloatOps F] (main_v32 : IVec S1024 1) (main_v37 : IVec S1024x1024 1) (main_v38 : IVec S1024x1 32) (main_v39 : IVec S1x1024 32) : IVec S1024 1 × IVec S1024x1024 1 :=
  let main_v40 : IVec S1024x1024 32 := broadcastInDim S1024x1024 ![0, 1] bcast_S1024x1_S1024x1024_0_1 main_v38
  let main_v41 : IVec S1024x1024 32 := broadcastInDim S1024x1024 ![0, 1] bcast_S1x1024_S1024x1024_0_1 main_v39
  let main_v42 : IVec S1024x1024 1 := cmpi .eq main_v40 main_v41
  let main_v43 : IVec S1024x1024 1 := ori main_v37 main_v42
  (main_v32, main_v43)

def fn_part1 {F : FTy → Type} [FloatOps F] (main_arg1 : FVec F S1024x128 .f32) (main_v11 : IVec S112 32) (main_v18 : IVec S1024x112 32) (main_v19 : IVec S1024x112 32) : IVec S1024 1 × IVec S1024x1024 1 :=
  let main_v20 : IVec S1024x112 1 := cmpi .eq main_v18 main_v19
  let main_c_3 : IVec S_ 32 := constantI S_ 32 0#32
  let main_v21 : IVec S1024x112 32 := fn_where_1 (F := F) main_v20 main_v11 main_c_3
  let main_c_4 : IVec S_ 32 := constantI S_ 32 0#32
  let main_v22 : IVec S1024 32 := (fun x v => Host.reduce IntOp.addi x v reducesTo_S1024x112_S1024_d1 h_S_) main_v21 main_c_4
  let main_v23 : FVec F S1024x1 .f32 := (extractStridedSlice S1024x1 ![0, 1] · slices_S1024x128_S1024x1_0_1) main_arg1
  let main_v24 : FVec F S1024 .f32 := shapeCast S1024 main_v23 shapeCasts_S1024x1_S1024
  let main_v25 : IVec S1024 32 := fptosi 32 main_v24
  let main_v26 : IVec S1024 32 := addi main_v22 main_v25
  let main_v27 : IVec S1024 32 := iotaInDim S1024 32 0
  let main_c_5 : IVec S_ 32 := constantI S_ 32 0#32
  let main_v28 : IVec S1024 32 := broadcastInDim S1024 ![] bcast_S_S1024 main_c_5
  let main_v29 : IVec S1024 1 := cmpi .sge main_v26 main_v28
  let main_c_6 : IVec S_ 32 := constantI S_ 32 62976#32
  let main_v30 : IVec S1024 32 := broadcastInDim S1024 ![] bcast_S_S1024 main_c_6
  let main_v31 : IVec S1024 1 := cmpi .slt main_v26 main_v30
  let main_v32 : IVec S1024 1 := andi main_v29 main_v31
  let main_v33 : IVec S1024x1 32 := broadcastInDim S1024x1 ![0] bcast_S1024_S1024x1_0 main_v26
  let main_v34 : IVec S1x1024 32 := broadcastInDim S1x1024 ![1] bcast_S1024_S1x1024_1 main_v26
  let main_v35 : IVec S1024x1024 32 := broadcastInDim S1024x1024 ![0, 1] bcast_S1024x1_S1024x1024_0_1 main_v33
  let main_v36 : IVec S1024x1024 32 := broadcastInDim S1024x1024 ![0, 1] bcast_S1x1024_S1024x1024_0_1 main_v34
  let main_v37 : IVec S1024x1024 1 := cmpi .ne main_v35 main_v36
  let main_v38 : IVec S1024x1 32 := broadcastInDim S1024x1 ![0] bcast_S1024_S1024x1_0 main_v27
  let main_v39 : IVec S1x1024 32 := broadcastInDim S1x1024 ![1] bcast_S1024_S1x1024_1 main_v27
  fn_part2 (F := F) main_v32 main_v37 main_v38 main_v39

def fn {F : FTy → Type} [FloatOps F] (main_arg0 : FVec F S1x128 .f32) (main_arg1 : FVec F S1024x128 .f32) (main_arg2 : FVec F S1024x2176 .f32) (main_arg3 : FVec F S62976x2176 .f32) : IVec S1024 1 × IVec S1024x1024 1 :=
  let main_v0 : FVec F S1x112 .f32 := (extractStridedSlice S1x112 ![0, 0] · slices_S1x128_S1x112_0_0) main_arg0
  let main_v1 : FVec F S112 .f32 := shapeCast S112 main_v0 shapeCasts_S1x112_S112
  let main_v2 : IVec S112 32 := fptosi 32 main_v1
  let main_c : IVec S_ 32 := constantI S_ 32 256#32
  let main_v3 : IVec S112 32 := broadcastInDim S112 ![] bcast_S_S112 main_c
  let main_v4 : IVec S112 32 := addi main_v2 main_v3
  let main_c_0 : IVec S_ 32 := constantI S_ 32 1#32
  let main_v5 : IVec S112 32 := broadcastInDim S112 ![] bcast_S_S112 main_c_0
  let main_v6 : IVec S112 32 := subi main_v4 main_v5
  let main_c_1 : IVec S_ 32 := constantI S_ 32 256#32
  let main_v7 : IVec S112 32 := fn_floor_divide (F := F) main_v6 main_c_1
  let main_c_2 : IVec S_ 32 := constantI S_ 32 256#32
  let main_v8 : IVec S112 32 := broadcastInDim S112 ![] bcast_S_S112 main_c_2
  let main_v9 : IVec S112 32 := muli main_v7 main_v8
  let main_v10 : IVec S112 32 := fn_cumsum (F := F) main_v9
  let main_v11 : IVec S112 32 := subi main_v10 main_v9
  let main_v12 : FVec F S1024x1 .f32 := (extractStridedSlice S1024x1 ![0, 0] · slices_S1024x128_S1024x1_0_0) main_arg1
  let main_v13 : FVec F S1024 .f32 := shapeCast S1024 main_v12 shapeCasts_S1024x1_S1024
  let main_v14 : IVec S1024 32 := fptosi 32 main_v13
  let main_v15 : IVec S1024x1 32 := broadcastInDim S1024x1 ![0] bcast_S1024_S1024x1_0 main_v14
  let main_v16 : IVec S112 32 := iotaInDim S112 32 0
  let main_v17 : IVec S1x112 32 := broadcastInDim S1x112 ![1] bcast_S112_S1x112_1 main_v16
  let main_v18 : IVec S1024x112 32 := broadcastInDim S1024x112 ![0, 1] bcast_S1024x1_S1024x112_0_1 main_v15
  let main_v19 : IVec S1024x112 32 := broadcastInDim S1024x112 ![0, 1] bcast_S1x112_S1024x112_0_1 main_v17
  fn_part1 (F := F) main_arg1 main_v11 main_v18 main_v19
-- ==== Pre_some_rows.lean ====
abbrev S1x128 : Shape := ⟨2, ![1, 128]⟩
abbrev S62976x2176 : Shape := ⟨2, ![62976, 2176]⟩
abbrev S1x32x2048x256 : Shape := ⟨4, ![1, 32, 2048, 256]⟩
abbrev S1x32x256x2048 : Shape := ⟨4, ![1, 32, 256, 2048]⟩
abbrev S1x2048 : Shape := ⟨2, ![1, 2048]⟩
abbrev S2048 : Shape := ⟨1, ![2048]⟩
abbrev S1x112 : Shape := ⟨2, ![1, 112]⟩
abbrev S112 : Shape := ⟨1, ![112]⟩
abbrev S_ : Shape := ⟨0, ![]⟩
abbrev S1 : Shape := ⟨1, ![1]⟩

class Facts : Prop where
  slices_S1x128_S1x112_0_0 : S1x128.Slices ![0, 0] S1x112
  shapeCasts_S1x112_S112 : S1x112.ShapeCasts S112
  bcast_S_S112 : S_.BroadcastsInDim S112 (![] : Fin 0 → Fin S112.rank)
  bcast_S_S_ : S_.BroadcastsInDim S_ (![] : Fin 0 → Fin S_.rank)
  reduceWindows_S112_S112_w112s1p111_0 : S112.ReduceWindows (![112] : Fin 1 → Nat) ![1] ![111] ![0] S112
  h_S_ : 0 < S_.numel
  slices_S112_S1_111 : S112.Slices ![111] S1
  shapeCasts_S1_S_ : S1.ShapeCasts S_

variable [Facts]

def fn_where {F : FTy → Type} [FloatOps F] (arg0 : IVec S112 1) (arg1 : IVec S112 32) (arg2 : IVec S112 32) : IVec S112 32 :=
  let v0 : IVec S112 32 := select arg0 arg1 arg2
  v0

def fn_floor_divide {F : FTy → Type} [FloatOps F] (arg0 : IVec S112 32) (arg1 : IVec S_ 32) : IVec S112 32 :=
  let v0 : IVec S_ 32 := id arg1
  let v1 : IVec S112 32 := broadcastInDim S112 ![] bcast_S_S112 v0
  let v2 : IVec S112 32 := Host.divsi arg0 v1
  let v3 : IVec S112 32 := signi arg0
  let v4 : IVec S_ 32 := signi v0
  let v5 : IVec S112 32 := broadcastInDim S112 ![] bcast_S_S112 v4
  let v6 : IVec S112 1 := cmpi .ne v3 v5
  let v7 : IVec S112 32 := broadcastInDim S112 ![] bcast_S_S112 v0
  let v8 : IVec S112 32 := Host.remsi arg0 v7
  let c : IVec S_ 32 := constantI S_ 32 0#32
  let v9 : IVec S112 32 := broadcastInDim S112 ![] bcast_S_S112 c
  let v10 : IVec S112 1 := cmpi .ne v8 v9
  let v11 : IVec S112 1 := andi v6 v10
  let c_0 : IVec S_ 32 := constantI S_ 32 1#32
  let v12 : IVec S112 32 := broadcastInDim S112 ![] bcast_S_S112 c_0
  let v13 : IVec S112 32 := subi v2 v12
  let v14 : IVec S112 32 := fn_where (F := F) v11 v13 v2
  v14

def fn_cumsum_0 {F : FTy → Type} [FloatOps F] (arg0 : IVec S112 32) : IVec S112 32 :=
  let c : IVec S_ 32 := constantI S_ 32 0#32
  let v0 : IVec S_ 32 := broadcastInDim S_ ![] bcast_S_S_ c
  let v1 : IVec S112 32 := (fun x v => Host.reduceWindow IntOp.addi ![112] ![1] ![111] ![0] x v reduceWindows_S112_S112_w112s1p111_0 h_S_) arg0 v0
  v1

def fn_cumsum {F : FTy → Type} [FloatOps F] (arg0 : IVec S112 32) : IVec S112 32 :=
  let v0 : IVec S112 32 := fn_cumsum_0 (F := F) arg0
  v0

def fn {F : FTy → Type} [FloatOps F] (main_arg0 : FVec F S1x128 .f32) (main_arg1 : FVec F S62976x2176 .f32) (main_arg2 : FVec F S1x32x2048x256 .f32) (main_arg3 : FVec F S1x32x2048x256 .f32) (main_arg4 : FVec F S1x32x256x2048 .f32) (main_arg5 : FVec F S1x2048 .f32) (main_arg6 : FVec F S2048 .f32) : IVec S_ 1 :=
  let main_v0 : FVec F S1x112 .f32 := (extractStridedSlice S1x112 ![0, 0] · slices_S1x128_S1x112_0_0) main_arg0
  let main_v1 : FVec F S112 .f32 := shapeCast S112 main_v0 shapeCasts_S1x112_S112
  let main_v2 : IVec S112 32 := fptosi 32 main_v1
  let main_c : IVec S_ 32 := constantI S_ 32 256#32
  let main_v3 : IVec S112 32 := broadcastInDim S112 ![] bcast_S_S112 main_c
  let main_v4 : IVec S112 32 := addi main_v2 main_v3
  let main_c_0 : IVec S_ 32 := constantI S_ 32 1#32
  let main_v5 : IVec S112 32 := broadcastInDim S112 ![] bcast_S_S112 main_c_0
  let main_v6 : IVec S112 32 := subi main_v4 main_v5
  let main_c_1 : IVec S_ 32 := constantI S_ 32 256#32
  let main_v7 : IVec S112 32 := fn_floor_divide (F := F) main_v6 main_c_1
  let main_c_2 : IVec S_ 32 := constantI S_ 32 256#32
  let main_v8 : IVec S112 32 := broadcastInDim S112 ![] bcast_S_S112 main_c_2
  let main_v9 : IVec S112 32 := muli main_v7 main_v8
  let main_v10 : IVec S112 32 := fn_cumsum (F := F) main_v9
  let main_v11 : IVec S1 32 := (extractStridedSlice S1 ![111] · slices_S112_S1_111) main_v10
  let main_v12 : IVec S_ 32 := shapeCast S_ main_v11 shapeCasts_S1_S_
  let main_c_3 : IVec S_ 32 := constantI S_ 32 1#32
  let main_v13 : IVec S_ 1 := cmpi .sge main_v12 main_c_3
  main_v13
-- ==== Kernel.lean ====
abbrev S1x128 : Shape := ⟨2, ![1, 128]⟩
abbrev S1024x128 : Shape := ⟨2, ![1024, 128]⟩
abbrev S1024x2176 : Shape := ⟨2, ![1024, 2176]⟩
abbrev S62976x2176 : Shape := ⟨2, ![62976, 2176]⟩
abbrev S1x112 : Shape := ⟨2, ![1, 112]⟩
abbrev S112 : Shape := ⟨1, ![112]⟩
abbrev S_ : Shape := ⟨0, ![]⟩
abbrev S1024x1 : Shape := ⟨2, ![1024, 1]⟩
abbrev S1024 : Shape := ⟨1, ![1024]⟩
abbrev S1024x112 : Shape := ⟨2, ![1024, 112]⟩
abbrev S1x1024 : Shape := ⟨2, ![1, 1024]⟩
abbrev S8x128 : Shape := ⟨2, ![8, 128]⟩
abbrev S1x1 : Shape := ⟨2, ![1, 1]⟩
abbrev S1x2176 : Shape := ⟨2, ![1, 2176]⟩

abbrev nBuf : Space → Nat
  | .hbm => 63
  | .vmem => 1
  | .smem => 2
  | _ => 0

abbrev bufTy : (tb : Table) → Fin (tcTables nBuf tb) → BufTy
  | .hbm, ⟨0, _⟩ => ⟨S1x128, .f32⟩
  | .hbm, ⟨1, _⟩ => ⟨S1024x128, .f32⟩
  | .hbm, ⟨2, _⟩ => ⟨S1024x2176, .f32⟩
  | .hbm, ⟨3, _⟩ => ⟨S62976x2176, .f32⟩
  | .hbm, ⟨4, _⟩ => ⟨S1x112, .f32⟩
  | .hbm, ⟨5, _⟩ => ⟨S112, .f32⟩
  | .hbm, ⟨6, _⟩ => ⟨S112, .i32⟩
  | .hbm, ⟨7, _⟩ => ⟨S_, .i32⟩
  | .hbm, ⟨8, _⟩ => ⟨S112, .i32⟩
  | .hbm, ⟨9, _⟩ => ⟨S112, .i32⟩
  | .hbm, ⟨10, _⟩ => ⟨S_, .i32⟩
  | .hbm, ⟨11, _⟩ => ⟨S112, .i32⟩
  | .hbm, ⟨12, _⟩ => ⟨S112, .i32⟩
  | .hbm, ⟨13, _⟩ => ⟨S_, .i32⟩
  | .hbm, ⟨14, _⟩ => ⟨S_, .i32⟩
  | .hbm, ⟨15, _⟩ => ⟨S112, .i32⟩
  | .hbm, ⟨16, _⟩ => ⟨S112, .i32⟩
  | .hbm, ⟨17, _⟩ => ⟨S112, .i32⟩
  | .hbm, ⟨18, _⟩ => ⟨S_, .i32⟩
  | .hbm, ⟨19, _⟩ => ⟨S112, .i32⟩
  | .hbm, ⟨20, _⟩ => ⟨S112, .i1⟩
  | .hbm, ⟨21, _⟩ => ⟨S112, .i32⟩
  | .hbm, ⟨22, _⟩ => ⟨S112, .i32⟩
  | .hbm, ⟨23, _⟩ => ⟨S_, .i32⟩
  | .hbm, ⟨24, _⟩ => ⟨S112, .i32⟩
  | .hbm, ⟨25, _⟩ => ⟨S112, .i1⟩
  | .hbm, ⟨26, _⟩ => ⟨S112, .i1⟩
  | .hbm, ⟨27, _⟩ => ⟨S_, .i32⟩
  | .hbm, ⟨28, _⟩ => ⟨S112, .i32⟩
  | .hbm, ⟨29, _⟩ => ⟨S112, .i32⟩
  | .hbm, ⟨30, _⟩ => ⟨S112, .i32⟩
  | .hbm, ⟨31, _⟩ => ⟨S_, .i32⟩
  | .hbm, ⟨32, _⟩ => ⟨S112, .i32⟩
  | .hbm, ⟨33, _⟩ => ⟨S112, .i32⟩
  | .hbm, ⟨34, _⟩ => ⟨S_, .i32⟩
  | .hbm, ⟨35, _⟩ => ⟨S_, .i32⟩
  | .hbm, ⟨36, _⟩ => ⟨S112, .i32⟩
  | .hbm, ⟨37, _⟩ => ⟨S112, .i32⟩
  | .hbm, ⟨38, _⟩ => ⟨S1024x1, .f32⟩
  | .hbm, ⟨39, _⟩ => ⟨S1024, .f32⟩
  | .hbm, ⟨40, _⟩ => ⟨S1024, .i32⟩
  | .hbm, ⟨41, _⟩ => ⟨S1024x1, .i32⟩
  | .hbm, ⟨42, _⟩ => ⟨S1x112, .i32⟩
  | .hbm, ⟨43, _⟩ => ⟨S1024x112, .i32⟩
  | .hbm, ⟨44, _⟩ => ⟨S1024x112, .i32⟩
  | .hbm, ⟨45, _⟩ => ⟨S1024x112, .i1⟩
  | .hbm, ⟨46, _⟩ => ⟨S_, .i32⟩
  | .hbm, ⟨47, _⟩ => ⟨S_, .i32⟩
  | .hbm, ⟨48, _⟩ => ⟨S1024x112, .i32⟩
  | .hbm, ⟨49, _⟩ => ⟨S1024x112, .i32⟩
  | .hbm, ⟨50, _⟩ => ⟨S1024x112, .i32⟩
  | .hbm, ⟨51, _⟩ => ⟨S_, .i32⟩
  | .hbm, ⟨52, _⟩ => ⟨S1024, .i32⟩
  | .hbm, ⟨53, _⟩ => ⟨S1024x1, .f32⟩
  | .hbm, ⟨54, _⟩ => ⟨S1024, .f32⟩
  | .hbm, ⟨55, _⟩ => ⟨S1024, .i32⟩
  | .hbm, ⟨56, _⟩ => ⟨S1024, .i32⟩
  | .hbm, ⟨57, _⟩ => ⟨S1x1024, .i32⟩
  | .hbm, ⟨58, _⟩ => ⟨S_, .i32⟩
  | .hbm, ⟨59, _⟩ => ⟨S_, .i32⟩
  | .hbm, ⟨60, _⟩ => ⟨S1x1024, .i32⟩
  | .hbm, ⟨61, _⟩ => ⟨S8x128, .i32⟩
  | .hbm, ⟨62, _⟩ => ⟨S62976x2176, .f32⟩
  | .local _ .vmem, ⟨0, _⟩ => ⟨S1024x2176, .f32⟩
  | .local _ .smem, ⟨0, _⟩ => ⟨S112, .i32⟩
  | .local _ .smem, ⟨1, _⟩ => ⟨S8x128, .i32⟩
  | _, _ => ⟨S1x128, .f32⟩

abbrev bufScoped : (cs : CoreSpace) → Fin (nBuf (.core cs)) → Bool
  | .vmem, ⟨0, _⟩ => true
  | .smem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_c_2 : Ref sig .tc := ⟨.hbm, 31, rfl⟩
abbrev main_v8 : Ref sig .tc := ⟨.hbm, 32, rfl⟩
abbrev main_v9 : Ref sig .tc := ⟨.hbm, 33, rfl⟩
abbrev main_call1_call0_c : Ref sig .tc := ⟨.hbm, 34, rfl⟩
abbrev main_call1_call0_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v21 : Ref sig .tc := ⟨.hbm, 50, rfl⟩
abbrev main_c_4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_5 : Ref sig .tc := ⟨.hbm, 58, rfl⟩
abbrev main_call3_v0 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v10 : Ref sig .tc := ⟨.smem, 0, rfl⟩
abbrev cc0_stg0_0 : Ref sig .tc := ⟨.vmem, 0, rfl⟩
abbrev cc0_scratch0 : Ref sig .tc := ⟨.smem, 1, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg0 : BitVec 32 := BitVec.ofNat 32 (i 0).val
  let c8_i32 : BitVec 32 := 8#32
  let v0 : BitVec 32 := Scalar.muli arg0 c8_i32
  v0
def k0_off1 (i : grid0.Coords) : Fin 2 → Nat :=
  let arg0 : BitVec 32 := BitVec.ofNat 32 (i 0).val
  let c8_i32 : BitVec 32 := 8#32
  let v0 : BitVec 32 := Scalar.muli arg0 c8_i32
  let v1 : BitVec 32 := v0
  let c0_i32 : BitVec 32 := 0#32
  ![v1.toNat, 0]
@[reducible] def k0_t1_loop : Scf.Loop 32 :=
  let c0_i32_1 : BitVec 32 := 0#32
  let c8_i32_2 : BitVec 32 := 8#32
  let v4 : BitVec 32 := Scalar.addi c0_i32_1 c8_i32_2
  let c1_i32 : BitVec 32 := 1#32
  ⟨c0_i32_1, v4, c1_i32⟩
def k0_mult2 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  v6
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v9 : Index := Scalar.indexCast arg9
  let c0 : Index := 0#32
  ![v9.toNat, 0]
def k0_off3 (v10 : BitVec 32) : Fin 2 → Nat :=
  let c0_i32_7 : BitVec 32 := 0#32
  ![v10.toNat, 0]

def k0_chk1 (v10 : BitVec 32) : Prop :=
  (∀ a, (k0_off3 v10) a + S1x2176.size a ≤ S62976x2176.size a)
theorem k0_off3_inb : ∀ (v10 : BitVec 32) (k0_hw1 : k0_chk1 v10), ∀ a, (k0_off3 v10) a + S1x2176.size a ≤ S62976x2176.size a := fun v10 k0_hw1 => k0_hw1

def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c0_i32_6 : BitVec 32 := 0#32
  let v8 : BitVec 32 := Scalar.addi v7 c0_i32_6
  let c0_i32_8 : BitVec 32 := 0#32
  ![v8.toNat, 0]
def k0_off5 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v14 : Index := Scalar.indexCast arg9
  let c1 : Index := 1#32
  ![v14.toNat, 1]
def k0_off6 (v15 : BitVec 32) : Fin 2 → Nat :=
  let c0_i32_10 : BitVec 32 := 0#32
  ![v15.toNat, 0]

def k0_chk2 (v15 : BitVec 32) : Prop :=
  (∀ a, (k0_off6 v15) a + S1x2176.size a ≤ S62976x2176.size a)
theorem k0_off6_inb : ∀ (v15 : BitVec 32) (k0_hw2 : k0_chk2 v15), ∀ a, (k0_off6 v15) a + S1x2176.size a ≤ S62976x2176.size a := fun v15 k0_hw2 => k0_hw2

def k0_off7 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c1_i32_9 : BitVec 32 := 1#32
  let v13 : BitVec 32 := Scalar.addi v7 c1_i32_9
  let c0_i32_11 : BitVec 32 := 0#32
  ![v13.toNat, 0]
def k0_off8 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v19 : Index := Scalar.indexCast arg9
  let c2 : Index := 2#32
  ![v19.toNat, 2]
def k0_off9 (v20 : BitVec 32) : Fin 2 → Nat :=
  let c0_i32_12 : BitVec 32 := 0#32
  ![v20.toNat, 0]

def k0_chk3 (v20 : BitVec 32) : Prop :=
  (∀ a, (k0_off9 v20) a + S1x2176.size a ≤ S62976x2176.size a)
theorem k0_off9_inb : ∀ (v20 : BitVec 32) (k0_hw3 : k0_chk3 v20), ∀ a, (k0_off9 v20) a + S1x2176.size a ≤ S62976x2176.size a := fun v20 k0_hw3 => k0_hw3

def k0_off10 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c2_i32 : BitVec 32 := 2#32
  let v18 : BitVec 32 := Scalar.addi v7 c2_i32
  let c0_i32_13 : BitVec 32 := 0#32
  ![v18.toNat, 0]
def k0_off11 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v24 : Index := Scalar.indexCast arg9
  let c3 : Index := 3#32
  ![v24.toNat, 3]
def k0_off12 (v25 : BitVec 32) : Fin 2 → Nat :=
  let c0_i32_14 : BitVec 32 := 0#32
  ![v25.toNat, 0]

def k0_chk4 (v25 : BitVec 32) : Prop :=
  (∀ a, (k0_off12 v25) a + S1x2176.size a ≤ S62976x2176.size a)
theorem k0_off12_inb : ∀ (v25 : BitVec 32) (k0_hw4 : k0_chk4 v25), ∀ a, (k0_off12 v25) a + S1x2176.size a ≤ S62976x2176.size a := fun v25 k0_hw4 => k0_hw4

def k0_off13 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c3_i32 : BitVec 32 := 3#32
  let v23 : BitVec 32 := Scalar.addi v7 c3_i32
  let c0_i32_15 : BitVec 32 := 0#32
  ![v23.toNat, 0]
def k0_off14 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v29 : Index := Scalar.indexCast arg9
  let c4 : Index := 4#32
  ![v29.toNat, 4]
def k0_off15 (v30 : BitVec 32) : Fin 2 → Nat :=
  let c0_i32_16 : BitVec 32 := 0#32
  ![v30.toNat, 0]

def k0_chk5 (v30 : BitVec 32) : Prop :=
  (∀ a, (k0_off15 v30) a + S1x2176.size a ≤ S62976x2176.size a)
theorem k0_off15_inb : ∀ (v30 : BitVec 32) (k0_hw5 : k0_chk5 v30), ∀ a, (k0_off15 v30) a + S1x2176.size a ≤ S62976x2176.size a := fun v30 k0_hw5 => k0_hw5

def k0_off16 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c4_i32 : BitVec 32 := 4#32
  let v28 : BitVec 32 := Scalar.addi v7 c4_i32
  let c0_i32_17 : BitVec 32 := 0#32
  ![v28.toNat, 0]
def k0_off17 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v34 : Index := Scalar.indexCast arg9
  let c5 : Index := 5#32
  ![v34.toNat, 5]
def k0_off18 (v35 : BitVec 32) : Fin 2 → Nat :=
  let c0_i32_18 : BitVec 32 := 0#32
  ![v35.toNat, 0]

def k0_chk6 (v35 : BitVec 32) : Prop :=
  (∀ a, (k0_off18 v35) a + S1x2176.size a ≤ S62976x2176.size a)
theorem k0_off18_inb : ∀ (v35 : BitVec 32) (k0_hw6 : k0_chk6 v35), ∀ a, (k0_off18 v35) a + S1x2176.size a ≤ S62976x2176.size a := fun v35 k0_hw6 => k0_hw6

def k0_off19 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c5_i32 : BitVec 32 := 5#32
  let v33 : BitVec 32 := Scalar.addi v7 c5_i32
  let c0_i32_19 : BitVec 32 := 0#32
  ![v33.toNat, 0]
def k0_off20 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v39 : Index := Scalar.indexCast arg9
  let c6 : Index := 6#32
  ![v39.toNat, 6]
def k0_off21 (v40 : BitVec 32) : Fin 2 → Nat :=
  let c0_i32_20 : BitVec 32 := 0#32
  ![v40.toNat, 0]

def k0_chk7 (v40 : BitVec 32) : Prop :=
  (∀ a, (k0_off21 v40) a + S1x2176.size a ≤ S62976x2176.size a)
theorem k0_off21_inb : ∀ (v40 : BitVec 32) (k0_hw7 : k0_chk7 v40), ∀ a, (k0_off21 v40) a + S1x2176.size a ≤ S62976x2176.size a := fun v40 k0_hw7 => k0_hw7

def k0_off22 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c6_i32 : BitVec 32 := 6#32
  let v38 : BitVec 32 := Scalar.addi v7 c6_i32
  let c0_i32_21 : BitVec 32 := 0#32
  ![v38.toNat, 0]
def k0_off23 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v44 : Index := Scalar.indexCast arg9
  let c7 : Index := 7#32
  ![v44.toNat, 7]
def k0_off24 (v45 : BitVec 32) : Fin 2 → Nat :=
  let c0_i32_22 : BitVec 32 := 0#32
  ![v45.toNat, 0]

def k0_chk8 (v45 : BitVec 32) : Prop :=
  (∀ a, (k0_off24 v45) a + S1x2176.size a ≤ S62976x2176.size a)
theorem k0_off24_inb : ∀ (v45 : BitVec 32) (k0_hw8 : k0_chk8 v45), ∀ a, (k0_off24 v45) a + S1x2176.size a ≤ S62976x2176.size a := fun v45 k0_hw8 => k0_hw8

def k0_off25 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c7_i32 : BitVec 32 := 7#32
  let v43 : BitVec 32 := Scalar.addi v7 c7_i32
  let c0_i32_23 : BitVec 32 := 0#32
  ![v43.toNat, 0]
def k0_off26 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v49 : Index := Scalar.indexCast arg9
  let c8 : Index := 8#32
  ![v49.toNat, 8]
def k0_off27 (v50 : BitVec 32) : Fin 2 → Nat :=
  let c0_i32_25 : BitVec 32 := 0#32
  ![v50.toNat, 0]

def k0_chk9 (v50 : BitVec 32) : Prop :=
  (∀ a, (k0_off27 v50) a + S1x2176.size a ≤ S62976x2176.size a)
theorem k0_off27_inb : ∀ (v50 : BitVec 32) (k0_hw9 : k0_chk9 v50), ∀ a, (k0_off27 v50) a + S1x2176.size a ≤ S62976x2176.size a := fun v50 k0_hw9 => k0_hw9

def k0_off28 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c8_i32_24 : BitVec 32 := 8#32
  let v48 : BitVec 32 := Scalar.addi v7 c8_i32_24
  let c0_i32_26 : BitVec 32 := 0#32
  ![v48.toNat, 0]
def k0_off29 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v54 : Index := Scalar.indexCast arg9
  let c9 : Index := 9#32
  ![v54.toNat, 9]
def k0_off30 (v55 : BitVec 32) : Fin 2 → Nat :=
  let c0_i32_27 : BitVec 32 := 0#32
  ![v55.toNat, 0]

def k0_chk10 (v55 : BitVec 32) : Prop :=
  (∀ a, (k0_off30 v55) a + S1x2176.size a ≤ S62976x2176.size a)
theorem k0_off30_inb : ∀ (v55 : BitVec 32) (k0_hw10 : k0_chk10 v55), ∀ a, (k0_off30 v55) a + S1x2176.size a ≤ S62976x2176.size a := fun v55 k0_hw10 => k0_hw10

def k0_off31 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c9_i32 : BitVec 32 := 9#32
  let v53 : BitVec 32 := Scalar.addi v7 c9_i32
  let c0_i32_28 : BitVec 32 := 0#32
  ![v53.toNat, 0]
def k0_off32 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v59 : Index := Scalar.indexCast arg9
  let c10 : Index := 10#32
  ![v59.toNat, 10]
def k0_off33 (v60 : BitVec 32) : Fin 2 → Nat :=
  let c0_i32_29 : BitVec 32 := 0#32
  ![v60.toNat, 0]

def k0_chk11 (v60 : BitVec 32) : Prop :=
  (∀ a, (k0_off33 v60) a + S1x2176.size a ≤ S62976x2176.size a)
theorem k0_off33_inb : ∀ (v60 : BitVec 32) (k0_hw11 : k0_chk11 v60), ∀ a, (k0_off33 v60) a + S1x2176.size a ≤ S62976x2176.size a := fun v60 k0_hw11 => k0_hw11

def k0_off34 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c10_i32 : BitVec 32 := 10#32
  let v58 : BitVec 32 := Scalar.addi v7 c10_i32
  let c0_i32_30 : BitVec 32 := 0#32
  ![v58.toNat, 0]
def k0_off35 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v64 : Index := Scalar.indexCast arg9
  let c11 : Index := 11#32
  ![v64.toNat, 11]
def k0_off36 (v65 : BitVec 32) : Fin 2 → Nat :=
  let c0_i32_31 : BitVec 32 := 0#32
  ![v65.toNat, 0]

def k0_chk12 (v65 : BitVec 32) : Prop :=
  (∀ a, (k0_off36 v65) a + S1x2176.size a ≤ S62976x2176.size a)
theorem k0_off36_inb : ∀ (v65 : BitVec 32) (k0_hw12 : k0_chk12 v65), ∀ a, (k0_off36 v65) a + S1x2176.size a ≤ S62976x2176.size a := fun v65 k0_hw12 => k0_hw12

def k0_off37 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c11_i32 : BitVec 32 := 11#32
  let v63 : BitVec 32 := Scalar.addi v7 c11_i32
  let c0_i32_32 : BitVec 32 := 0#32
  ![v63.toNat, 0]
def k0_off38 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v69 : Index := Scalar.indexCast arg9
  let c12 : Index := 12#32
  ![v69.toNat, 12]
def k0_off39 (v70 : BitVec 32) : Fin 2 → Nat :=
  let c0_i32_33 : BitVec 32 := 0#32
  ![v70.toNat, 0]

def k0_chk13 (v70 : BitVec 32) : Prop :=
  (∀ a, (k0_off39 v70) a + S1x2176.size a ≤ S62976x2176.size a)
theorem k0_off39_inb : ∀ (v70 : BitVec 32) (k0_hw13 : k0_chk13 v70), ∀ a, (k0_off39 v70) a + S1x2176.size a ≤ S62976x2176.size a := fun v70 k0_hw13 => k0_hw13

def k0_off40 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c12_i32 : BitVec 32 := 12#32
  let v68 : BitVec 32 := Scalar.addi v7 c12_i32
  let c0_i32_34 : BitVec 32 := 0#32
  ![v68.toNat, 0]
def k0_off41 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v74 : Index := Scalar.indexCast arg9
  let c13 : Index := 13#32
  ![v74.toNat, 13]
def k0_off42 (v75 : BitVec 32) : Fin 2 → Nat :=
  let c0_i32_35 : BitVec 32 := 0#32
  ![v75.toNat, 0]

def k0_chk14 (v75 : BitVec 32) : Prop :=
  (∀ a, (k0_off42 v75) a + S1x2176.size a ≤ S62976x2176.size a)
theorem k0_off42_inb : ∀ (v75 : BitVec 32) (k0_hw14 : k0_chk14 v75), ∀ a, (k0_off42 v75) a + S1x2176.size a ≤ S62976x2176.size a := fun v75 k0_hw14 => k0_hw14

def k0_off43 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c13_i32 : BitVec 32 := 13#32
  let v73 : BitVec 32 := Scalar.addi v7 c13_i32
  let c0_i32_36 : BitVec 32 := 0#32
  ![v73.toNat, 0]
def k0_off44 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v79 : Index := Scalar.indexCast arg9
  let c14 : Index := 14#32
  ![v79.toNat, 14]
def k0_off45 (v80 : BitVec 32) : Fin 2 → Nat :=
  let c0_i32_37 : BitVec 32 := 0#32
  ![v80.toNat, 0]

def k0_chk15 (v80 : BitVec 32) : Prop :=
  (∀ a, (k0_off45 v80) a + S1x2176.size a ≤ S62976x2176.size a)
theorem k0_off45_inb : ∀ (v80 : BitVec 32) (k0_hw15 : k0_chk15 v80), ∀ a, (k0_off45 v80) a + S1x2176.size a ≤ S62976x2176.size a := fun v80 k0_hw15 => k0_hw15

def k0_off46 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c14_i32 : BitVec 32 := 14#32
  let v78 : BitVec 32 := Scalar.addi v7 c14_i32
  let c0_i32_38 : BitVec 32 := 0#32
  ![v78.toNat, 0]
def k0_off47 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v84 : Index := Scalar.indexCast arg9
  let c15 : Index := 15#32
  ![v84.toNat, 15]
def k0_off48 (v85 : BitVec 32) : Fin 2 → Nat :=
  let c0_i32_39 : BitVec 32 := 0#32
  ![v85.toNat, 0]

def k0_chk16 (v85 : BitVec 32) : Prop :=
  (∀ a, (k0_off48 v85) a + S1x2176.size a ≤ S62976x2176.size a)
theorem k0_off48_inb : ∀ (v85 : BitVec 32) (k0_hw16 : k0_chk16 v85), ∀ a, (k0_off48 v85) a + S1x2176.size a ≤ S62976x2176.size a := fun v85 k0_hw16 => k0_hw16

def k0_off49 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c15_i32 : BitVec 32 := 15#32
  let v83 : BitVec 32 := Scalar.addi v7 c15_i32
  let c0_i32_40 : BitVec 32 := 0#32
  ![v83.toNat, 0]
def k0_off50 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v89 : Index := Scalar.indexCast arg9
  let c16 : Index := 16#32
  ![v89.toNat, 16]
def k0_off51 (v90 : BitVec 32) : Fin 2 → Nat :=
  let c0_i32_41 : BitVec 32 := 0#32
  ![v90.toNat, 0]

def k0_chk17 (v90 : BitVec 32) : Prop :=
  (∀ a, (k0_off51 v90) a + S1x2176.size a ≤ S62976x2176.size a)
theorem k0_off51_inb : ∀ (v90 : BitVec 32) (k0_hw17 : k0_chk17 v90), ∀ a, (k0_off51 v90) a + S1x2176.size a ≤ S62976x2176.size a := fun v90 k0_hw17 => k0_hw17

def k0_off52 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c16_i32 : BitVec 32 := 16#32
  let v88 : BitVec 32 := Scalar.addi v7 c16_i32
  let c0_i32_42 : BitVec 32 := 0#32
  ![v88.toNat, 0]
def k0_off53 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v94 : Index := Scalar.indexCast arg9
  let c17 : Index := 17#32
  ![v94.toNat, 17]
def k0_off54 (v95 : BitVec 32) : Fin 2 → Nat :=
  let c0_i32_43 : BitVec 32 := 0#32
  ![v95.toNat, 0]

def k0_chk18 (v95 : BitVec 32) : Prop :=
  (∀ a, (k0_off54 v95) a + S1x2176.size a ≤ S62976x2176.size a)
theorem k0_off54_inb : ∀ (v95 : BitVec 32) (k0_hw18 : k0_chk18 v95), ∀ a, (k0_off54 v95) a + S1x2176.size a ≤ S62976x2176.size a := fun v95 k0_hw18 => k0_hw18

def k0_off55 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c17_i32 : BitVec 32 := 17#32
  let v93 : BitVec 32 := Scalar.addi v7 c17_i32
  let c0_i32_44 : BitVec 32 := 0#32
  ![v93.toNat, 0]
def k0_off56 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v99 : Index := Scalar.indexCast arg9
  let c18 : Index := 18#32
  ![v99.toNat, 18]
def k0_off57 (v100 : BitVec 32) : Fin 2 → Nat :=
  let c0_i32_45 : BitVec 32 := 0#32
  ![v100.toNat, 0]

def k0_chk19 (v100 : BitVec 32) : Prop :=
  (∀ a, (k0_off57 v100) a + S1x2176.size a ≤ S62976x2176.size a)
theorem k0_off57_inb : ∀ (v100 : BitVec 32) (k0_hw19 : k0_chk19 v100), ∀ a, (k0_off57 v100) a + S1x2176.size a ≤ S62976x2176.size a := fun v100 k0_hw19 => k0_hw19

def k0_off58 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c18_i32 : BitVec 32 := 18#32
  let v98 : BitVec 32 := Scalar.addi v7 c18_i32
  let c0_i32_46 : BitVec 32 := 0#32
  ![v98.toNat, 0]
def k0_off59 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v104 : Index := Scalar.indexCast arg9
  let c19 : Index := 19#32
  ![v104.toNat, 19]
def k0_off60 (v105 : BitVec 32) : Fin 2 → Nat :=
  let c0_i32_47 : BitVec 32 := 0#32
  ![v105.toNat, 0]

def k0_chk20 (v105 : BitVec 32) : Prop :=
  (∀ a, (k0_off60 v105) a + S1x2176.size a ≤ S62976x2176.size a)
theorem k0_off60_inb : ∀ (v105 : BitVec 32) (k0_hw20 : k0_chk20 v105), ∀ a, (k0_off60 v105) a + S1x2176.size a ≤ S62976x2176.size a := fun v105 k0_hw20 => k0_hw20

def k0_off61 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c19_i32 : BitVec 32 := 19#32
  let v103 : BitVec 32 := Scalar.addi v7 c19_i32
  let c0_i32_48 : BitVec 32 := 0#32
  ![v103.toNat, 0]
def k0_off62 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v109 : Index := Scalar.indexCast arg9
  let c20 : Index := 20#32
  ![v109.toNat, 20]
def k0_off63 (v110 : BitVec 32) : Fin 2 → Nat :=
  let c0_i32_49 : BitVec 32 := 0#32
  ![v110.toNat, 0]

def k0_chk21 (v110 : BitVec 32) : Prop :=
  (∀ a, (k0_off63 v110) a + S1x2176.size a ≤ S62976x2176.size a)
theorem k0_off63_inb : ∀ (v110 : BitVec 32) (k0_hw21 : k0_chk21 v110), ∀ a, (k0_off63 v110) a + S1x2176.size a ≤ S62976x2176.size a := fun v110 k0_hw21 => k0_hw21

def k0_off64 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c20_i32 : BitVec 32 := 20#32
  let v108 : BitVec 32 := Scalar.addi v7 c20_i32
  let c0_i32_50 : BitVec 32 := 0#32
  ![v108.toNat, 0]
def k0_off65 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v114 : Index := Scalar.indexCast arg9
  let c21 : Index := 21#32
  ![v114.toNat, 21]
def k0_off66 (v115 : BitVec 32) : Fin 2 → Nat :=
  let c0_i32_51 : BitVec 32 := 0#32
  ![v115.toNat, 0]

def k0_chk22 (v115 : BitVec 32) : Prop :=
  (∀ a, (k0_off66 v115) a + S1x2176.size a ≤ S62976x2176.size a)
theorem k0_off66_inb : ∀ (v115 : BitVec 32) (k0_hw22 : k0_chk22 v115), ∀ a, (k0_off66 v115) a + S1x2176.size a ≤ S62976x2176.size a := fun v115 k0_hw22 => k0_hw22

def k0_off67 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c21_i32 : BitVec 32 := 21#32
  let v113 : BitVec 32 := Scalar.addi v7 c21_i32
  let c0_i32_52 : BitVec 32 := 0#32
  ![v113.toNat, 0]
def k0_off68 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v119 : Index := Scalar.indexCast arg9
  let c22 : Index := 22#32
  ![v119.toNat, 22]
def k0_off69 (v120 : BitVec 32) : Fin 2 → Nat :=
  let c0_i32_53 : BitVec 32 := 0#32
  ![v120.toNat, 0]

def k0_chk23 (v120 : BitVec 32) : Prop :=
  (∀ a, (k0_off69 v120) a + S1x2176.size a ≤ S62976x2176.size a)
theorem k0_off69_inb : ∀ (v120 : BitVec 32) (k0_hw23 : k0_chk23 v120), ∀ a, (k0_off69 v120) a + S1x2176.size a ≤ S62976x2176.size a := fun v120 k0_hw23 => k0_hw23

def k0_off70 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c22_i32 : BitVec 32 := 22#32
  let v118 : BitVec 32 := Scalar.addi v7 c22_i32
  let c0_i32_54 : BitVec 32 := 0#32
  ![v118.toNat, 0]
def k0_off71 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v124 : Index := Scalar.indexCast arg9
  let c23 : Index := 23#32
  ![v124.toNat, 23]
def k0_off72 (v125 : BitVec 32) : Fin 2 → Nat :=
  let c0_i32_55 : BitVec 32 := 0#32
  ![v125.toNat, 0]

def k0_chk24 (v125 : BitVec 32) : Prop :=
  (∀ a, (k0_off72 v125) a + S1x2176.size a ≤ S62976x2176.size a)
theorem k0_off72_inb : ∀ (v125 : BitVec 32) (k0_hw24 : k0_chk24 v125), ∀ a, (k0_off72 v125) a + S1x2176.size a ≤ S62976x2176.size a := fun v125 k0_hw24 => k0_hw24

def k0_off73 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c23_i32 : BitVec 32 := 23#32
  let v123 : BitVec 32 := Scalar.addi v7 c23_i32
  let c0_i32_56 : BitVec 32 := 0#32
  ![v123.toNat, 0]
def k0_off74 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v129 : Index := Scalar.indexCast arg9
  let c24 : Index := 24#32
  ![v129.toNat, 24]
def k0_off75 (v130 : BitVec 32) : Fin 2 → Nat :=
  let c0_i32_57 : BitVec 32 := 0#32
  ![v130.toNat, 0]

def k0_chk25 (v130 : BitVec 32) : Prop :=
  (∀ a, (k0_off75 v130) a + S1x2176.size a ≤ S62976x2176.size a)
theorem k0_off75_inb : ∀ (v130 : BitVec 32) (k0_hw25 : k0_chk25 v130), ∀ a, (k0_off75 v130) a + S1x2176.size a ≤ S62976x2176.size a := fun v130 k0_hw25 => k0_hw25

def k0_off76 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c24_i32 : BitVec 32 := 24#32
  let v128 : BitVec 32 := Scalar.addi v7 c24_i32
  let c0_i32_58 : BitVec 32 := 0#32
  ![v128.toNat, 0]
def k0_off77 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v134 : Index := Scalar.indexCast arg9
  let c25 : Index := 25#32
  ![v134.toNat, 25]
def k0_off78 (v135 : BitVec 32) : Fin 2 → Nat :=
  let c0_i32_59 : BitVec 32 := 0#32
  ![v135.toNat, 0]

def k0_chk26 (v135 : BitVec 32) : Prop :=
  (∀ a, (k0_off78 v135) a + S1x2176.size a ≤ S62976x2176.size a)
theorem k0_off78_inb : ∀ (v135 : BitVec 32) (k0_hw26 : k0_chk26 v135), ∀ a, (k0_off78 v135) a + S1x2176.size a ≤ S62976x2176.size a := fun v135 k0_hw26 => k0_hw26

def k0_off79 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c25_i32 : BitVec 32 := 25#32
  let v133 : BitVec 32 := Scalar.addi v7 c25_i32
  let c0_i32_60 : BitVec 32 := 0#32
  ![v133.toNat, 0]
def k0_off80 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v139 : Index := Scalar.indexCast arg9
  let c26 : Index := 26#32
  ![v139.toNat, 26]
def k0_off81 (v140 : BitVec 32) : Fin 2 → Nat :=
  let c0_i32_61 : BitVec 32 := 0#32
  ![v140.toNat, 0]

def k0_chk27 (v140 : BitVec 32) : Prop :=
  (∀ a, (k0_off81 v140) a + S1x2176.size a ≤ S62976x2176.size a)
theorem k0_off81_inb : ∀ (v140 : BitVec 32) (k0_hw27 : k0_chk27 v140), ∀ a, (k0_off81 v140) a + S1x2176.size a ≤ S62976x2176.size a := fun v140 k0_hw27 => k0_hw27

def k0_off82 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c26_i32 : BitVec 32 := 26#32
  let v138 : BitVec 32 := Scalar.addi v7 c26_i32
  let c0_i32_62 : BitVec 32 := 0#32
  ![v138.toNat, 0]
def k0_off83 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v144 : Index := Scalar.indexCast arg9
  let c27 : Index := 27#32
  ![v144.toNat, 27]
def k0_off84 (v145 : BitVec 32) : Fin 2 → Nat :=
  let c0_i32_63 : BitVec 32 := 0#32
  ![v145.toNat, 0]

def k0_chk28 (v145 : BitVec 32) : Prop :=
  (∀ a, (k0_off84 v145) a + S1x2176.size a ≤ S62976x2176.size a)
theorem k0_off84_inb : ∀ (v145 : BitVec 32) (k0_hw28 : k0_chk28 v145), ∀ a, (k0_off84 v145) a + S1x2176.size a ≤ S62976x2176.size a := fun v145 k0_hw28 => k0_hw28

def k0_off85 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c27_i32 : BitVec 32 := 27#32
  let v143 : BitVec 32 := Scalar.addi v7 c27_i32
  let c0_i32_64 : BitVec 32 := 0#32
  ![v143.toNat, 0]
def k0_off86 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v149 : Index := Scalar.indexCast arg9
  let c28 : Index := 28#32
  ![v149.toNat, 28]
def k0_off87 (v150 : BitVec 32) : Fin 2 → Nat :=
  let c0_i32_65 : BitVec 32 := 0#32
  ![v150.toNat, 0]

def k0_chk29 (v150 : BitVec 32) : Prop :=
  (∀ a, (k0_off87 v150) a + S1x2176.size a ≤ S62976x2176.size a)
theorem k0_off87_inb : ∀ (v150 : BitVec 32) (k0_hw29 : k0_chk29 v150), ∀ a, (k0_off87 v150) a + S1x2176.size a ≤ S62976x2176.size a := fun v150 k0_hw29 => k0_hw29

def k0_off88 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c28_i32 : BitVec 32 := 28#32
  let v148 : BitVec 32 := Scalar.addi v7 c28_i32
  let c0_i32_66 : BitVec 32 := 0#32
  ![v148.toNat, 0]
def k0_off89 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v154 : Index := Scalar.indexCast arg9
  let c29 : Index := 29#32
  ![v154.toNat, 29]
def k0_off90 (v155 : BitVec 32) : Fin 2 → Nat :=
  let c0_i32_67 : BitVec 32 := 0#32
  ![v155.toNat, 0]

def k0_chk30 (v155 : BitVec 32) : Prop :=
  (∀ a, (k0_off90 v155) a + S1x2176.size a ≤ S62976x2176.size a)
theorem k0_off90_inb : ∀ (v155 : BitVec 32) (k0_hw30 : k0_chk30 v155), ∀ a, (k0_off90 v155) a + S1x2176.size a ≤ S62976x2176.size a := fun v155 k0_hw30 => k0_hw30

def k0_off91 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c29_i32 : BitVec 32 := 29#32
  let v153 : BitVec 32 := Scalar.addi v7 c29_i32
  let c0_i32_68 : BitVec 32 := 0#32
  ![v153.toNat, 0]
def k0_off92 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v159 : Index := Scalar.indexCast arg9
  let c30 : Index := 30#32
  ![v159.toNat, 30]
def k0_off93 (v160 : BitVec 32) : Fin 2 → Nat :=
  let c0_i32_69 : BitVec 32 := 0#32
  ![v160.toNat, 0]

def k0_chk31 (v160 : BitVec 32) : Prop :=
  (∀ a, (k0_off93 v160) a + S1x2176.size a ≤ S62976x2176.size a)
theorem k0_off93_inb : ∀ (v160 : BitVec 32) (k0_hw31 : k0_chk31 v160), ∀ a, (k0_off93 v160) a + S1x2176.size a ≤ S62976x2176.size a := fun v160 k0_hw31 => k0_hw31

def k0_off94 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c30_i32 : BitVec 32 := 30#32
  let v158 : BitVec 32 := Scalar.addi v7 c30_i32
  let c0_i32_70 : BitVec 32 := 0#32
  ![v158.toNat, 0]
def k0_off95 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v164 : Index := Scalar.indexCast arg9
  let c31 : Index := 31#32
  ![v164.toNat, 31]
def k0_off96 (v165 : BitVec 32) : Fin 2 → Nat :=
  let c0_i32_71 : BitVec 32 := 0#32
  ![v165.toNat, 0]

def k0_chk32 (v165 : BitVec 32) : Prop :=
  (∀ a, (k0_off96 v165) a + S1x2176.size a ≤ S62976x2176.size a)
theorem k0_off96_inb : ∀ (v165 : BitVec 32) (k0_hw32 : k0_chk32 v165), ∀ a, (k0_off96 v165) a + S1x2176.size a ≤ S62976x2176.size a := fun v165 k0_hw32 => k0_hw32

def k0_off97 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c31_i32 : BitVec 32 := 31#32
  let v163 : BitVec 32 := Scalar.addi v7 c31_i32
  let c0_i32_72 : BitVec 32 := 0#32
  ![v163.toNat, 0]
def k0_off98 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v169 : Index := Scalar.indexCast arg9
  let c32 : Index := 32#32
  ![v169.toNat, 32]
def k0_off99 (v170 : BitVec 32) : Fin 2 → Nat :=
  let c0_i32_73 : BitVec 32 := 0#32
  ![v170.toNat, 0]

def k0_chk33 (v170 : BitVec 32) : Prop :=
  (∀ a, (k0_off99 v170) a + S1x2176.size a ≤ S62976x2176.size a)
theorem k0_off99_inb : ∀ (v170 : BitVec 32) (k0_hw33 : k0_chk33 v170), ∀ a, (k0_off99 v170) a + S1x2176.size a ≤ S62976x2176.size a := fun v170 k0_hw33 => k0_hw33

def k0_off100 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c32_i32 : BitVec 32 := 32#32
  let v168 : BitVec 32 := Scalar.addi v7 c32_i32
  let c0_i32_74 : BitVec 32 := 0#32
  ![v168.toNat, 0]
def k0_off101 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v174 : Index := Scalar.indexCast arg9
  let c33 : Index := 33#32
  ![v174.toNat, 33]
def k0_off102 (v175 : BitVec 32) : Fin 2 → Nat :=
  let c0_i32_75 : BitVec 32 := 0#32
  ![v175.toNat, 0]

def k0_chk34 (v175 : BitVec 32) : Prop :=
  (∀ a, (k0_off102 v175) a + S1x2176.size a ≤ S62976x2176.size a)
theorem k0_off102_inb : ∀ (v175 : BitVec 32) (k0_hw34 : k0_chk34 v175), ∀ a, (k0_off102 v175) a + S1x2176.size a ≤ S62976x2176.size a := fun v175 k0_hw34 => k0_hw34

def k0_off103 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c33_i32 : BitVec 32 := 33#32
  let v173 : BitVec 32 := Scalar.addi v7 c33_i32
  let c0_i32_76 : BitVec 32 := 0#32
  ![v173.toNat, 0]
def k0_off104 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v179 : Index := Scalar.indexCast arg9
  let c34 : Index := 34#32
  ![v179.toNat, 34]
def k0_off105 (v180 : BitVec 32) : Fin 2 → Nat :=
  let c0_i32_77 : BitVec 32 := 0#32
  ![v180.toNat, 0]

def k0_chk35 (v180 : BitVec 32) : Prop :=
  (∀ a, (k0_off105 v180) a + S1x2176.size a ≤ S62976x2176.size a)
theorem k0_off105_inb : ∀ (v180 : BitVec 32) (k0_hw35 : k0_chk35 v180), ∀ a, (k0_off105 v180) a + S1x2176.size a ≤ S62976x2176.size a := fun v180 k0_hw35 => k0_hw35

def k0_off106 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c34_i32 : BitVec 32 := 34#32
  let v178 : BitVec 32 := Scalar.addi v7 c34_i32
  let c0_i32_78 : BitVec 32 := 0#32
  ![v178.toNat, 0]
def k0_off107 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v184 : Index := Scalar.indexCast arg9
  let c35 : Index := 35#32
  ![v184.toNat, 35]
def k0_off108 (v185 : BitVec 32) : Fin 2 → Nat :=
  let c0_i32_79 : BitVec 32 := 0#32
  ![v185.toNat, 0]

def k0_chk36 (v185 : BitVec 32) : Prop :=
  (∀ a, (k0_off108 v185) a + S1x2176.size a ≤ S62976x2176.size a)
theorem k0_off108_inb : ∀ (v185 : BitVec 32) (k0_hw36 : k0_chk36 v185), ∀ a, (k0_off108 v185) a + S1x2176.size a ≤ S62976x2176.size a := fun v185 k0_hw36 => k0_hw36

def k0_off109 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c35_i32 : BitVec 32 := 35#32
  let v183 : BitVec 32 := Scalar.addi v7 c35_i32
  let c0_i32_80 : BitVec 32 := 0#32
  ![v183.toNat, 0]
def k0_off110 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v189 : Index := Scalar.indexCast arg9
  let c36 : Index := 36#32
  ![v189.toNat, 36]
def k0_off111 (v190 : BitVec 32) : Fin 2 → Nat :=
  let c0_i32_81 : BitVec 32 := 0#32
  ![v190.toNat, 0]

def k0_chk37 (v190 : BitVec 32) : Prop :=
  (∀ a, (k0_off111 v190) a + S1x2176.size a ≤ S62976x2176.size a)
theorem k0_off111_inb : ∀ (v190 : BitVec 32) (k0_hw37 : k0_chk37 v190), ∀ a, (k0_off111 v190) a + S1x2176.size a ≤ S62976x2176.size a := fun v190 k0_hw37 => k0_hw37

def k0_off112 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c36_i32 : BitVec 32 := 36#32
  let v188 : BitVec 32 := Scalar.addi v7 c36_i32
  let c0_i32_82 : BitVec 32 := 0#32
  ![v188.toNat, 0]
def k0_off113 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v194 : Index := Scalar.indexCast arg9
  let c37 : Index := 37#32
  ![v194.toNat, 37]
def k0_off114 (v195 : BitVec 32) : Fin 2 → Nat :=
  let c0_i32_83 : BitVec 32 := 0#32
  ![v195.toNat, 0]

def k0_chk38 (v195 : BitVec 32) : Prop :=
  (∀ a, (k0_off114 v195) a + S1x2176.size a ≤ S62976x2176.size a)
theorem k0_off114_inb : ∀ (v195 : BitVec 32) (k0_hw38 : k0_chk38 v195), ∀ a, (k0_off114 v195) a + S1x2176.size a ≤ S62976x2176.size a := fun v195 k0_hw38 => k0_hw38

def k0_off115 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c37_i32 : BitVec 32 := 37#32
  let v193 : BitVec 32 := Scalar.addi v7 c37_i32
  let c0_i32_84 : BitVec 32 := 0#32
  ![v193.toNat, 0]
def k0_off116 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v199 : Index := Scalar.indexCast arg9
  let c38 : Index := 38#32
  ![v199.toNat, 38]
def k0_off117 (v200 : BitVec 32) : Fin 2 → Nat :=
  let c0_i32_85 : BitVec 32 := 0#32
  ![v200.toNat, 0]

def k0_chk39 (v200 : BitVec 32) : Prop :=
  (∀ a, (k0_off117 v200) a + S1x2176.size a ≤ S62976x2176.size a)
theorem k0_off117_inb : ∀ (v200 : BitVec 32) (k0_hw39 : k0_chk39 v200), ∀ a, (k0_off117 v200) a + S1x2176.size a ≤ S62976x2176.size a := fun v200 k0_hw39 => k0_hw39

def k0_off118 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c38_i32 : BitVec 32 := 38#32
  let v198 : BitVec 32 := Scalar.addi v7 c38_i32
  let c0_i32_86 : BitVec 32 := 0#32
  ![v198.toNat, 0]
def k0_off119 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v204 : Index := Scalar.indexCast arg9
  let c39 : Index := 39#32
  ![v204.toNat, 39]
def k0_off120 (v205 : BitVec 32) : Fin 2 → Nat :=
  let c0_i32_87 : BitVec 32 := 0#32
  ![v205.toNat, 0]

def k0_chk40 (v205 : BitVec 32) : Prop :=
  (∀ a, (k0_off120 v205) a + S1x2176.size a ≤ S62976x2176.size a)
theorem k0_off120_inb : ∀ (v205 : BitVec 32) (k0_hw40 : k0_chk40 v205), ∀ a, (k0_off120 v205) a + S1x2176.size a ≤ S62976x2176.size a := fun v205 k0_hw40 => k0_hw40

def k0_off121 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c39_i32 : BitVec 32 := 39#32
  let v203 : BitVec 32 := Scalar.addi v7 c39_i32
  let c0_i32_88 : BitVec 32 := 0#32
  ![v203.toNat, 0]
def k0_off122 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v209 : Index := Scalar.indexCast arg9
  let c40 : Index := 40#32
  ![v209.toNat, 40]
def k0_off123 (v210 : BitVec 32) : Fin 2 → Nat :=
  let c0_i32_89 : BitVec 32 := 0#32
  ![v210.toNat, 0]

def k0_chk41 (v210 : BitVec 32) : Prop :=
  (∀ a, (k0_off123 v210) a + S1x2176.size a ≤ S62976x2176.size a)
theorem k0_off123_inb : ∀ (v210 : BitVec 32) (k0_hw41 : k0_chk41 v210), ∀ a, (k0_off123 v210) a + S1x2176.size a ≤ S62976x2176.size a := fun v210 k0_hw41 => k0_hw41

def k0_off124 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c40_i32 : BitVec 32 := 40#32
  let v208 : BitVec 32 := Scalar.addi v7 c40_i32
  let c0_i32_90 : BitVec 32 := 0#32
  ![v208.toNat, 0]
def k0_off125 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v214 : Index := Scalar.indexCast arg9
  let c41 : Index := 41#32
  ![v214.toNat, 41]
def k0_off126 (v215 : BitVec 32) : Fin 2 → Nat :=
  let c0_i32_91 : BitVec 32 := 0#32
  ![v215.toNat, 0]

def k0_chk42 (v215 : BitVec 32) : Prop :=
  (∀ a, (k0_off126 v215) a + S1x2176.size a ≤ S62976x2176.size a)
theorem k0_off126_inb : ∀ (v215 : BitVec 32) (k0_hw42 : k0_chk42 v215), ∀ a, (k0_off126 v215) a + S1x2176.size a ≤ S62976x2176.size a := fun v215 k0_hw42 => k0_hw42

def k0_off127 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c41_i32 : BitVec 32 := 41#32
  let v213 : BitVec 32 := Scalar.addi v7 c41_i32
  let c0_i32_92 : BitVec 32 := 0#32
  ![v213.toNat, 0]
def k0_off128 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v219 : Index := Scalar.indexCast arg9
  let c42 : Index := 42#32
  ![v219.toNat, 42]
def k0_off129 (v220 : BitVec 32) : Fin 2 → Nat :=
  let c0_i32_93 : BitVec 32 := 0#32
  ![v220.toNat, 0]

def k0_chk43 (v220 : BitVec 32) : Prop :=
  (∀ a, (k0_off129 v220) a + S1x2176.size a ≤ S62976x2176.size a)
theorem k0_off129_inb : ∀ (v220 : BitVec 32) (k0_hw43 : k0_chk43 v220), ∀ a, (k0_off129 v220) a + S1x2176.size a ≤ S62976x2176.size a := fun v220 k0_hw43 => k0_hw43

def k0_off130 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c42_i32 : BitVec 32 := 42#32
  let v218 : BitVec 32 := Scalar.addi v7 c42_i32
  let c0_i32_94 : BitVec 32 := 0#32
  ![v218.toNat, 0]
def k0_off131 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v224 : Index := Scalar.indexCast arg9
  let c43 : Index := 43#32
  ![v224.toNat, 43]
def k0_off132 (v225 : BitVec 32) : Fin 2 → Nat :=
  let c0_i32_95 : BitVec 32 := 0#32
  ![v225.toNat, 0]

def k0_chk44 (v225 : BitVec 32) : Prop :=
  (∀ a, (k0_off132 v225) a + S1x2176.size a ≤ S62976x2176.size a)
theorem k0_off132_inb : ∀ (v225 : BitVec 32) (k0_hw44 : k0_chk44 v225), ∀ a, (k0_off132 v225) a + S1x2176.size a ≤ S62976x2176.size a := fun v225 k0_hw44 => k0_hw44

def k0_off133 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c43_i32 : BitVec 32 := 43#32
  let v223 : BitVec 32 := Scalar.addi v7 c43_i32
  let c0_i32_96 : BitVec 32 := 0#32
  ![v223.toNat, 0]
def k0_off134 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v229 : Index := Scalar.indexCast arg9
  let c44 : Index := 44#32
  ![v229.toNat, 44]
def k0_off135 (v230 : BitVec 32) : Fin 2 → Nat :=
  let c0_i32_97 : BitVec 32 := 0#32
  ![v230.toNat, 0]

def k0_chk45 (v230 : BitVec 32) : Prop :=
  (∀ a, (k0_off135 v230) a + S1x2176.size a ≤ S62976x2176.size a)
theorem k0_off135_inb : ∀ (v230 : BitVec 32) (k0_hw45 : k0_chk45 v230), ∀ a, (k0_off135 v230) a + S1x2176.size a ≤ S62976x2176.size a := fun v230 k0_hw45 => k0_hw45

def k0_off136 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c44_i32 : BitVec 32 := 44#32
  let v228 : BitVec 32 := Scalar.addi v7 c44_i32
  let c0_i32_98 : BitVec 32 := 0#32
  ![v228.toNat, 0]
def k0_off137 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v234 : Index := Scalar.indexCast arg9
  let c45 : Index := 45#32
  ![v234.toNat, 45]
def k0_off138 (v235 : BitVec 32) : Fin 2 → Nat :=
  let c0_i32_99 : BitVec 32 := 0#32
  ![v235.toNat, 0]

def k0_chk46 (v235 : BitVec 32) : Prop :=
  (∀ a, (k0_off138 v235) a + S1x2176.size a ≤ S62976x2176.size a)
theorem k0_off138_inb : ∀ (v235 : BitVec 32) (k0_hw46 : k0_chk46 v235), ∀ a, (k0_off138 v235) a + S1x2176.size a ≤ S62976x2176.size a := fun v235 k0_hw46 => k0_hw46

def k0_off139 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c45_i32 : BitVec 32 := 45#32
  let v233 : BitVec 32 := Scalar.addi v7 c45_i32
  let c0_i32_100 : BitVec 32 := 0#32
  ![v233.toNat, 0]
def k0_off140 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v239 : Index := Scalar.indexCast arg9
  let c46 : Index := 46#32
  ![v239.toNat, 46]
def k0_off141 (v240 : BitVec 32) : Fin 2 → Nat :=
  let c0_i32_101 : BitVec 32 := 0#32
  ![v240.toNat, 0]

def k0_chk47 (v240 : BitVec 32) : Prop :=
  (∀ a, (k0_off141 v240) a + S1x2176.size a ≤ S62976x2176.size a)
theorem k0_off141_inb : ∀ (v240 : BitVec 32) (k0_hw47 : k0_chk47 v240), ∀ a, (k0_off141 v240) a + S1x2176.size a ≤ S62976x2176.size a := fun v240 k0_hw47 => k0_hw47

def k0_off142 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c46_i32 : BitVec 32 := 46#32
  let v238 : BitVec 32 := Scalar.addi v7 c46_i32
  let c0_i32_102 : BitVec 32 := 0#32
  ![v238.toNat, 0]
def k0_off143 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v244 : Index := Scalar.indexCast arg9
  let c47 : Index := 47#32
  ![v244.toNat, 47]
def k0_off144 (v245 : BitVec 32) : Fin 2 → Nat :=
  let c0_i32_103 : BitVec 32 := 0#32
  ![v245.toNat, 0]

def k0_chk48 (v245 : BitVec 32) : Prop :=
  (∀ a, (k0_off144 v245) a + S1x2176.size a ≤ S62976x2176.size a)
theorem k0_off144_inb : ∀ (v245 : BitVec 32) (k0_hw48 : k0_chk48 v245), ∀ a, (k0_off144 v245) a + S1x2176.size a ≤ S62976x2176.size a := fun v245 k0_hw48 => k0_hw48

def k0_off145 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c47_i32 : BitVec 32 := 47#32
  let v243 : BitVec 32 := Scalar.addi v7 c47_i32
  let c0_i32_104 : BitVec 32 := 0#32
  ![v243.toNat, 0]
def k0_off146 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v249 : Index := Scalar.indexCast arg9
  let c48 : Index := 48#32
  ![v249.toNat, 48]
def k0_off147 (v250 : BitVec 32) : Fin 2 → Nat :=
  let c0_i32_105 : BitVec 32 := 0#32
  ![v250.toNat, 0]

def k0_chk49 (v250 : BitVec 32) : Prop :=
  (∀ a, (k0_off147 v250) a + S1x2176.size a ≤ S62976x2176.size a)
theorem k0_off147_inb : ∀ (v250 : BitVec 32) (k0_hw49 : k0_chk49 v250), ∀ a, (k0_off147 v250) a + S1x2176.size a ≤ S62976x2176.size a := fun v250 k0_hw49 => k0_hw49

def k0_off148 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c48_i32 : BitVec 32 := 48#32
  let v248 : BitVec 32 := Scalar.addi v7 c48_i32
  let c0_i32_106 : BitVec 32 := 0#32
  ![v248.toNat, 0]
def k0_off149 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v254 : Index := Scalar.indexCast arg9
  let c49 : Index := 49#32
  ![v254.toNat, 49]
def k0_off150 (v255 : BitVec 32) : Fin 2 → Nat :=
  let c0_i32_107 : BitVec 32 := 0#32
  ![v255.toNat, 0]

def k0_chk50 (v255 : BitVec 32) : Prop :=
  (∀ a, (k0_off150 v255) a + S1x2176.size a ≤ S62976x2176.size a)
theorem k0_off150_inb : ∀ (v255 : BitVec 32) (k0_hw50 : k0_chk50 v255), ∀ a, (k0_off150 v255) a + S1x2176.size a ≤ S62976x2176.size a := fun v255 k0_hw50 => k0_hw50

def k0_off151 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c49_i32 : BitVec 32 := 49#32
  let v253 : BitVec 32 := Scalar.addi v7 c49_i32
  let c0_i32_108 : BitVec 32 := 0#32
  ![v253.toNat, 0]
def k0_off152 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v259 : Index := Scalar.indexCast arg9
  let c50 : Index := 50#32
  ![v259.toNat, 50]
def k0_off153 (v260 : BitVec 32) : Fin 2 → Nat :=
  let c0_i32_109 : BitVec 32 := 0#32
  ![v260.toNat, 0]

def k0_chk51 (v260 : BitVec 32) : Prop :=
  (∀ a, (k0_off153 v260) a + S1x2176.size a ≤ S62976x2176.size a)
theorem k0_off153_inb : ∀ (v260 : BitVec 32) (k0_hw51 : k0_chk51 v260), ∀ a, (k0_off153 v260) a + S1x2176.size a ≤ S62976x2176.size a := fun v260 k0_hw51 => k0_hw51

def k0_off154 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c50_i32 : BitVec 32 := 50#32
  let v258 : BitVec 32 := Scalar.addi v7 c50_i32
  let c0_i32_110 : BitVec 32 := 0#32
  ![v258.toNat, 0]
def k0_off155 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v264 : Index := Scalar.indexCast arg9
  let c51 : Index := 51#32
  ![v264.toNat, 51]
def k0_off156 (v265 : BitVec 32) : Fin 2 → Nat :=
  let c0_i32_111 : BitVec 32 := 0#32
  ![v265.toNat, 0]

def k0_chk52 (v265 : BitVec 32) : Prop :=
  (∀ a, (k0_off156 v265) a + S1x2176.size a ≤ S62976x2176.size a)
theorem k0_off156_inb : ∀ (v265 : BitVec 32) (k0_hw52 : k0_chk52 v265), ∀ a, (k0_off156 v265) a + S1x2176.size a ≤ S62976x2176.size a := fun v265 k0_hw52 => k0_hw52

def k0_off157 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c51_i32 : BitVec 32 := 51#32
  let v263 : BitVec 32 := Scalar.addi v7 c51_i32
  let c0_i32_112 : BitVec 32 := 0#32
  ![v263.toNat, 0]
def k0_off158 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v269 : Index := Scalar.indexCast arg9
  let c52 : Index := 52#32
  ![v269.toNat, 52]
def k0_off159 (v270 : BitVec 32) : Fin 2 → Nat :=
  let c0_i32_113 : BitVec 32 := 0#32
  ![v270.toNat, 0]

def k0_chk53 (v270 : BitVec 32) : Prop :=
  (∀ a, (k0_off159 v270) a + S1x2176.size a ≤ S62976x2176.size a)
theorem k0_off159_inb : ∀ (v270 : BitVec 32) (k0_hw53 : k0_chk53 v270), ∀ a, (k0_off159 v270) a + S1x2176.size a ≤ S62976x2176.size a := fun v270 k0_hw53 => k0_hw53

def k0_off160 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c52_i32 : BitVec 32 := 52#32
  let v268 : BitVec 32 := Scalar.addi v7 c52_i32
  let c0_i32_114 : BitVec 32 := 0#32
  ![v268.toNat, 0]
def k0_off161 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v274 : Index := Scalar.indexCast arg9
  let c53 : Index := 53#32
  ![v274.toNat, 53]
def k0_off162 (v275 : BitVec 32) : Fin 2 → Nat :=
  let c0_i32_115 : BitVec 32 := 0#32
  ![v275.toNat, 0]

def k0_chk54 (v275 : BitVec 32) : Prop :=
  (∀ a, (k0_off162 v275) a + S1x2176.size a ≤ S62976x2176.size a)
theorem k0_off162_inb : ∀ (v275 : BitVec 32) (k0_hw54 : k0_chk54 v275), ∀ a, (k0_off162 v275) a + S1x2176.size a ≤ S62976x2176.size a := fun v275 k0_hw54 => k0_hw54

def k0_off163 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c53_i32 : BitVec 32 := 53#32
  let v273 : BitVec 32 := Scalar.addi v7 c53_i32
  let c0_i32_116 : BitVec 32 := 0#32
  ![v273.toNat, 0]
def k0_off164 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v279 : Index := Scalar.indexCast arg9
  let c54 : Index := 54#32
  ![v279.toNat, 54]
def k0_off165 (v280 : BitVec 32) : Fin 2 → Nat :=
  let c0_i32_117 : BitVec 32 := 0#32
  ![v280.toNat, 0]

def k0_chk55 (v280 : BitVec 32) : Prop :=
  (∀ a, (k0_off165 v280) a + S1x2176.size a ≤ S62976x2176.size a)
theorem k0_off165_inb : ∀ (v280 : BitVec 32) (k0_hw55 : k0_chk55 v280), ∀ a, (k0_off165 v280) a + S1x2176.size a ≤ S62976x2176.size a := fun v280 k0_hw55 => k0_hw55

def k0_off166 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c54_i32 : BitVec 32 := 54#32
  let v278 : BitVec 32 := Scalar.addi v7 c54_i32
  let c0_i32_118 : BitVec 32 := 0#32
  ![v278.toNat, 0]
def k0_off167 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v284 : Index := Scalar.indexCast arg9
  let c55 : Index := 55#32
  ![v284.toNat, 55]
def k0_off168 (v285 : BitVec 32) : Fin 2 → Nat :=
  let c0_i32_119 : BitVec 32 := 0#32
  ![v285.toNat, 0]

def k0_chk56 (v285 : BitVec 32) : Prop :=
  (∀ a, (k0_off168 v285) a + S1x2176.size a ≤ S62976x2176.size a)
theorem k0_off168_inb : ∀ (v285 : BitVec 32) (k0_hw56 : k0_chk56 v285), ∀ a, (k0_off168 v285) a + S1x2176.size a ≤ S62976x2176.size a := fun v285 k0_hw56 => k0_hw56

def k0_off169 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c55_i32 : BitVec 32 := 55#32
  let v283 : BitVec 32 := Scalar.addi v7 c55_i32
  let c0_i32_120 : BitVec 32 := 0#32
  ![v283.toNat, 0]
def k0_off170 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v289 : Index := Scalar.indexCast arg9
  let c56 : Index := 56#32
  ![v289.toNat, 56]
def k0_off171 (v290 : BitVec 32) : Fin 2 → Nat :=
  let c0_i32_121 : BitVec 32 := 0#32
  ![v290.toNat, 0]

def k0_chk57 (v290 : BitVec 32) : Prop :=
  (∀ a, (k0_off171 v290) a + S1x2176.size a ≤ S62976x2176.size a)
theorem k0_off171_inb : ∀ (v290 : BitVec 32) (k0_hw57 : k0_chk57 v290), ∀ a, (k0_off171 v290) a + S1x2176.size a ≤ S62976x2176.size a := fun v290 k0_hw57 => k0_hw57

def k0_off172 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c56_i32 : BitVec 32 := 56#32
  let v288 : BitVec 32 := Scalar.addi v7 c56_i32
  let c0_i32_122 : BitVec 32 := 0#32
  ![v288.toNat, 0]
def k0_off173 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v294 : Index := Scalar.indexCast arg9
  let c57 : Index := 57#32
  ![v294.toNat, 57]
def k0_off174 (v295 : BitVec 32) : Fin 2 → Nat :=
  let c0_i32_123 : BitVec 32 := 0#32
  ![v295.toNat, 0]

def k0_chk58 (v295 : BitVec 32) : Prop :=
  (∀ a, (k0_off174 v295) a + S1x2176.size a ≤ S62976x2176.size a)
theorem k0_off174_inb : ∀ (v295 : BitVec 32) (k0_hw58 : k0_chk58 v295), ∀ a, (k0_off174 v295) a + S1x2176.size a ≤ S62976x2176.size a := fun v295 k0_hw58 => k0_hw58

def k0_off175 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c57_i32 : BitVec 32 := 57#32
  let v293 : BitVec 32 := Scalar.addi v7 c57_i32
  let c0_i32_124 : BitVec 32 := 0#32
  ![v293.toNat, 0]
def k0_off176 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v299 : Index := Scalar.indexCast arg9
  let c58 : Index := 58#32
  ![v299.toNat, 58]
def k0_off177 (v300 : BitVec 32) : Fin 2 → Nat :=
  let c0_i32_125 : BitVec 32 := 0#32
  ![v300.toNat, 0]

def k0_chk59 (v300 : BitVec 32) : Prop :=
  (∀ a, (k0_off177 v300) a + S1x2176.size a ≤ S62976x2176.size a)
theorem k0_off177_inb : ∀ (v300 : BitVec 32) (k0_hw59 : k0_chk59 v300), ∀ a, (k0_off177 v300) a + S1x2176.size a ≤ S62976x2176.size a := fun v300 k0_hw59 => k0_hw59

def k0_off178 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c58_i32 : BitVec 32 := 58#32
  let v298 : BitVec 32 := Scalar.addi v7 c58_i32
  let c0_i32_126 : BitVec 32 := 0#32
  ![v298.toNat, 0]
def k0_off179 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v304 : Index := Scalar.indexCast arg9
  let c59 : Index := 59#32
  ![v304.toNat, 59]
def k0_off180 (v305 : BitVec 32) : Fin 2 → Nat :=
  let c0_i32_127 : BitVec 32 := 0#32
  ![v305.toNat, 0]

def k0_chk60 (v305 : BitVec 32) : Prop :=
  (∀ a, (k0_off180 v305) a + S1x2176.size a ≤ S62976x2176.size a)
theorem k0_off180_inb : ∀ (v305 : BitVec 32) (k0_hw60 : k0_chk60 v305), ∀ a, (k0_off180 v305) a + S1x2176.size a ≤ S62976x2176.size a := fun v305 k0_hw60 => k0_hw60

def k0_off181 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c59_i32 : BitVec 32 := 59#32
  let v303 : BitVec 32 := Scalar.addi v7 c59_i32
  let c0_i32_128 : BitVec 32 := 0#32
  ![v303.toNat, 0]
def k0_off182 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v309 : Index := Scalar.indexCast arg9
  let c60 : Index := 60#32
  ![v309.toNat, 60]
def k0_off183 (v310 : BitVec 32) : Fin 2 → Nat :=
  let c0_i32_129 : BitVec 32 := 0#32
  ![v310.toNat, 0]

def k0_chk61 (v310 : BitVec 32) : Prop :=
  (∀ a, (k0_off183 v310) a + S1x2176.size a ≤ S62976x2176.size a)
theorem k0_off183_inb : ∀ (v310 : BitVec 32) (k0_hw61 : k0_chk61 v310), ∀ a, (k0_off183 v310) a + S1x2176.size a ≤ S62976x2176.size a := fun v310 k0_hw61 => k0_hw61

def k0_off184 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c60_i32 : BitVec 32 := 60#32
  let v308 : BitVec 32 := Scalar.addi v7 c60_i32
  let c0_i32_130 : BitVec 32 := 0#32
  ![v308.toNat, 0]
def k0_off185 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v314 : Index := Scalar.indexCast arg9
  let c61 : Index := 61#32
  ![v314.toNat, 61]
def k0_off186 (v315 : BitVec 32) : Fin 2 → Nat :=
  let c0_i32_131 : BitVec 32 := 0#32
  ![v315.toNat, 0]

def k0_chk62 (v315 : BitVec 32) : Prop :=
  (∀ a, (k0_off186 v315) a + S1x2176.size a ≤ S62976x2176.size a)
theorem k0_off186_inb : ∀ (v315 : BitVec 32) (k0_hw62 : k0_chk62 v315), ∀ a, (k0_off186 v315) a + S1x2176.size a ≤ S62976x2176.size a := fun v315 k0_hw62 => k0_hw62

def k0_off187 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c61_i32 : BitVec 32 := 61#32
  let v313 : BitVec 32 := Scalar.addi v7 c61_i32
  let c0_i32_132 : BitVec 32 := 0#32
  ![v313.toNat, 0]
def k0_off188 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v319 : Index := Scalar.indexCast arg9
  let c62 : Index := 62#32
  ![v319.toNat, 62]
def k0_off189 (v320 : BitVec 32) : Fin 2 → Nat :=
  let c0_i32_133 : BitVec 32 := 0#32
  ![v320.toNat, 0]

def k0_chk63 (v320 : BitVec 32) : Prop :=
  (∀ a, (k0_off189 v320) a + S1x2176.size a ≤ S62976x2176.size a)
theorem k0_off189_inb : ∀ (v320 : BitVec 32) (k0_hw63 : k0_chk63 v320), ∀ a, (k0_off189 v320) a + S1x2176.size a ≤ S62976x2176.size a := fun v320 k0_hw63 => k0_hw63

def k0_off190 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c62_i32 : BitVec 32 := 62#32
  let v318 : BitVec 32 := Scalar.addi v7 c62_i32
  let c0_i32_134 : BitVec 32 := 0#32
  ![v318.toNat, 0]
def k0_off191 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v324 : Index := Scalar.indexCast arg9
  let c63 : Index := 63#32
  ![v324.toNat, 63]
def k0_off192 (v325 : BitVec 32) : Fin 2 → Nat :=
  let c0_i32_135 : BitVec 32 := 0#32
  ![v325.toNat, 0]

def k0_chk64 (v325 : BitVec 32) : Prop :=
  (∀ a, (k0_off192 v325) a + S1x2176.size a ≤ S62976x2176.size a)
theorem k0_off192_inb : ∀ (v325 : BitVec 32) (k0_hw64 : k0_chk64 v325), ∀ a, (k0_off192 v325) a + S1x2176.size a ≤ S62976x2176.size a := fun v325 k0_hw64 => k0_hw64

def k0_off193 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c63_i32 : BitVec 32 := 63#32
  let v323 : BitVec 32 := Scalar.addi v7 c63_i32
  let c0_i32_136 : BitVec 32 := 0#32
  ![v323.toNat, 0]
def k0_off194 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v329 : Index := Scalar.indexCast arg9
  let c64 : Index := 64#32
  ![v329.toNat, 64]
def k0_off195 (v330 : BitVec 32) : Fin 2 → Nat :=
  let c0_i32_137 : BitVec 32 := 0#32
  ![v330.toNat, 0]

def k0_chk65 (v330 : BitVec 32) : Prop :=
  (∀ a, (k0_off195 v330) a + S1x2176.size a ≤ S62976x2176.size a)
theorem k0_off195_inb : ∀ (v330 : BitVec 32) (k0_hw65 : k0_chk65 v330), ∀ a, (k0_off195 v330) a + S1x2176.size a ≤ S62976x2176.size a := fun v330 k0_hw65 => k0_hw65

def k0_off196 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c64_i32 : BitVec 32 := 64#32
  let v328 : BitVec 32 := Scalar.addi v7 c64_i32
  let c0_i32_138 : BitVec 32 := 0#32
  ![v328.toNat, 0]
def k0_off197 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v334 : Index := Scalar.indexCast arg9
  let c65 : Index := 65#32
  ![v334.toNat, 65]
def k0_off198 (v335 : BitVec 32) : Fin 2 → Nat :=
  let c0_i32_139 : BitVec 32 := 0#32
  ![v335.toNat, 0]

def k0_chk66 (v335 : BitVec 32) : Prop :=
  (∀ a, (k0_off198 v335) a + S1x2176.size a ≤ S62976x2176.size a)
theorem k0_off198_inb : ∀ (v335 : BitVec 32) (k0_hw66 : k0_chk66 v335), ∀ a, (k0_off198 v335) a + S1x2176.size a ≤ S62976x2176.size a := fun v335 k0_hw66 => k0_hw66

def k0_off199 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c65_i32 : BitVec 32 := 65#32
  let v333 : BitVec 32 := Scalar.addi v7 c65_i32
  let c0_i32_140 : BitVec 32 := 0#32
  ![v333.toNat, 0]
def k0_off200 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v339 : Index := Scalar.indexCast arg9
  let c66 : Index := 66#32
  ![v339.toNat, 66]
def k0_off201 (v340 : BitVec 32) : Fin 2 → Nat :=
  let c0_i32_141 : BitVec 32 := 0#32
  ![v340.toNat, 0]

def k0_chk67 (v340 : BitVec 32) : Prop :=
  (∀ a, (k0_off201 v340) a + S1x2176.size a ≤ S62976x2176.size a)
theorem k0_off201_inb : ∀ (v340 : BitVec 32) (k0_hw67 : k0_chk67 v340), ∀ a, (k0_off201 v340) a + S1x2176.size a ≤ S62976x2176.size a := fun v340 k0_hw67 => k0_hw67

def k0_off202 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c66_i32 : BitVec 32 := 66#32
  let v338 : BitVec 32 := Scalar.addi v7 c66_i32
  let c0_i32_142 : BitVec 32 := 0#32
  ![v338.toNat, 0]
def k0_off203 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v344 : Index := Scalar.indexCast arg9
  let c67 : Index := 67#32
  ![v344.toNat, 67]
def k0_off204 (v345 : BitVec 32) : Fin 2 → Nat :=
  let c0_i32_143 : BitVec 32 := 0#32
  ![v345.toNat, 0]

def k0_chk68 (v345 : BitVec 32) : Prop :=
  (∀ a, (k0_off204 v345) a + S1x2176.size a ≤ S62976x2176.size a)
theorem k0_off204_inb : ∀ (v345 : BitVec 32) (k0_hw68 : k0_chk68 v345), ∀ a, (k0_off204 v345) a + S1x2176.size a ≤ S62976x2176.size a := fun v345 k0_hw68 => k0_hw68

def k0_off205 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c67_i32 : BitVec 32 := 67#32
  let v343 : BitVec 32 := Scalar.addi v7 c67_i32
  let c0_i32_144 : BitVec 32 := 0#32
  ![v343.toNat, 0]
def k0_off206 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v349 : Index := Scalar.indexCast arg9
  let c68 : Index := 68#32
  ![v349.toNat, 68]
def k0_off207 (v350 : BitVec 32) : Fin 2 → Nat :=
  let c0_i32_145 : BitVec 32 := 0#32
  ![v350.toNat, 0]

def k0_chk69 (v350 : BitVec 32) : Prop :=
  (∀ a, (k0_off207 v350) a + S1x2176.size a ≤ S62976x2176.size a)
theorem k0_off207_inb : ∀ (v350 : BitVec 32) (k0_hw69 : k0_chk69 v350), ∀ a, (k0_off207 v350) a + S1x2176.size a ≤ S62976x2176.size a := fun v350 k0_hw69 => k0_hw69

def k0_off208 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c68_i32 : BitVec 32 := 68#32
  let v348 : BitVec 32 := Scalar.addi v7 c68_i32
  let c0_i32_146 : BitVec 32 := 0#32
  ![v348.toNat, 0]
def k0_off209 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v354 : Index := Scalar.indexCast arg9
  let c69 : Index := 69#32
  ![v354.toNat, 69]
def k0_off210 (v355 : BitVec 32) : Fin 2 → Nat :=
  let c0_i32_147 : BitVec 32 := 0#32
  ![v355.toNat, 0]

def k0_chk70 (v355 : BitVec 32) : Prop :=
  (∀ a, (k0_off210 v355) a + S1x2176.size a ≤ S62976x2176.size a)
theorem k0_off210_inb : ∀ (v355 : BitVec 32) (k0_hw70 : k0_chk70 v355), ∀ a, (k0_off210 v355) a + S1x2176.size a ≤ S62976x2176.size a := fun v355 k0_hw70 => k0_hw70

def k0_off211 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c69_i32 : BitVec 32 := 69#32
  let v353 : BitVec 32 := Scalar.addi v7 c69_i32
  let c0_i32_148 : BitVec 32 := 0#32
  ![v353.toNat, 0]
def k0_off212 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v359 : Index := Scalar.indexCast arg9
  let c70 : Index := 70#32
  ![v359.toNat, 70]
def k0_off213 (v360 : BitVec 32) : Fin 2 → Nat :=
  let c0_i32_149 : BitVec 32 := 0#32
  ![v360.toNat, 0]

def k0_chk71 (v360 : BitVec 32) : Prop :=
  (∀ a, (k0_off213 v360) a + S1x2176.size a ≤ S62976x2176.size a)
theorem k0_off213_inb : ∀ (v360 : BitVec 32) (k0_hw71 : k0_chk71 v360), ∀ a, (k0_off213 v360) a + S1x2176.size a ≤ S62976x2176.size a := fun v360 k0_hw71 => k0_hw71

def k0_off214 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c70_i32 : BitVec 32 := 70#32
  let v358 : BitVec 32 := Scalar.addi v7 c70_i32
  let c0_i32_150 : BitVec 32 := 0#32
  ![v358.toNat, 0]
def k0_off215 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v364 : Index := Scalar.indexCast arg9
  let c71 : Index := 71#32
  ![v364.toNat, 71]
def k0_off216 (v365 : BitVec 32) : Fin 2 → Nat :=
  let c0_i32_151 : BitVec 32 := 0#32
  ![v365.toNat, 0]

def k0_chk72 (v365 : BitVec 32) : Prop :=
  (∀ a, (k0_off216 v365) a + S1x2176.size a ≤ S62976x2176.size a)
theorem k0_off216_inb : ∀ (v365 : BitVec 32) (k0_hw72 : k0_chk72 v365), ∀ a, (k0_off216 v365) a + S1x2176.size a ≤ S62976x2176.size a := fun v365 k0_hw72 => k0_hw72

def k0_off217 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c71_i32 : BitVec 32 := 71#32
  let v363 : BitVec 32 := Scalar.addi v7 c71_i32
  let c0_i32_152 : BitVec 32 := 0#32
  ![v363.toNat, 0]
def k0_off218 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v369 : Index := Scalar.indexCast arg9
  let c72 : Index := 72#32
  ![v369.toNat, 72]
def k0_off219 (v370 : BitVec 32) : Fin 2 → Nat :=
  let c0_i32_153 : BitVec 32 := 0#32
  ![v370.toNat, 0]

def k0_chk73 (v370 : BitVec 32) : Prop :=
  (∀ a, (k0_off219 v370) a + S1x2176.size a ≤ S62976x2176.size a)
theorem k0_off219_inb : ∀ (v370 : BitVec 32) (k0_hw73 : k0_chk73 v370), ∀ a, (k0_off219 v370) a + S1x2176.size a ≤ S62976x2176.size a := fun v370 k0_hw73 => k0_hw73

def k0_off220 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c72_i32 : BitVec 32 := 72#32
  let v368 : BitVec 32 := Scalar.addi v7 c72_i32
  let c0_i32_154 : BitVec 32 := 0#32
  ![v368.toNat, 0]
def k0_off221 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v374 : Index := Scalar.indexCast arg9
  let c73 : Index := 73#32
  ![v374.toNat, 73]
def k0_off222 (v375 : BitVec 32) : Fin 2 → Nat :=
  let c0_i32_155 : BitVec 32 := 0#32
  ![v375.toNat, 0]

def k0_chk74 (v375 : BitVec 32) : Prop :=
  (∀ a, (k0_off222 v375) a + S1x2176.size a ≤ S62976x2176.size a)
theorem k0_off222_inb : ∀ (v375 : BitVec 32) (k0_hw74 : k0_chk74 v375), ∀ a, (k0_off222 v375) a + S1x2176.size a ≤ S62976x2176.size a := fun v375 k0_hw74 => k0_hw74

def k0_off223 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c73_i32 : BitVec 32 := 73#32
  let v373 : BitVec 32 := Scalar.addi v7 c73_i32
  let c0_i32_156 : BitVec 32 := 0#32
  ![v373.toNat, 0]
def k0_off224 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v379 : Index := Scalar.indexCast arg9
  let c74 : Index := 74#32
  ![v379.toNat, 74]
def k0_off225 (v380 : BitVec 32) : Fin 2 → Nat :=
  let c0_i32_157 : BitVec 32 := 0#32
  ![v380.toNat, 0]

def k0_chk75 (v380 : BitVec 32) : Prop :=
  (∀ a, (k0_off225 v380) a + S1x2176.size a ≤ S62976x2176.size a)
theorem k0_off225_inb : ∀ (v380 : BitVec 32) (k0_hw75 : k0_chk75 v380), ∀ a, (k0_off225 v380) a + S1x2176.size a ≤ S62976x2176.size a := fun v380 k0_hw75 => k0_hw75

def k0_off226 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c74_i32 : BitVec 32 := 74#32
  let v378 : BitVec 32 := Scalar.addi v7 c74_i32
  let c0_i32_158 : BitVec 32 := 0#32
  ![v378.toNat, 0]
def k0_off227 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v384 : Index := Scalar.indexCast arg9
  let c75 : Index := 75#32
  ![v384.toNat, 75]
def k0_off228 (v385 : BitVec 32) : Fin 2 → Nat :=
  let c0_i32_159 : BitVec 32 := 0#32
  ![v385.toNat, 0]

def k0_chk76 (v385 : BitVec 32) : Prop :=
  (∀ a, (k0_off228 v385) a + S1x2176.size a ≤ S62976x2176.size a)
theorem k0_off228_inb : ∀ (v385 : BitVec 32) (k0_hw76 : k0_chk76 v385), ∀ a, (k0_off228 v385) a + S1x2176.size a ≤ S62976x2176.size a := fun v385 k0_hw76 => k0_hw76

def k0_off229 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c75_i32 : BitVec 32 := 75#32
  let v383 : BitVec 32 := Scalar.addi v7 c75_i32
  let c0_i32_160 : BitVec 32 := 0#32
  ![v383.toNat, 0]
def k0_off230 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v389 : Index := Scalar.indexCast arg9
  let c76 : Index := 76#32
  ![v389.toNat, 76]
def k0_off231 (v390 : BitVec 32) : Fin 2 → Nat :=
  let c0_i32_161 : BitVec 32 := 0#32
  ![v390.toNat, 0]

def k0_chk77 (v390 : BitVec 32) : Prop :=
  (∀ a, (k0_off231 v390) a + S1x2176.size a ≤ S62976x2176.size a)
theorem k0_off231_inb : ∀ (v390 : BitVec 32) (k0_hw77 : k0_chk77 v390), ∀ a, (k0_off231 v390) a + S1x2176.size a ≤ S62976x2176.size a := fun v390 k0_hw77 => k0_hw77

def k0_off232 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c76_i32 : BitVec 32 := 76#32
  let v388 : BitVec 32 := Scalar.addi v7 c76_i32
  let c0_i32_162 : BitVec 32 := 0#32
  ![v388.toNat, 0]
def k0_off233 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v394 : Index := Scalar.indexCast arg9
  let c77 : Index := 77#32
  ![v394.toNat, 77]
def k0_off234 (v395 : BitVec 32) : Fin 2 → Nat :=
  let c0_i32_163 : BitVec 32 := 0#32
  ![v395.toNat, 0]

def k0_chk78 (v395 : BitVec 32) : Prop :=
  (∀ a, (k0_off234 v395) a + S1x2176.size a ≤ S62976x2176.size a)
theorem k0_off234_inb : ∀ (v395 : BitVec 32) (k0_hw78 : k0_chk78 v395), ∀ a, (k0_off234 v395) a + S1x2176.size a ≤ S62976x2176.size a := fun v395 k0_hw78 => k0_hw78

def k0_off235 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c77_i32 : BitVec 32 := 77#32
  let v393 : BitVec 32 := Scalar.addi v7 c77_i32
  let c0_i32_164 : BitVec 32 := 0#32
  ![v393.toNat, 0]
def k0_off236 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v399 : Index := Scalar.indexCast arg9
  let c78 : Index := 78#32
  ![v399.toNat, 78]
def k0_off237 (v400 : BitVec 32) : Fin 2 → Nat :=
  let c0_i32_165 : BitVec 32 := 0#32
  ![v400.toNat, 0]

def k0_chk79 (v400 : BitVec 32) : Prop :=
  (∀ a, (k0_off237 v400) a + S1x2176.size a ≤ S62976x2176.size a)
theorem k0_off237_inb : ∀ (v400 : BitVec 32) (k0_hw79 : k0_chk79 v400), ∀ a, (k0_off237 v400) a + S1x2176.size a ≤ S62976x2176.size a := fun v400 k0_hw79 => k0_hw79

def k0_off238 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c78_i32 : BitVec 32 := 78#32
  let v398 : BitVec 32 := Scalar.addi v7 c78_i32
  let c0_i32_166 : BitVec 32 := 0#32
  ![v398.toNat, 0]
def k0_off239 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v404 : Index := Scalar.indexCast arg9
  let c79 : Index := 79#32
  ![v404.toNat, 79]
def k0_off240 (v405 : BitVec 32) : Fin 2 → Nat :=
  let c0_i32_167 : BitVec 32 := 0#32
  ![v405.toNat, 0]

def k0_chk80 (v405 : BitVec 32) : Prop :=
  (∀ a, (k0_off240 v405) a + S1x2176.size a ≤ S62976x2176.size a)
theorem k0_off240_inb : ∀ (v405 : BitVec 32) (k0_hw80 : k0_chk80 v405), ∀ a, (k0_off240 v405) a + S1x2176.size a ≤ S62976x2176.size a := fun v405 k0_hw80 => k0_hw80

def k0_off241 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c79_i32 : BitVec 32 := 79#32
  let v403 : BitVec 32 := Scalar.addi v7 c79_i32
  let c0_i32_168 : BitVec 32 := 0#32
  ![v403.toNat, 0]
def k0_off242 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v409 : Index := Scalar.indexCast arg9
  let c80 : Index := 80#32
  ![v409.toNat, 80]
def k0_off243 (v410 : BitVec 32) : Fin 2 → Nat :=
  let c0_i32_169 : BitVec 32 := 0#32
  ![v410.toNat, 0]

def k0_chk81 (v410 : BitVec 32) : Prop :=
  (∀ a, (k0_off243 v410) a + S1x2176.size a ≤ S62976x2176.size a)
theorem k0_off243_inb : ∀ (v410 : BitVec 32) (k0_hw81 : k0_chk81 v410), ∀ a, (k0_off243 v410) a + S1x2176.size a ≤ S62976x2176.size a := fun v410 k0_hw81 => k0_hw81

def k0_off244 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c80_i32 : BitVec 32 := 80#32
  let v408 : BitVec 32 := Scalar.addi v7 c80_i32
  let c0_i32_170 : BitVec 32 := 0#32
  ![v408.toNat, 0]
def k0_off245 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v414 : Index := Scalar.indexCast arg9
  let c81 : Index := 81#32
  ![v414.toNat, 81]
def k0_off246 (v415 : BitVec 32) : Fin 2 → Nat :=
  let c0_i32_171 : BitVec 32 := 0#32
  ![v415.toNat, 0]

def k0_chk82 (v415 : BitVec 32) : Prop :=
  (∀ a, (k0_off246 v415) a + S1x2176.size a ≤ S62976x2176.size a)
theorem k0_off246_inb : ∀ (v415 : BitVec 32) (k0_hw82 : k0_chk82 v415), ∀ a, (k0_off246 v415) a + S1x2176.size a ≤ S62976x2176.size a := fun v415 k0_hw82 => k0_hw82

def k0_off247 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c81_i32 : BitVec 32 := 81#32
  let v413 : BitVec 32 := Scalar.addi v7 c81_i32
  let c0_i32_172 : BitVec 32 := 0#32
  ![v413.toNat, 0]
def k0_off248 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v419 : Index := Scalar.indexCast arg9
  let c82 : Index := 82#32
  ![v419.toNat, 82]
def k0_off249 (v420 : BitVec 32) : Fin 2 → Nat :=
  let c0_i32_173 : BitVec 32 := 0#32
  ![v420.toNat, 0]

def k0_chk83 (v420 : BitVec 32) : Prop :=
  (∀ a, (k0_off249 v420) a + S1x2176.size a ≤ S62976x2176.size a)
theorem k0_off249_inb : ∀ (v420 : BitVec 32) (k0_hw83 : k0_chk83 v420), ∀ a, (k0_off249 v420) a + S1x2176.size a ≤ S62976x2176.size a := fun v420 k0_hw83 => k0_hw83

def k0_off250 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c82_i32 : BitVec 32 := 82#32
  let v418 : BitVec 32 := Scalar.addi v7 c82_i32
  let c0_i32_174 : BitVec 32 := 0#32
  ![v418.toNat, 0]
def k0_off251 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v424 : Index := Scalar.indexCast arg9
  let c83 : Index := 83#32
  ![v424.toNat, 83]
def k0_off252 (v425 : BitVec 32) : Fin 2 → Nat :=
  let c0_i32_175 : BitVec 32 := 0#32
  ![v425.toNat, 0]

def k0_chk84 (v425 : BitVec 32) : Prop :=
  (∀ a, (k0_off252 v425) a + S1x2176.size a ≤ S62976x2176.size a)
theorem k0_off252_inb : ∀ (v425 : BitVec 32) (k0_hw84 : k0_chk84 v425), ∀ a, (k0_off252 v425) a + S1x2176.size a ≤ S62976x2176.size a := fun v425 k0_hw84 => k0_hw84

def k0_off253 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c83_i32 : BitVec 32 := 83#32
  let v423 : BitVec 32 := Scalar.addi v7 c83_i32
  let c0_i32_176 : BitVec 32 := 0#32
  ![v423.toNat, 0]
def k0_off254 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v429 : Index := Scalar.indexCast arg9
  let c84 : Index := 84#32
  ![v429.toNat, 84]
def k0_off255 (v430 : BitVec 32) : Fin 2 → Nat :=
  let c0_i32_177 : BitVec 32 := 0#32
  ![v430.toNat, 0]

def k0_chk85 (v430 : BitVec 32) : Prop :=
  (∀ a, (k0_off255 v430) a + S1x2176.size a ≤ S62976x2176.size a)
theorem k0_off255_inb : ∀ (v430 : BitVec 32) (k0_hw85 : k0_chk85 v430), ∀ a, (k0_off255 v430) a + S1x2176.size a ≤ S62976x2176.size a := fun v430 k0_hw85 => k0_hw85

def k0_off256 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c84_i32 : BitVec 32 := 84#32
  let v428 : BitVec 32 := Scalar.addi v7 c84_i32
  let c0_i32_178 : BitVec 32 := 0#32
  ![v428.toNat, 0]
def k0_off257 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v434 : Index := Scalar.indexCast arg9
  let c85 : Index := 85#32
  ![v434.toNat, 85]
def k0_off258 (v435 : BitVec 32) : Fin 2 → Nat :=
  let c0_i32_179 : BitVec 32 := 0#32
  ![v435.toNat, 0]

def k0_chk86 (v435 : BitVec 32) : Prop :=
  (∀ a, (k0_off258 v435) a + S1x2176.size a ≤ S62976x2176.size a)
theorem k0_off258_inb : ∀ (v435 : BitVec 32) (k0_hw86 : k0_chk86 v435), ∀ a, (k0_off258 v435) a + S1x2176.size a ≤ S62976x2176.size a := fun v435 k0_hw86 => k0_hw86

def k0_off259 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c85_i32 : BitVec 32 := 85#32
  let v433 : BitVec 32 := Scalar.addi v7 c85_i32
  let c0_i32_180 : BitVec 32 := 0#32
  ![v433.toNat, 0]
def k0_off260 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v439 : Index := Scalar.indexCast arg9
  let c86 : Index := 86#32
  ![v439.toNat, 86]
def k0_off261 (v440 : BitVec 32) : Fin 2 → Nat :=
  let c0_i32_181 : BitVec 32 := 0#32
  ![v440.toNat, 0]

def k0_chk87 (v440 : BitVec 32) : Prop :=
  (∀ a, (k0_off261 v440) a + S1x2176.size a ≤ S62976x2176.size a)
theorem k0_off261_inb : ∀ (v440 : BitVec 32) (k0_hw87 : k0_chk87 v440), ∀ a, (k0_off261 v440) a + S1x2176.size a ≤ S62976x2176.size a := fun v440 k0_hw87 => k0_hw87

def k0_off262 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c86_i32 : BitVec 32 := 86#32
  let v438 : BitVec 32 := Scalar.addi v7 c86_i32
  let c0_i32_182 : BitVec 32 := 0#32
  ![v438.toNat, 0]
def k0_off263 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v444 : Index := Scalar.indexCast arg9
  let c87 : Index := 87#32
  ![v444.toNat, 87]
def k0_off264 (v445 : BitVec 32) : Fin 2 → Nat :=
  let c0_i32_183 : BitVec 32 := 0#32
  ![v445.toNat, 0]

def k0_chk88 (v445 : BitVec 32) : Prop :=
  (∀ a, (k0_off264 v445) a + S1x2176.size a ≤ S62976x2176.size a)
theorem k0_off264_inb : ∀ (v445 : BitVec 32) (k0_hw88 : k0_chk88 v445), ∀ a, (k0_off264 v445) a + S1x2176.size a ≤ S62976x2176.size a := fun v445 k0_hw88 => k0_hw88

def k0_off265 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c87_i32 : BitVec 32 := 87#32
  let v443 : BitVec 32 := Scalar.addi v7 c87_i32
  let c0_i32_184 : BitVec 32 := 0#32
  ![v443.toNat, 0]
def k0_off266 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v449 : Index := Scalar.indexCast arg9
  let c88 : Index := 88#32
  ![v449.toNat, 88]
def k0_off267 (v450 : BitVec 32) : Fin 2 → Nat :=
  let c0_i32_185 : BitVec 32 := 0#32
  ![v450.toNat, 0]

def k0_chk89 (v450 : BitVec 32) : Prop :=
  (∀ a, (k0_off267 v450) a + S1x2176.size a ≤ S62976x2176.size a)
theorem k0_off267_inb : ∀ (v450 : BitVec 32) (k0_hw89 : k0_chk89 v450), ∀ a, (k0_off267 v450) a + S1x2176.size a ≤ S62976x2176.size a := fun v450 k0_hw89 => k0_hw89

def k0_off268 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c88_i32 : BitVec 32 := 88#32
  let v448 : BitVec 32 := Scalar.addi v7 c88_i32
  let c0_i32_186 : BitVec 32 := 0#32
  ![v448.toNat, 0]
def k0_off269 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v454 : Index := Scalar.indexCast arg9
  let c89 : Index := 89#32
  ![v454.toNat, 89]
def k0_off270 (v455 : BitVec 32) : Fin 2 → Nat :=
  let c0_i32_187 : BitVec 32 := 0#32
  ![v455.toNat, 0]

def k0_chk90 (v455 : BitVec 32) : Prop :=
  (∀ a, (k0_off270 v455) a + S1x2176.size a ≤ S62976x2176.size a)
theorem k0_off270_inb : ∀ (v455 : BitVec 32) (k0_hw90 : k0_chk90 v455), ∀ a, (k0_off270 v455) a + S1x2176.size a ≤ S62976x2176.size a := fun v455 k0_hw90 => k0_hw90

def k0_off271 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c89_i32 : BitVec 32 := 89#32
  let v453 : BitVec 32 := Scalar.addi v7 c89_i32
  let c0_i32_188 : BitVec 32 := 0#32
  ![v453.toNat, 0]
def k0_off272 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v459 : Index := Scalar.indexCast arg9
  let c90 : Index := 90#32
  ![v459.toNat, 90]
def k0_off273 (v460 : BitVec 32) : Fin 2 → Nat :=
  let c0_i32_189 : BitVec 32 := 0#32
  ![v460.toNat, 0]

def k0_chk91 (v460 : BitVec 32) : Prop :=
  (∀ a, (k0_off273 v460) a + S1x2176.size a ≤ S62976x2176.size a)
theorem k0_off273_inb : ∀ (v460 : BitVec 32) (k0_hw91 : k0_chk91 v460), ∀ a, (k0_off273 v460) a + S1x2176.size a ≤ S62976x2176.size a := fun v460 k0_hw91 => k0_hw91

def k0_off274 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c90_i32 : BitVec 32 := 90#32
  let v458 : BitVec 32 := Scalar.addi v7 c90_i32
  let c0_i32_190 : BitVec 32 := 0#32
  ![v458.toNat, 0]
def k0_off275 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v464 : Index := Scalar.indexCast arg9
  let c91 : Index := 91#32
  ![v464.toNat, 91]
def k0_off276 (v465 : BitVec 32) : Fin 2 → Nat :=
  let c0_i32_191 : BitVec 32 := 0#32
  ![v465.toNat, 0]

def k0_chk92 (v465 : BitVec 32) : Prop :=
  (∀ a, (k0_off276 v465) a + S1x2176.size a ≤ S62976x2176.size a)
theorem k0_off276_inb : ∀ (v465 : BitVec 32) (k0_hw92 : k0_chk92 v465), ∀ a, (k0_off276 v465) a + S1x2176.size a ≤ S62976x2176.size a := fun v465 k0_hw92 => k0_hw92

def k0_off277 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c91_i32 : BitVec 32 := 91#32
  let v463 : BitVec 32 := Scalar.addi v7 c91_i32
  let c0_i32_192 : BitVec 32 := 0#32
  ![v463.toNat, 0]
def k0_off278 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v469 : Index := Scalar.indexCast arg9
  let c92 : Index := 92#32
  ![v469.toNat, 92]
def k0_off279 (v470 : BitVec 32) : Fin 2 → Nat :=
  let c0_i32_193 : BitVec 32 := 0#32
  ![v470.toNat, 0]

def k0_chk93 (v470 : BitVec 32) : Prop :=
  (∀ a, (k0_off279 v470) a + S1x2176.size a ≤ S62976x2176.size a)
theorem k0_off279_inb : ∀ (v470 : BitVec 32) (k0_hw93 : k0_chk93 v470), ∀ a, (k0_off279 v470) a + S1x2176.size a ≤ S62976x2176.size a := fun v470 k0_hw93 => k0_hw93

def k0_off280 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c92_i32 : BitVec 32 := 92#32
  let v468 : BitVec 32 := Scalar.addi v7 c92_i32
  let c0_i32_194 : BitVec 32 := 0#32
  ![v468.toNat, 0]
def k0_off281 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v474 : Index := Scalar.indexCast arg9
  let c93 : Index := 93#32
  ![v474.toNat, 93]
def k0_off282 (v475 : BitVec 32) : Fin 2 → Nat :=
  let c0_i32_195 : BitVec 32 := 0#32
  ![v475.toNat, 0]

def k0_chk94 (v475 : BitVec 32) : Prop :=
  (∀ a, (k0_off282 v475) a + S1x2176.size a ≤ S62976x2176.size a)
theorem k0_off282_inb : ∀ (v475 : BitVec 32) (k0_hw94 : k0_chk94 v475), ∀ a, (k0_off282 v475) a + S1x2176.size a ≤ S62976x2176.size a := fun v475 k0_hw94 => k0_hw94

def k0_off283 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c93_i32 : BitVec 32 := 93#32
  let v473 : BitVec 32 := Scalar.addi v7 c93_i32
  let c0_i32_196 : BitVec 32 := 0#32
  ![v473.toNat, 0]
def k0_off284 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v479 : Index := Scalar.indexCast arg9
  let c94 : Index := 94#32
  ![v479.toNat, 94]
def k0_off285 (v480 : BitVec 32) : Fin 2 → Nat :=
  let c0_i32_197 : BitVec 32 := 0#32
  ![v480.toNat, 0]

def k0_chk95 (v480 : BitVec 32) : Prop :=
  (∀ a, (k0_off285 v480) a + S1x2176.size a ≤ S62976x2176.size a)
theorem k0_off285_inb : ∀ (v480 : BitVec 32) (k0_hw95 : k0_chk95 v480), ∀ a, (k0_off285 v480) a + S1x2176.size a ≤ S62976x2176.size a := fun v480 k0_hw95 => k0_hw95

def k0_off286 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c94_i32 : BitVec 32 := 94#32
  let v478 : BitVec 32 := Scalar.addi v7 c94_i32
  let c0_i32_198 : BitVec 32 := 0#32
  ![v478.toNat, 0]
def k0_off287 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v484 : Index := Scalar.indexCast arg9
  let c95 : Index := 95#32
  ![v484.toNat, 95]
def k0_off288 (v485 : BitVec 32) : Fin 2 → Nat :=
  let c0_i32_199 : BitVec 32 := 0#32
  ![v485.toNat, 0]

def k0_chk96 (v485 : BitVec 32) : Prop :=
  (∀ a, (k0_off288 v485) a + S1x2176.size a ≤ S62976x2176.size a)
theorem k0_off288_inb : ∀ (v485 : BitVec 32) (k0_hw96 : k0_chk96 v485), ∀ a, (k0_off288 v485) a + S1x2176.size a ≤ S62976x2176.size a := fun v485 k0_hw96 => k0_hw96

def k0_off289 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c95_i32 : BitVec 32 := 95#32
  let v483 : BitVec 32 := Scalar.addi v7 c95_i32
  let c0_i32_200 : BitVec 32 := 0#32
  ![v483.toNat, 0]
def k0_off290 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v489 : Index := Scalar.indexCast arg9
  let c96 : Index := 96#32
  ![v489.toNat, 96]
def k0_off291 (v490 : BitVec 32) : Fin 2 → Nat :=
  let c0_i32_201 : BitVec 32 := 0#32
  ![v490.toNat, 0]

def k0_chk97 (v490 : BitVec 32) : Prop :=
  (∀ a, (k0_off291 v490) a + S1x2176.size a ≤ S62976x2176.size a)
theorem k0_off291_inb : ∀ (v490 : BitVec 32) (k0_hw97 : k0_chk97 v490), ∀ a, (k0_off291 v490) a + S1x2176.size a ≤ S62976x2176.size a := fun v490 k0_hw97 => k0_hw97

def k0_off292 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c96_i32 : BitVec 32 := 96#32
  let v488 : BitVec 32 := Scalar.addi v7 c96_i32
  let c0_i32_202 : BitVec 32 := 0#32
  ![v488.toNat, 0]
def k0_off293 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v494 : Index := Scalar.indexCast arg9
  let c97 : Index := 97#32
  ![v494.toNat, 97]
def k0_off294 (v495 : BitVec 32) : Fin 2 → Nat :=
  let c0_i32_203 : BitVec 32 := 0#32
  ![v495.toNat, 0]

def k0_chk98 (v495 : BitVec 32) : Prop :=
  (∀ a, (k0_off294 v495) a + S1x2176.size a ≤ S62976x2176.size a)
theorem k0_off294_inb : ∀ (v495 : BitVec 32) (k0_hw98 : k0_chk98 v495), ∀ a, (k0_off294 v495) a + S1x2176.size a ≤ S62976x2176.size a := fun v495 k0_hw98 => k0_hw98

def k0_off295 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c97_i32 : BitVec 32 := 97#32
  let v493 : BitVec 32 := Scalar.addi v7 c97_i32
  let c0_i32_204 : BitVec 32 := 0#32
  ![v493.toNat, 0]
def k0_off296 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v499 : Index := Scalar.indexCast arg9
  let c98 : Index := 98#32
  ![v499.toNat, 98]
def k0_off297 (v500 : BitVec 32) : Fin 2 → Nat :=
  let c0_i32_205 : BitVec 32 := 0#32
  ![v500.toNat, 0]

def k0_chk99 (v500 : BitVec 32) : Prop :=
  (∀ a, (k0_off297 v500) a + S1x2176.size a ≤ S62976x2176.size a)
theorem k0_off297_inb : ∀ (v500 : BitVec 32) (k0_hw99 : k0_chk99 v500), ∀ a, (k0_off297 v500) a + S1x2176.size a ≤ S62976x2176.size a := fun v500 k0_hw99 => k0_hw99

def k0_off298 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c98_i32 : BitVec 32 := 98#32
  let v498 : BitVec 32 := Scalar.addi v7 c98_i32
  let c0_i32_206 : BitVec 32 := 0#32
  ![v498.toNat, 0]
def k0_off299 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v504 : Index := Scalar.indexCast arg9
  let c99 : Index := 99#32
  ![v504.toNat, 99]
def k0_off300 (v505 : BitVec 32) : Fin 2 → Nat :=
  let c0_i32_207 : BitVec 32 := 0#32
  ![v505.toNat, 0]

def k0_chk100 (v505 : BitVec 32) : Prop :=
  (∀ a, (k0_off300 v505) a + S1x2176.size a ≤ S62976x2176.size a)
theorem k0_off300_inb : ∀ (v505 : BitVec 32) (k0_hw100 : k0_chk100 v505), ∀ a, (k0_off300 v505) a + S1x2176.size a ≤ S62976x2176.size a := fun v505 k0_hw100 => k0_hw100

def k0_off301 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c99_i32 : BitVec 32 := 99#32
  let v503 : BitVec 32 := Scalar.addi v7 c99_i32
  let c0_i32_208 : BitVec 32 := 0#32
  ![v503.toNat, 0]
def k0_off302 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v509 : Index := Scalar.indexCast arg9
  let c100 : Index := 100#32
  ![v509.toNat, 100]
def k0_off303 (v510 : BitVec 32) : Fin 2 → Nat :=
  let c0_i32_209 : BitVec 32 := 0#32
  ![v510.toNat, 0]

def k0_chk101 (v510 : BitVec 32) : Prop :=
  (∀ a, (k0_off303 v510) a + S1x2176.size a ≤ S62976x2176.size a)
theorem k0_off303_inb : ∀ (v510 : BitVec 32) (k0_hw101 : k0_chk101 v510), ∀ a, (k0_off303 v510) a + S1x2176.size a ≤ S62976x2176.size a := fun v510 k0_hw101 => k0_hw101

def k0_off304 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c100_i32 : BitVec 32 := 100#32
  let v508 : BitVec 32 := Scalar.addi v7 c100_i32
  let c0_i32_210 : BitVec 32 := 0#32
  ![v508.toNat, 0]
def k0_off305 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v514 : Index := Scalar.indexCast arg9
  let c101 : Index := 101#32
  ![v514.toNat, 101]
def k0_off306 (v515 : BitVec 32) : Fin 2 → Nat :=
  let c0_i32_211 : BitVec 32 := 0#32
  ![v515.toNat, 0]

def k0_chk102 (v515 : BitVec 32) : Prop :=
  (∀ a, (k0_off306 v515) a + S1x2176.size a ≤ S62976x2176.size a)
theorem k0_off306_inb : ∀ (v515 : BitVec 32) (k0_hw102 : k0_chk102 v515), ∀ a, (k0_off306 v515) a + S1x2176.size a ≤ S62976x2176.size a := fun v515 k0_hw102 => k0_hw102

def k0_off307 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c101_i32 : BitVec 32 := 101#32
  let v513 : BitVec 32 := Scalar.addi v7 c101_i32
  let c0_i32_212 : BitVec 32 := 0#32
  ![v513.toNat, 0]
def k0_off308 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v519 : Index := Scalar.indexCast arg9
  let c102 : Index := 102#32
  ![v519.toNat, 102]
def k0_off309 (v520 : BitVec 32) : Fin 2 → Nat :=
  let c0_i32_213 : BitVec 32 := 0#32
  ![v520.toNat, 0]

def k0_chk103 (v520 : BitVec 32) : Prop :=
  (∀ a, (k0_off309 v520) a + S1x2176.size a ≤ S62976x2176.size a)
theorem k0_off309_inb : ∀ (v520 : BitVec 32) (k0_hw103 : k0_chk103 v520), ∀ a, (k0_off309 v520) a + S1x2176.size a ≤ S62976x2176.size a := fun v520 k0_hw103 => k0_hw103

def k0_off310 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c102_i32 : BitVec 32 := 102#32
  let v518 : BitVec 32 := Scalar.addi v7 c102_i32
  let c0_i32_214 : BitVec 32 := 0#32
  ![v518.toNat, 0]
def k0_off311 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v524 : Index := Scalar.indexCast arg9
  let c103 : Index := 103#32
  ![v524.toNat, 103]
def k0_off312 (v525 : BitVec 32) : Fin 2 → Nat :=
  let c0_i32_215 : BitVec 32 := 0#32
  ![v525.toNat, 0]

def k0_chk104 (v525 : BitVec 32) : Prop :=
  (∀ a, (k0_off312 v525) a + S1x2176.size a ≤ S62976x2176.size a)
theorem k0_off312_inb : ∀ (v525 : BitVec 32) (k0_hw104 : k0_chk104 v525), ∀ a, (k0_off312 v525) a + S1x2176.size a ≤ S62976x2176.size a := fun v525 k0_hw104 => k0_hw104

def k0_off313 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c103_i32 : BitVec 32 := 103#32
  let v523 : BitVec 32 := Scalar.addi v7 c103_i32
  let c0_i32_216 : BitVec 32 := 0#32
  ![v523.toNat, 0]
def k0_off314 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v529 : Index := Scalar.indexCast arg9
  let c104 : Index := 104#32
  ![v529.toNat, 104]
def k0_off315 (v530 : BitVec 32) : Fin 2 → Nat :=
  let c0_i32_217 : BitVec 32 := 0#32
  ![v530.toNat, 0]

def k0_chk105 (v530 : BitVec 32) : Prop :=
  (∀ a, (k0_off315 v530) a + S1x2176.size a ≤ S62976x2176.size a)
theorem k0_off315_inb : ∀ (v530 : BitVec 32) (k0_hw105 : k0_chk105 v530), ∀ a, (k0_off315 v530) a + S1x2176.size a ≤ S62976x2176.size a := fun v530 k0_hw105 => k0_hw105

def k0_off316 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c104_i32 : BitVec 32 := 104#32
  let v528 : BitVec 32 := Scalar.addi v7 c104_i32
  let c0_i32_218 : BitVec 32 := 0#32
  ![v528.toNat, 0]
def k0_off317 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v534 : Index := Scalar.indexCast arg9
  let c105 : Index := 105#32
  ![v534.toNat, 105]
def k0_off318 (v535 : BitVec 32) : Fin 2 → Nat :=
  let c0_i32_219 : BitVec 32 := 0#32
  ![v535.toNat, 0]

def k0_chk106 (v535 : BitVec 32) : Prop :=
  (∀ a, (k0_off318 v535) a + S1x2176.size a ≤ S62976x2176.size a)
theorem k0_off318_inb : ∀ (v535 : BitVec 32) (k0_hw106 : k0_chk106 v535), ∀ a, (k0_off318 v535) a + S1x2176.size a ≤ S62976x2176.size a := fun v535 k0_hw106 => k0_hw106

def k0_off319 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c105_i32 : BitVec 32 := 105#32
  let v533 : BitVec 32 := Scalar.addi v7 c105_i32
  let c0_i32_220 : BitVec 32 := 0#32
  ![v533.toNat, 0]
def k0_off320 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v539 : Index := Scalar.indexCast arg9
  let c106 : Index := 106#32
  ![v539.toNat, 106]
def k0_off321 (v540 : BitVec 32) : Fin 2 → Nat :=
  let c0_i32_221 : BitVec 32 := 0#32
  ![v540.toNat, 0]

def k0_chk107 (v540 : BitVec 32) : Prop :=
  (∀ a, (k0_off321 v540) a + S1x2176.size a ≤ S62976x2176.size a)
theorem k0_off321_inb : ∀ (v540 : BitVec 32) (k0_hw107 : k0_chk107 v540), ∀ a, (k0_off321 v540) a + S1x2176.size a ≤ S62976x2176.size a := fun v540 k0_hw107 => k0_hw107

def k0_off322 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c106_i32 : BitVec 32 := 106#32
  let v538 : BitVec 32 := Scalar.addi v7 c106_i32
  let c0_i32_222 : BitVec 32 := 0#32
  ![v538.toNat, 0]
def k0_off323 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v544 : Index := Scalar.indexCast arg9
  let c107 : Index := 107#32
  ![v544.toNat, 107]
def k0_off324 (v545 : BitVec 32) : Fin 2 → Nat :=
  let c0_i32_223 : BitVec 32 := 0#32
  ![v545.toNat, 0]

def k0_chk108 (v545 : BitVec 32) : Prop :=
  (∀ a, (k0_off324 v545) a + S1x2176.size a ≤ S62976x2176.size a)
theorem k0_off324_inb : ∀ (v545 : BitVec 32) (k0_hw108 : k0_chk108 v545), ∀ a, (k0_off324 v545) a + S1x2176.size a ≤ S62976x2176.size a := fun v545 k0_hw108 => k0_hw108

def k0_off325 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c107_i32 : BitVec 32 := 107#32
  let v543 : BitVec 32 := Scalar.addi v7 c107_i32
  let c0_i32_224 : BitVec 32 := 0#32
  ![v543.toNat, 0]
def k0_off326 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v549 : Index := Scalar.indexCast arg9
  let c108 : Index := 108#32
  ![v549.toNat, 108]
def k0_off327 (v550 : BitVec 32) : Fin 2 → Nat :=
  let c0_i32_225 : BitVec 32 := 0#32
  ![v550.toNat, 0]

def k0_chk109 (v550 : BitVec 32) : Prop :=
  (∀ a, (k0_off327 v550) a + S1x2176.size a ≤ S62976x2176.size a)
theorem k0_off327_inb : ∀ (v550 : BitVec 32) (k0_hw109 : k0_chk109 v550), ∀ a, (k0_off327 v550) a + S1x2176.size a ≤ S62976x2176.size a := fun v550 k0_hw109 => k0_hw109

def k0_off328 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c108_i32 : BitVec 32 := 108#32
  let v548 : BitVec 32 := Scalar.addi v7 c108_i32
  let c0_i32_226 : BitVec 32 := 0#32
  ![v548.toNat, 0]
def k0_off329 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v554 : Index := Scalar.indexCast arg9
  let c109 : Index := 109#32
  ![v554.toNat, 109]
def k0_off330 (v555 : BitVec 32) : Fin 2 → Nat :=
  let c0_i32_227 : BitVec 32 := 0#32
  ![v555.toNat, 0]

def k0_chk110 (v555 : BitVec 32) : Prop :=
  (∀ a, (k0_off330 v555) a + S1x2176.size a ≤ S62976x2176.size a)
theorem k0_off330_inb : ∀ (v555 : BitVec 32) (k0_hw110 : k0_chk110 v555), ∀ a, (k0_off330 v555) a + S1x2176.size a ≤ S62976x2176.size a := fun v555 k0_hw110 => k0_hw110

def k0_off331 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c109_i32 : BitVec 32 := 109#32
  let v553 : BitVec 32 := Scalar.addi v7 c109_i32
  let c0_i32_228 : BitVec 32 := 0#32
  ![v553.toNat, 0]
def k0_off332 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v559 : Index := Scalar.indexCast arg9
  let c110 : Index := 110#32
  ![v559.toNat, 110]
def k0_off333 (v560 : BitVec 32) : Fin 2 → Nat :=
  let c0_i32_229 : BitVec 32 := 0#32
  ![v560.toNat, 0]

def k0_chk111 (v560 : BitVec 32) : Prop :=
  (∀ a, (k0_off333 v560) a + S1x2176.size a ≤ S62976x2176.size a)
theorem k0_off333_inb : ∀ (v560 : BitVec 32) (k0_hw111 : k0_chk111 v560), ∀ a, (k0_off333 v560) a + S1x2176.size a ≤ S62976x2176.size a := fun v560 k0_hw111 => k0_hw111

def k0_off334 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c110_i32 : BitVec 32 := 110#32
  let v558 : BitVec 32 := Scalar.addi v7 c110_i32
  let c0_i32_230 : BitVec 32 := 0#32
  ![v558.toNat, 0]
def k0_off335 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v564 : Index := Scalar.indexCast arg9
  let c111 : Index := 111#32
  ![v564.toNat, 111]
def k0_off336 (v565 : BitVec 32) : Fin 2 → Nat :=
  let c0_i32_231 : BitVec 32 := 0#32
  ![v565.toNat, 0]

def k0_chk112 (v565 : BitVec 32) : Prop :=
  (∀ a, (k0_off336 v565) a + S1x2176.size a ≤ S62976x2176.size a)
theorem k0_off336_inb : ∀ (v565 : BitVec 32) (k0_hw112 : k0_chk112 v565), ∀ a, (k0_off336 v565) a + S1x2176.size a ≤ S62976x2176.size a := fun v565 k0_hw112 => k0_hw112

def k0_off337 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c111_i32 : BitVec 32 := 111#32
  let v563 : BitVec 32 := Scalar.addi v7 c111_i32
  let c0_i32_232 : BitVec 32 := 0#32
  ![v563.toNat, 0]
def k0_off338 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v569 : Index := Scalar.indexCast arg9
  let c112 : Index := 112#32
  ![v569.toNat, 112]
def k0_off339 (v570 : BitVec 32) : Fin 2 → Nat :=
  let c0_i32_233 : BitVec 32 := 0#32
  ![v570.toNat, 0]

def k0_chk113 (v570 : BitVec 32) : Prop :=
  (∀ a, (k0_off339 v570) a + S1x2176.size a ≤ S62976x2176.size a)
theorem k0_off339_inb : ∀ (v570 : BitVec 32) (k0_hw113 : k0_chk113 v570), ∀ a, (k0_off339 v570) a + S1x2176.size a ≤ S62976x2176.size a := fun v570 k0_hw113 => k0_hw113

def k0_off340 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c112_i32 : BitVec 32 := 112#32
  let v568 : BitVec 32 := Scalar.addi v7 c112_i32
  let c0_i32_234 : BitVec 32 := 0#32
  ![v568.toNat, 0]
def k0_off341 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v574 : Index := Scalar.indexCast arg9
  let c113 : Index := 113#32
  ![v574.toNat, 113]
def k0_off342 (v575 : BitVec 32) : Fin 2 → Nat :=
  let c0_i32_235 : BitVec 32 := 0#32
  ![v575.toNat, 0]

def k0_chk114 (v575 : BitVec 32) : Prop :=
  (∀ a, (k0_off342 v575) a + S1x2176.size a ≤ S62976x2176.size a)
theorem k0_off342_inb : ∀ (v575 : BitVec 32) (k0_hw114 : k0_chk114 v575), ∀ a, (k0_off342 v575) a + S1x2176.size a ≤ S62976x2176.size a := fun v575 k0_hw114 => k0_hw114

def k0_off343 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c113_i32 : BitVec 32 := 113#32
  let v573 : BitVec 32 := Scalar.addi v7 c113_i32
  let c0_i32_236 : BitVec 32 := 0#32
  ![v573.toNat, 0]
def k0_off344 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v579 : Index := Scalar.indexCast arg9
  let c114 : Index := 114#32
  ![v579.toNat, 114]
def k0_off345 (v580 : BitVec 32) : Fin 2 → Nat :=
  let c0_i32_237 : BitVec 32 := 0#32
  ![v580.toNat, 0]

def k0_chk115 (v580 : BitVec 32) : Prop :=
  (∀ a, (k0_off345 v580) a + S1x2176.size a ≤ S62976x2176.size a)
theorem k0_off345_inb : ∀ (v580 : BitVec 32) (k0_hw115 : k0_chk115 v580), ∀ a, (k0_off345 v580) a + S1x2176.size a ≤ S62976x2176.size a := fun v580 k0_hw115 => k0_hw115

def k0_off346 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c114_i32 : BitVec 32 := 114#32
  let v578 : BitVec 32 := Scalar.addi v7 c114_i32
  let c0_i32_238 : BitVec 32 := 0#32
  ![v578.toNat, 0]
def k0_off347 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v584 : Index := Scalar.indexCast arg9
  let c115 : Index := 115#32
  ![v584.toNat, 115]
def k0_off348 (v585 : BitVec 32) : Fin 2 → Nat :=
  let c0_i32_239 : BitVec 32 := 0#32
  ![v585.toNat, 0]

def k0_chk116 (v585 : BitVec 32) : Prop :=
  (∀ a, (k0_off348 v585) a + S1x2176.size a ≤ S62976x2176.size a)
theorem k0_off348_inb : ∀ (v585 : BitVec 32) (k0_hw116 : k0_chk116 v585), ∀ a, (k0_off348 v585) a + S1x2176.size a ≤ S62976x2176.size a := fun v585 k0_hw116 => k0_hw116

def k0_off349 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c115_i32 : BitVec 32 := 115#32
  let v583 : BitVec 32 := Scalar.addi v7 c115_i32
  let c0_i32_240 : BitVec 32 := 0#32
  ![v583.toNat, 0]
def k0_off350 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v589 : Index := Scalar.indexCast arg9
  let c116 : Index := 116#32
  ![v589.toNat, 116]
def k0_off351 (v590 : BitVec 32) : Fin 2 → Nat :=
  let c0_i32_241 : BitVec 32 := 0#32
  ![v590.toNat, 0]

def k0_chk117 (v590 : BitVec 32) : Prop :=
  (∀ a, (k0_off351 v590) a + S1x2176.size a ≤ S62976x2176.size a)
theorem k0_off351_inb : ∀ (v590 : BitVec 32) (k0_hw117 : k0_chk117 v590), ∀ a, (k0_off351 v590) a + S1x2176.size a ≤ S62976x2176.size a := fun v590 k0_hw117 => k0_hw117

def k0_off352 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c116_i32 : BitVec 32 := 116#32
  let v588 : BitVec 32 := Scalar.addi v7 c116_i32
  let c0_i32_242 : BitVec 32 := 0#32
  ![v588.toNat, 0]
def k0_off353 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v594 : Index := Scalar.indexCast arg9
  let c117 : Index := 117#32
  ![v594.toNat, 117]
def k0_off354 (v595 : BitVec 32) : Fin 2 → Nat :=
  let c0_i32_243 : BitVec 32 := 0#32
  ![v595.toNat, 0]

def k0_chk118 (v595 : BitVec 32) : Prop :=
  (∀ a, (k0_off354 v595) a + S1x2176.size a ≤ S62976x2176.size a)
theorem k0_off354_inb : ∀ (v595 : BitVec 32) (k0_hw118 : k0_chk118 v595), ∀ a, (k0_off354 v595) a + S1x2176.size a ≤ S62976x2176.size a := fun v595 k0_hw118 => k0_hw118

def k0_off355 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c117_i32 : BitVec 32 := 117#32
  let v593 : BitVec 32 := Scalar.addi v7 c117_i32
  let c0_i32_244 : BitVec 32 := 0#32
  ![v593.toNat, 0]
def k0_off356 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v599 : Index := Scalar.indexCast arg9
  let c118 : Index := 118#32
  ![v599.toNat, 118]
def k0_off357 (v600 : BitVec 32) : Fin 2 → Nat :=
  let c0_i32_245 : BitVec 32 := 0#32
  ![v600.toNat, 0]

def k0_chk119 (v600 : BitVec 32) : Prop :=
  (∀ a, (k0_off357 v600) a + S1x2176.size a ≤ S62976x2176.size a)
theorem k0_off357_inb : ∀ (v600 : BitVec 32) (k0_hw119 : k0_chk119 v600), ∀ a, (k0_off357 v600) a + S1x2176.size a ≤ S62976x2176.size a := fun v600 k0_hw119 => k0_hw119

def k0_off358 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c118_i32 : BitVec 32 := 118#32
  let v598 : BitVec 32 := Scalar.addi v7 c118_i32
  let c0_i32_246 : BitVec 32 := 0#32
  ![v598.toNat, 0]
def k0_off359 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v604 : Index := Scalar.indexCast arg9
  let c119 : Index := 119#32
  ![v604.toNat, 119]
def k0_off360 (v605 : BitVec 32) : Fin 2 → Nat :=
  let c0_i32_247 : BitVec 32 := 0#32
  ![v605.toNat, 0]

def k0_chk120 (v605 : BitVec 32) : Prop :=
  (∀ a, (k0_off360 v605) a + S1x2176.size a ≤ S62976x2176.size a)
theorem k0_off360_inb : ∀ (v605 : BitVec 32) (k0_hw120 : k0_chk120 v605), ∀ a, (k0_off360 v605) a + S1x2176.size a ≤ S62976x2176.size a := fun v605 k0_hw120 => k0_hw120

def k0_off361 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c119_i32 : BitVec 32 := 119#32
  let v603 : BitVec 32 := Scalar.addi v7 c119_i32
  let c0_i32_248 : BitVec 32 := 0#32
  ![v603.toNat, 0]
def k0_off362 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v609 : Index := Scalar.indexCast arg9
  let c120 : Index := 120#32
  ![v609.toNat, 120]
def k0_off363 (v610 : BitVec 32) : Fin 2 → Nat :=
  let c0_i32_249 : BitVec 32 := 0#32
  ![v610.toNat, 0]

def k0_chk121 (v610 : BitVec 32) : Prop :=
  (∀ a, (k0_off363 v610) a + S1x2176.size a ≤ S62976x2176.size a)
theorem k0_off363_inb : ∀ (v610 : BitVec 32) (k0_hw121 : k0_chk121 v610), ∀ a, (k0_off363 v610) a + S1x2176.size a ≤ S62976x2176.size a := fun v610 k0_hw121 => k0_hw121

def k0_off364 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c120_i32 : BitVec 32 := 120#32
  let v608 : BitVec 32 := Scalar.addi v7 c120_i32
  let c0_i32_250 : BitVec 32 := 0#32
  ![v608.toNat, 0]
def k0_off365 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v614 : Index := Scalar.indexCast arg9
  let c121 : Index := 121#32
  ![v614.toNat, 121]
def k0_off366 (v615 : BitVec 32) : Fin 2 → Nat :=
  let c0_i32_251 : BitVec 32 := 0#32
  ![v615.toNat, 0]

def k0_chk122 (v615 : BitVec 32) : Prop :=
  (∀ a, (k0_off366 v615) a + S1x2176.size a ≤ S62976x2176.size a)
theorem k0_off366_inb : ∀ (v615 : BitVec 32) (k0_hw122 : k0_chk122 v615), ∀ a, (k0_off366 v615) a + S1x2176.size a ≤ S62976x2176.size a := fun v615 k0_hw122 => k0_hw122

def k0_off367 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c121_i32 : BitVec 32 := 121#32
  let v613 : BitVec 32 := Scalar.addi v7 c121_i32
  let c0_i32_252 : BitVec 32 := 0#32
  ![v613.toNat, 0]
def k0_off368 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v619 : Index := Scalar.indexCast arg9
  let c122 : Index := 122#32
  ![v619.toNat, 122]
def k0_off369 (v620 : BitVec 32) : Fin 2 → Nat :=
  let c0_i32_253 : BitVec 32 := 0#32
  ![v620.toNat, 0]

def k0_chk123 (v620 : BitVec 32) : Prop :=
  (∀ a, (k0_off369 v620) a + S1x2176.size a ≤ S62976x2176.size a)
theorem k0_off369_inb : ∀ (v620 : BitVec 32) (k0_hw123 : k0_chk123 v620), ∀ a, (k0_off369 v620) a + S1x2176.size a ≤ S62976x2176.size a := fun v620 k0_hw123 => k0_hw123

def k0_off370 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c122_i32 : BitVec 32 := 122#32
  let v618 : BitVec 32 := Scalar.addi v7 c122_i32
  let c0_i32_254 : BitVec 32 := 0#32
  ![v618.toNat, 0]
def k0_off371 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v624 : Index := Scalar.indexCast arg9
  let c123 : Index := 123#32
  ![v624.toNat, 123]
def k0_off372 (v625 : BitVec 32) : Fin 2 → Nat :=
  let c0_i32_255 : BitVec 32 := 0#32
  ![v625.toNat, 0]

def k0_chk124 (v625 : BitVec 32) : Prop :=
  (∀ a, (k0_off372 v625) a + S1x2176.size a ≤ S62976x2176.size a)
theorem k0_off372_inb : ∀ (v625 : BitVec 32) (k0_hw124 : k0_chk124 v625), ∀ a, (k0_off372 v625) a + S1x2176.size a ≤ S62976x2176.size a := fun v625 k0_hw124 => k0_hw124

def k0_off373 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c123_i32 : BitVec 32 := 123#32
  let v623 : BitVec 32 := Scalar.addi v7 c123_i32
  let c0_i32_256 : BitVec 32 := 0#32
  ![v623.toNat, 0]
def k0_off374 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v629 : Index := Scalar.indexCast arg9
  let c124 : Index := 124#32
  ![v629.toNat, 124]
def k0_off375 (v630 : BitVec 32) : Fin 2 → Nat :=
  let c0_i32_257 : BitVec 32 := 0#32
  ![v630.toNat, 0]

def k0_chk125 (v630 : BitVec 32) : Prop :=
  (∀ a, (k0_off375 v630) a + S1x2176.size a ≤ S62976x2176.size a)
theorem k0_off375_inb : ∀ (v630 : BitVec 32) (k0_hw125 : k0_chk125 v630), ∀ a, (k0_off375 v630) a + S1x2176.size a ≤ S62976x2176.size a := fun v630 k0_hw125 => k0_hw125

def k0_off376 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c124_i32 : BitVec 32 := 124#32
  let v628 : BitVec 32 := Scalar.addi v7 c124_i32
  let c0_i32_258 : BitVec 32 := 0#32
  ![v628.toNat, 0]
def k0_off377 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v634 : Index := Scalar.indexCast arg9
  let c125 : Index := 125#32
  ![v634.toNat, 125]
def k0_off378 (v635 : BitVec 32) : Fin 2 → Nat :=
  let c0_i32_259 : BitVec 32 := 0#32
  ![v635.toNat, 0]

def k0_chk126 (v635 : BitVec 32) : Prop :=
  (∀ a, (k0_off378 v635) a + S1x2176.size a ≤ S62976x2176.size a)
theorem k0_off378_inb : ∀ (v635 : BitVec 32) (k0_hw126 : k0_chk126 v635), ∀ a, (k0_off378 v635) a + S1x2176.size a ≤ S62976x2176.size a := fun v635 k0_hw126 => k0_hw126

def k0_off379 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c125_i32 : BitVec 32 := 125#32
  let v633 : BitVec 32 := Scalar.addi v7 c125_i32
  let c0_i32_260 : BitVec 32 := 0#32
  ![v633.toNat, 0]
def k0_off380 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v639 : Index := Scalar.indexCast arg9
  let c126 : Index := 126#32
  ![v639.toNat, 126]
def k0_off381 (v640 : BitVec 32) : Fin 2 → Nat :=
  let c0_i32_261 : BitVec 32 := 0#32
  ![v640.toNat, 0]

def k0_chk127 (v640 : BitVec 32) : Prop :=
  (∀ a, (k0_off381 v640) a + S1x2176.size a ≤ S62976x2176.size a)
theorem k0_off381_inb : ∀ (v640 : BitVec 32) (k0_hw127 : k0_chk127 v640), ∀ a, (k0_off381 v640) a + S1x2176.size a ≤ S62976x2176.size a := fun v640 k0_hw127 => k0_hw127

def k0_off382 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c126_i32 : BitVec 32 := 126#32
  let v638 : BitVec 32 := Scalar.addi v7 c126_i32
  let c0_i32_262 : BitVec 32 := 0#32
  ![v638.toNat, 0]
def k0_off383 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v644 : Index := Scalar.indexCast arg9
  let c127 : Index := 127#32
  ![v644.toNat, 127]
def k0_off384 (v645 : BitVec 32) : Fin 2 → Nat :=
  let c0_i32_263 : BitVec 32 := 0#32
  ![v645.toNat, 0]

def k0_chk128 (v645 : BitVec 32) : Prop :=
  (∀ a, (k0_off384 v645) a + S1x2176.size a ≤ S62976x2176.size a)
theorem k0_off384_inb : ∀ (v645 : BitVec 32) (k0_hw128 : k0_chk128 v645), ∀ a, (k0_off384 v645) a + S1x2176.size a ≤ S62976x2176.size a := fun v645 k0_hw128 => k0_hw128

def k0_off385 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v6 : BitVec 32 := Scalar.muli arg9 c128_i32
  let v7 : BitVec 32 := v6
  let c127_i32 : BitVec 32 := 127#32
  let v643 : BitVec 32 := Scalar.addi v7 c127_i32
  let c0_i32_264 : BitVec 32 := 0#32
  ![v643.toNat, 0]
@[reducible] def k0_t2_loop : Scf.Loop 32 :=
  let c0_i32_4 : BitVec 32 := 0#32
  let c1024_i32 : BitVec 32 := 1024#32
  let v5 : BitVec 32 := Scalar.addi c0_i32_4 c1024_i32
  let c1_i32_5 : BitVec 32 := 1#32
  ⟨c0_i32_4, v5, c1_i32_5⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]
-- ==== Reference.lean ====
abbrev S1x128 : Shape := ⟨2, ![1, 128]⟩
abbrev S1024x128 : Shape := ⟨2, ![1024, 128]⟩
abbrev S1024x2176 : Shape := ⟨2, ![1024, 2176]⟩
abbrev S62976x2176 : Shape := ⟨2, ![62976, 2176]⟩
abbrev S1x112 : Shape := ⟨2, ![1, 112]⟩
abbrev S112 : Shape := ⟨1, ![112]⟩
abbrev S_ : Shape := ⟨0, ![]⟩
abbrev S1024x1 : Shape := ⟨2, ![1024, 1]⟩
abbrev S1024 : Shape := ⟨1, ![1024]⟩
abbrev S1024x112 : Shape := ⟨2, ![1024, 112]⟩

abbrev nBuf : Space → Nat
  | .hbm => 67
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1024x128, .f32⟩
  | .hbm, ⟨2, _⟩ => ⟨S1024x2176, .f32⟩
  | .hbm, ⟨3, _⟩ => ⟨S62976x2176, .f32⟩
  | .hbm, ⟨4, _⟩ => ⟨S1x112, .f32⟩
  | .hbm, ⟨5, _⟩ => ⟨S112, .f32⟩
  | .hbm, ⟨6, _⟩ => ⟨S112, .i32⟩
  | .hbm, ⟨7, _⟩ => ⟨S_, .i32⟩
  | .hbm, ⟨8, _⟩ => ⟨S112, .i32⟩
  | .hbm, ⟨9, _⟩ => ⟨S112, .i32⟩
  | .hbm, ⟨10, _⟩ => ⟨S_, .i32⟩
  | .hbm, ⟨11, _⟩ => ⟨S112, .i32⟩
  | .hbm, ⟨12, _⟩ => ⟨S112, .i32⟩
  | .hbm, ⟨13, _⟩ => ⟨S_, .i32⟩
  | .hbm, ⟨14, _⟩ => ⟨S_, .i32⟩
  | .hbm, ⟨15, _⟩ => ⟨S112, .i32⟩
  | .hbm, ⟨16, _⟩ => ⟨S112, .i32⟩
  | .hbm, ⟨17, _⟩ => ⟨S112, .i32⟩
  | .hbm, ⟨18, _⟩ => ⟨S_, .i32⟩
  | .hbm, ⟨19, _⟩ => ⟨S112, .i32⟩
  | .hbm, ⟨20, _⟩ => ⟨S112, .i1⟩
  | .hbm, ⟨21, _⟩ => ⟨S112, .i32⟩
  | .hbm, ⟨22, _⟩ => ⟨S112, .i32⟩
  | .hbm, ⟨23, _⟩ => ⟨S_, .i32⟩
  | .hbm, ⟨24, _⟩ => ⟨S112, .i32⟩
  | .hbm, ⟨25, _⟩ => ⟨S112, .i1⟩
  | .hbm, ⟨26, _⟩ => ⟨S112, .i1⟩
  | .hbm, ⟨27, _⟩ => ⟨S_, .i32⟩
  | .hbm, ⟨28, _⟩ => ⟨S112, .i32⟩
  | .hbm, ⟨29, _⟩ => ⟨S112, .i32⟩
  | .hbm, ⟨30, _⟩ => ⟨S112, .i32⟩
  | .hbm, ⟨31, _⟩ => ⟨S_, .i32⟩
  | .hbm, ⟨32, _⟩ => ⟨S112, .i32⟩
  | .hbm, ⟨33, _⟩ => ⟨S112, .i32⟩
  | .hbm, ⟨34, _⟩ => ⟨S_, .i32⟩
  | .hbm, ⟨35, _⟩ => ⟨S_, .i32⟩
  | .hbm, ⟨36, _⟩ => ⟨S112, .i32⟩
  | .hbm, ⟨37, _⟩ => ⟨S112, .i32⟩
  | .hbm, ⟨38, _⟩ => ⟨S1024x1, .f32⟩
  | .hbm, ⟨39, _⟩ => ⟨S1024, .f32⟩
  | .hbm, ⟨40, _⟩ => ⟨S1024, .i32⟩
  | .hbm, ⟨41, _⟩ => ⟨S1024x1, .i32⟩
  | .hbm, ⟨42, _⟩ => ⟨S112, .i32⟩
  | .hbm, ⟨43, _⟩ => ⟨S1x112, .i32⟩
  | .hbm, ⟨44, _⟩ => ⟨S1024x112, .i32⟩
  | .hbm, ⟨45, _⟩ => ⟨S1024x112, .i32⟩
  | .hbm, ⟨46, _⟩ => ⟨S1024x112, .i1⟩
  | .hbm, ⟨47, _⟩ => ⟨S_, .i32⟩
  | .hbm, ⟨48, _⟩ => ⟨S_, .i32⟩
  | .hbm, ⟨49, _⟩ => ⟨S1024x112, .i32⟩
  | .hbm, ⟨50, _⟩ => ⟨S1024x112, .i32⟩
  | .hbm, ⟨51, _⟩ => ⟨S1024x112, .i32⟩
  | .hbm, ⟨52, _⟩ => ⟨S_, .i32⟩
  | .hbm, ⟨53, _⟩ => ⟨S1024, .i32⟩
  | .hbm, ⟨54, _⟩ => ⟨S1024x1, .f32⟩
  | .hbm, ⟨55, _⟩ => ⟨S1024, .f32⟩
  | .hbm, ⟨56, _⟩ => ⟨S1024, .i32⟩
  | .hbm, ⟨57, _⟩ => ⟨S1024, .i32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S62976x2176, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_c_2 : Ref sig .tc := ⟨.hbm, 31, rfl⟩
abbrev main_v8 : Ref sig .tc := ⟨.hbm, 32, rfl⟩
abbrev main_v9 : Ref sig .tc := ⟨.hbm, 33, rfl⟩
abbrev main_call1_call0_c : Ref sig .tc := ⟨.hbm, 34, rfl⟩
abbrev main_call1_call0_v0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_c_6 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩

abbrev nD : Nat := 1
abbrev τ : Topo := Topo.v7x

variable {F : FTy → Type} [FloatOps F]
-- ==== Kernel2.lean ====
abbrev S1x128 : Shape := ⟨2, ![1, 128]⟩
abbrev S62976x2176 : Shape := ⟨2, ![62976, 2176]⟩
abbrev S1x32x2048x256 : Shape := ⟨4, ![1, 32, 2048, 256]⟩
abbrev S1x32x256x2048 : Shape := ⟨4, ![1, 32, 256, 2048]⟩
abbrev S1x2048 : Shape := ⟨2, ![1, 2048]⟩
abbrev S2048 : Shape := ⟨1, ![2048]⟩
abbrev S112 : Shape := ⟨1, ![112]⟩
abbrev S32x2048x256 : Shape := ⟨3, ![32, 2048, 256]⟩
abbrev S32x256x2048 : Shape := ⟨3, ![32, 256, 2048]⟩
abbrev S1x112 : Shape := ⟨2, ![1, 112]⟩
abbrev S_ : Shape := ⟨0, ![]⟩
abbrev S246 : Shape := ⟨1, ![246]⟩
abbrev S246x1 : Shape := ⟨2, ![246, 1]⟩
abbrev S246x112 : Shape := ⟨2, ![246, 112]⟩
abbrev S1 : Shape := ⟨1, ![1]⟩
abbrev S62976x2048 : Shape := ⟨2, ![62976, 2048]⟩
abbrev S512x2176 : Shape := ⟨2, ![512, 2176]⟩
abbrev S1x2048x256 : Shape := ⟨3, ![1, 2048, 256]⟩
abbrev S1x256x2048 : Shape := ⟨3, ![1, 256, 2048]⟩
abbrev S512x2048 : Shape := ⟨2, ![512, 2048]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩

abbrev nBuf : Space → Nat
  | .hbm => 115
  | .vmem => 30
  | .smem => 3
  | _ => 0

abbrev bufTy : (tb : Table) → Fin (tcTables nBuf tb) → BufTy
  | .hbm, ⟨0, _⟩ => ⟨S1x128, .f32⟩
  | .hbm, ⟨1, _⟩ => ⟨S62976x2176, .f32⟩
  | .hbm, ⟨2, _⟩ => ⟨S1x32x2048x256, .f32⟩
  | .hbm, ⟨3, _⟩ => ⟨S1x32x2048x256, .f32⟩
  | .hbm, ⟨4, _⟩ => ⟨S1x32x256x2048, .f32⟩
  | .hbm, ⟨5, _⟩ => ⟨S1x2048, .f32⟩
  | .hbm, ⟨6, _⟩ => ⟨S2048, .f32⟩
  | .hbm, ⟨7, _⟩ => ⟨S112, .i32⟩
  | .hbm, ⟨8, _⟩ => ⟨S112, .i32⟩
  | .hbm, ⟨9, _⟩ => ⟨S32x2048x256, .f32⟩
  | .hbm, ⟨10, _⟩ => ⟨S32x2048x256, .bf16⟩
  | .hbm, ⟨11, _⟩ => ⟨S32x2048x256, .f32⟩
  | .hbm, ⟨12, _⟩ => ⟨S32x2048x256, .bf16⟩
  | .hbm, ⟨13, _⟩ => ⟨S32x256x2048, .f32⟩
  | .hbm, ⟨14, _⟩ => ⟨S32x256x2048, .bf16⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S1x112, .f32⟩
  | .hbm, ⟨19, _⟩ => ⟨S112, .f32⟩
  | .hbm, ⟨20, _⟩ => ⟨S112, .i32⟩
  | .hbm, ⟨21, _⟩ => ⟨S_, .i32⟩
  | .hbm, ⟨22, _⟩ => ⟨S112, .i32⟩
  | .hbm, ⟨23, _⟩ => ⟨S112, .i32⟩
  | .hbm, ⟨24, _⟩ => ⟨S_, .i32⟩
  | .hbm, ⟨25, _⟩ => ⟨S112, .i32⟩
  | .hbm, ⟨26, _⟩ => ⟨S112, .i32⟩
  | .hbm, ⟨27, _⟩ => ⟨S_, .i32⟩
  | .hbm, ⟨28, _⟩ => ⟨S_, .i32⟩
  | .hbm, ⟨29, _⟩ => ⟨S112, .i32⟩
  | .hbm, ⟨30, _⟩ => ⟨S112, .i32⟩
  | .hbm, ⟨31, _⟩ => ⟨S112, .i32⟩
  | .hbm, ⟨32, _⟩ => ⟨S_, .i32⟩
  | .hbm, ⟨33, _⟩ => ⟨S112, .i32⟩
  | .hbm, ⟨34, _⟩ => ⟨S112, .i1⟩
  | .hbm, ⟨35, _⟩ => ⟨S112, .i32⟩
  | .hbm, ⟨36, _⟩ => ⟨S112, .i32⟩
  | .hbm, ⟨37, _⟩ => ⟨S_, .i32⟩
  | .hbm, ⟨38, _⟩ => ⟨S112, .i32⟩
  | .hbm, ⟨39, _⟩ => ⟨S112, .i1⟩
  | .hbm, ⟨40, _⟩ => ⟨S112, .i1⟩
  | .hbm, ⟨41, _⟩ => ⟨S_, .i32⟩
  | .hbm, ⟨42, _⟩ => ⟨S112, .i32⟩
  | .hbm, ⟨43, _⟩ => ⟨S112, .i32⟩
  | .hbm, ⟨44, _⟩ => ⟨S112, .i32⟩
  | .hbm, ⟨45, _⟩ => ⟨S_, .i32⟩
  | .hbm, ⟨46, _⟩ => ⟨S112, .i32⟩
  | .hbm, ⟨47, _⟩ => ⟨S112, .i32⟩
  | .hbm, ⟨48, _⟩ => ⟨S_, .i32⟩
  | .hbm, ⟨49, _⟩ => ⟨S_, .i32⟩
  | .hbm, ⟨50, _⟩ => ⟨S112, .i32⟩
  | .hbm, ⟨51, _⟩ => ⟨S112, .i32⟩
  | .hbm, ⟨52, _⟩ => ⟨S246, .i32⟩
  | .hbm, ⟨53, _⟩ => ⟨S_, .i32⟩
  | .hbm, ⟨54, _⟩ => ⟨S246, .i32⟩
  | .hbm, ⟨55, _⟩ => ⟨S246, .i32⟩
  | .hbm, ⟨56, _⟩ => ⟨S246x1, .i32⟩
  | .hbm, ⟨57, _⟩ => ⟨S1x112, .i32⟩
  | .hbm, ⟨58, _⟩ => ⟨S246x112, .i32⟩
  | .hbm, ⟨59, _⟩ => ⟨S246x112, .i32⟩
  | .hbm, ⟨60, _⟩ => ⟨S246x112, .i1⟩
  | .hbm, ⟨61, _⟩ => ⟨S246x112, .i32⟩
  | .hbm, ⟨62, _⟩ => ⟨S_, .i32⟩
  | .hbm, ⟨63, _⟩ => ⟨S246, .i32⟩
  | .hbm, ⟨64, _⟩ => ⟨S_, .i32⟩
  | .hbm, ⟨65, _⟩ => ⟨S246, .i32⟩
  | .hbm, ⟨66, _⟩ => ⟨S246, .i32⟩
  | .hbm, ⟨67, _⟩ => ⟨S1, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i1⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S246x1, .i32⟩
  | .hbm, ⟨98, _⟩ => ⟨S1x112, .i32⟩
  | .hbm, ⟨99, _⟩ => ⟨S246x112, .i32⟩
  | .hbm, ⟨100, _⟩ => ⟨S246x112, .i32⟩
  | .hbm, ⟨101, _⟩ => ⟨S246x112, .i1⟩
  | .hbm, ⟨102, _⟩ => ⟨S_, .i32⟩
  | .hbm, ⟨103, _⟩ => ⟨S_, .i32⟩
  | .hbm, ⟨104, _⟩ => ⟨S246x112, .i32⟩
  | .hbm, ⟨105, _⟩ => ⟨S246x112, .i32⟩
  | .hbm, ⟨106, _⟩ => ⟨S246x112, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S246x112, .i32⟩
  | .hbm, ⟨111, _⟩ => ⟨S246x112, .i32⟩
  | .hbm, ⟨112, _⟩ => ⟨S246x112, .i32⟩
  | .hbm, ⟨113, _⟩ => ⟨S_, .i32⟩
  | .hbm, ⟨114, _⟩ => ⟨S62976x2048, .f32⟩
  | .local _ .vmem, ⟨0, _⟩ => ⟨S512x2176, .f32⟩
  | .local _ .vmem, ⟨1, _⟩ => ⟨S512x2176, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x2048x256, .bf16⟩
  | .local _ .vmem, ⟨17, _⟩ => ⟨S1x2048x256, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x2048x256, .bf16⟩
  | .local _ .vmem, ⟨21, _⟩ => ⟨S1x2048x256, .bf16⟩
  | .local _ .vmem, ⟨22, _⟩ => ⟨S1x2048x256, .bf16⟩
  | .local _ .vmem, ⟨23, _⟩ => ⟨S1x2048x256, .bf16⟩
  | .local _ .vmem, ⟨24, _⟩ => ⟨S1x256x2048, .bf16⟩
  | .local _ .vmem, ⟨25, _⟩ => ⟨S1x256x2048, .bf16⟩
  | .local _ .vmem, ⟨26, _⟩ => ⟨S1x2048, .f32⟩
  | .local _ .vmem, ⟨27, _⟩ => ⟨S1x2048, .f32⟩
  | .local _ .vmem, ⟨28, _⟩ => ⟨S512x2048, .f32⟩
  | .local _ .vmem, ⟨29, _⟩ => ⟨S512x2048, .f32⟩
  | .local _ .smem, ⟨0, _⟩ => ⟨S246, .i32⟩
  | .local _ .smem, ⟨1, _⟩ => ⟨S246, .i32⟩
  | .local _ .smem, ⟨2, _⟩ => ⟨S1, .i32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_call1_call0_c : Ref sig .tc := ⟨.hbm, 48, rfl⟩
abbrev main_call1_call0_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_5 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_v30 : Ref sig .tc := ⟨.hbm, 63, rfl⟩
abbrev main_c_7 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_8 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c : Ref sig .tc := ⟨.hbm, 76, rfl⟩
abbrev main_call2_v6 : Ref sig .tc := ⟨.hbm, 77, rfl⟩
abbrev main_call2_v7 : Ref sig .tc := ⟨.hbm, 78, rfl⟩
abbrev main_call2_c_0 : Ref sig .tc := ⟨.hbm, 79, rfl⟩
abbrev main_call2_v8 : Ref sig .tc := ⟨.hbm, 80, rfl⟩
abbrev main_v35 : Ref sig .tc := ⟨.hbm, 81, rfl⟩
abbrev main_c_9 : Ref sig .tc := ⟨.hbm, 82, rfl⟩
abbrev main_v36 : Ref sig .tc := ⟨.hbm, 83, rfl⟩
abbrev main_c_10 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c : Ref sig .tc := ⟨.hbm, 91, rfl⟩
abbrev main_call3_v6 : Ref sig .tc := ⟨.hbm, 92, rfl⟩
abbrev main_call3_v7 : Ref sig .tc := ⟨.hbm, 93, rfl⟩
abbrev main_call3_c_0 : Ref sig .tc := ⟨.hbm, 94, rfl⟩
abbrev main_call3_v8 : Ref sig .tc := ⟨.hbm, 95, rfl⟩
abbrev main_v37 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_11 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v44 : Ref sig .tc := ⟨.hbm, 106, rfl⟩
abbrev main_c_12 : Ref sig .tc := ⟨.hbm, 107, rfl⟩
abbrev main_c_13 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_v46 : Ref sig .tc := ⟨.hbm, 112, rfl⟩
abbrev main_c_14 : Ref sig .tc := ⟨.hbm, 113, rfl⟩
abbrev main_v48 : Ref sig .tc := ⟨.hbm, 114, rfl⟩
abbrev main_v45 : Ref sig .tc := ⟨.smem, 0, rfl⟩
abbrev main_v47 : Ref sig .tc := ⟨.smem, 1, rfl⟩
abbrev main_v38 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![123], ![false]⟩

abbrev pre0 : Pipeline.Prefetch sig := ⟨3, ![main_v45.idx, main_v47.idx, main_v38.idx], fun | 0 => main_v45.names | 1 => main_v47.names | 2 => main_v38.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let c2_i32 : BitVec 32 := 2#32
  let arg0 : BitVec 32 := BitVec.ofNat 32 (i 0).val
  let v0 : BitVec 32 := Scalar.muli c2_i32 arg0
  let v1 : BitVec 32 := Scalar.addi v0 c0_i32
  let v2 : Index := Scalar.indexCast v1
  ![v2.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S246) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_2 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S246) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S246) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_4 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 1 (Rect.unit (s := S246) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_5 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 1 (Rect.unit (s := S246) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_6 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 1 (Rect.unit (s := S246) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_7 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S246) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S246) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S246) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 1 (Rect.unit (s := S246) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 1 (Rect.unit (s := S246) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 2), ∀ a, (k0_off1 i (BitVec.ofNat 32 r.val)) a + S1.size a ≤ S246.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 1 (Rect.unit (s := S246) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S1x128 : Shape := ⟨2, ![1, 128]⟩
abbrev S62976x2176 : Shape := ⟨2, ![62976, 2176]⟩
abbrev S1x32x2048x256 : Shape := ⟨4, ![1, 32, 2048, 256]⟩
abbrev S1x32x256x2048 : Shape := ⟨4, ![1, 32, 256, 2048]⟩
abbrev S1x2048 : Shape := ⟨2, ![1, 2048]⟩
abbrev S2048 : Shape := ⟨1, ![2048]⟩
abbrev S112 : Shape := ⟨1, ![112]⟩
abbrev S62976 : Shape := ⟨1, ![62976]⟩
abbrev S1x112 : Shape := ⟨2, ![1, 112]⟩
abbrev S_ : Shape := ⟨0, ![]⟩
abbrev S62976x1 : Shape := ⟨2, ![62976, 1]⟩
abbrev S62976x112 : Shape := ⟨2, ![62976, 112]⟩
abbrev S32 : Shape := ⟨1, ![32]⟩
abbrev S1x32 : Shape := ⟨2, ![1, 32]⟩
abbrev S62976x32 : Shape := ⟨2, ![62976, 32]⟩
abbrev S62976x2048 : Shape := ⟨2, ![62976, 2048]⟩
abbrev S32x2048x256 : Shape := ⟨3, ![32, 2048, 256]⟩
abbrev S62976x32x256 : Shape := ⟨3, ![62976, 32, 256]⟩
abbrev S62976x32x1 : Shape := ⟨3, ![62976, 32, 1]⟩
abbrev S32x256x2048 : Shape := ⟨3, ![32, 256, 2048]⟩

abbrev nBuf : Space → Nat
  | .hbm => 145
  | .vmem => 0
  | .smem => 0
  | _ => 0

abbrev hbmTy0_0 (i : Nat) : BufTy := match i % 128 with
  | 0 => ⟨S1x128, .f32⟩
  | 1 => ⟨S62976x2176, .f32⟩
  | 2 => ⟨S1x32x2048x256, .f32⟩
  | 3 => ⟨S1x32x2048x256, .f32⟩
  | 4 => ⟨S1x32x256x2048, .f32⟩
  | 5 => ⟨S1x2048, .f32⟩
  | 6 => ⟨S2048, .f32⟩
  | 7 => ⟨S112, .i32⟩
  | 8 => ⟨S112, .i32⟩
  | 9 => ⟨S62976, .i32⟩
  | 10 => ⟨S1x112, .f32⟩
  | 11 => ⟨S112, .f32⟩
  | 12 => ⟨S112, .i32⟩
  | 13 => ⟨S_, .i32⟩
  | 14 => ⟨S112, .i32⟩
  | 15 => ⟨S112, .i32⟩
  | 16 => ⟨S_, .i32⟩
  | 17 => ⟨S112, .i32⟩
  | 18 => ⟨S112, .i32⟩
  | 19 => ⟨S_, .i32⟩
  | 20 => ⟨S_, .i32⟩
  | 21 => ⟨S112, .i32⟩
  | 22 => ⟨S112, .i32⟩
  | 23 => ⟨S112, .i32⟩
  | 24 => ⟨S_, .i32⟩
  | 25 => ⟨S112, .i32⟩
  | 26 => ⟨S112, .i1⟩
  | 27 => ⟨S112, .i32⟩
  | 28 => ⟨S112, .i32⟩
  | 29 => ⟨S_, .i32⟩
  | 30 => ⟨S112, .i32⟩
  | 31 => ⟨S112, .i1⟩
  | 32 => ⟨S112, .i1⟩
  | 33 => ⟨S_, .i32⟩
  | 34 => ⟨S112, .i32⟩
  | 35 => ⟨S112, .i32⟩
  | 36 => ⟨S112, .i32⟩
  | 37 => ⟨S_, .i32⟩
  | 38 => ⟨S112, .i32⟩
  | 39 => ⟨S112, .i32⟩
  | 40 => ⟨S_, .i32⟩
  | 41 => ⟨S_, .i32⟩
  | 42 => ⟨S112, .i32⟩
  | 43 => ⟨S62976x1, .i32⟩
  | 44 => ⟨S1x112, .i32⟩
  | 45 => ⟨S62976x112, .i32⟩
  | 46 => ⟨S62976x112, .i32⟩
  | 47 => ⟨S62976x112, .i1⟩
  | 48 => ⟨S62976x112, .i32⟩
  | 49 => ⟨S_, .i32⟩
  | 50 => ⟨S62976, .i32⟩
  | 51 => ⟨S62976x1, .i32⟩
  | 52 => ⟨S112, .i32⟩
  | 53 => ⟨S1x112, .i32⟩
  | 54 => ⟨S62976x112, .i32⟩
  | 55 => ⟨S62976x112, .i32⟩
  | 56 => ⟨S62976x112, .i1⟩
  | 57 => ⟨S_, .i32⟩
  | 58 => ⟨S_, .i32⟩
  | 59 => ⟨S62976x112, .i32⟩
  | 60 => ⟨S62976x112, .i32⟩
  | 61 => ⟨S62976x112, .i32⟩
  | 62 => ⟨S_, .i32⟩
  | 63 => ⟨S62976, .i32⟩
  | 64 => ⟨S_, .i32⟩
  | 65 => ⟨S_, .i32⟩
  | 66 => ⟨S62976x112, .i32⟩
  | 67 => ⟨S62976x112, .i32⟩
  | 68 => ⟨S62976x112, .i32⟩
  | 69 => ⟨S_, .i32⟩
  | 70 => ⟨S62976, .i32⟩
  | 71 => ⟨S32, .i32⟩
  | 72 => ⟨S62976x1, .i32⟩
  | 73 => ⟨S1x32, .i32⟩
  | 74 => ⟨S62976x32, .i32⟩
  | 75 => ⟨S62976x32, .i32⟩
  | 76 => ⟨S62976x32, .i1⟩
  | 77 => ⟨S62976x1, .f32⟩
  | 78 => ⟨S62976x1, .i32⟩
  | 79 => ⟨S1x32, .i32⟩
  | 80 => ⟨S62976x32, .i32⟩
  | 81 => ⟨S62976x32, .i32⟩
  | 82 => ⟨S62976x32, .i1⟩
  | 83 => ⟨S62976x1, .f32⟩
  | 84 => ⟨S_, .f32⟩
  | 85 => ⟨S_, .f32⟩
  | 86 => ⟨S62976x32, .f32⟩
  | 87 => ⟨S62976x32, .f32⟩
  | 88 => ⟨S62976x32, .f32⟩
  | 89 => ⟨S62976x32, .f32⟩
  | 90 => ⟨S62976x32, .f32⟩
  | 91 => ⟨S62976x2048, .f32⟩
  | 92 => ⟨S62976x2048, .f32⟩
  | 93 => ⟨S_, .f32⟩
  | 94 => ⟨S62976, .f32⟩
  | 95 => ⟨S62976x1, .f32⟩
  | 96 => ⟨S_, .f32⟩
  | 97 => ⟨S62976x1, .f32⟩
  | 98 => ⟨S62976x1, .f32⟩
  | 99 => ⟨S_, .f32⟩
  | 100 => ⟨S62976x1, .f32⟩
  | 101 => ⟨S62976x1, .f32⟩
  | 102 => ⟨S62976x1, .f32⟩
  | 103 => ⟨S62976x2048, .f32⟩
  | 104 => ⟨S62976x2048, .f32⟩
  | 105 => ⟨S2048, .f32⟩
  | 106 => ⟨S1x2048, .f32⟩
  | 107 => ⟨S62976x2048, .f32⟩
  | 108 => ⟨S62976x2048, .f32⟩
  | 109 => ⟨S32x2048x256, .f32⟩
  | 110 => ⟨S62976x32x256, .f32⟩
  | 111 => ⟨S32x2048x256, .f32⟩
  | 112 => ⟨S62976x32x256, .f32⟩
  | 113 => ⟨S62976x32x256, .f32⟩
  | 114 => ⟨S62976x32x256, .f32⟩
  | 115 => ⟨S_, .f32⟩
  | 116 => ⟨S62976x32x256, .f32⟩
  | 117 => ⟨S62976x32x256, .f32⟩
  | 118 => ⟨S_, .f32⟩
  | 119 => ⟨S62976x32x256, .f32⟩
  | 120 => ⟨S62976x32x256, .f32⟩
  | 121 => ⟨S62976x32x256, .f32⟩
  | 122 => ⟨S62976x32x256, .f32⟩
  | 123 => ⟨S62976x32x1, .f32⟩
  | 124 => ⟨S62976x32x256, .f32⟩
  | 125 => ⟨S62976x32x256, .f32⟩
  | 126 => ⟨S32x256x2048, .f32⟩
  | 127 => ⟨S62976x2048, .f32⟩
  | _ => ⟨S1x128, .f32⟩

abbrev hbmTy0_1 (i : Nat) : BufTy := match i % 128 with
  | 0 => ⟨S62976x2048, .f32⟩
  | 1 => ⟨S62976x2048, .f32⟩
  | 2 => ⟨S_, .f32⟩
  | 3 => ⟨S62976, .f32⟩
  | 4 => ⟨S62976x1, .f32⟩
  | 5 => ⟨S_, .f32⟩
  | 6 => ⟨S62976x1, .f32⟩
  | 7 => ⟨S62976x1, .f32⟩
  | 8 => ⟨S_, .f32⟩
  | 9 => ⟨S62976x1, .f32⟩
  | 10 => ⟨S62976x1, .f32⟩
  | 11 => ⟨S62976x1, .f32⟩
  | 12 => ⟨S62976x2048, .f32⟩
  | 13 => ⟨S62976x2048, .f32⟩
  | 14 => ⟨S1x2048, .f32⟩
  | 15 => ⟨S62976x2048, .f32⟩
  | 16 => ⟨S62976x2048, .f32⟩
  | _ => ⟨S1x128, .f32⟩

abbrev hbmTy (i : Nat) : BufTy := match i / 128 with
  | 0 => hbmTy0_0 i
  | 1 => hbmTy0_1 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v8 : Ref sig .tc := ⟨.hbm, 36, rfl⟩
abbrev main_c_4 : Ref sig .tc := ⟨.hbm, 37, rfl⟩
abbrev main_v9 : Ref sig .tc := ⟨.hbm, 38, rfl⟩
abbrev main_v10 : Ref sig .tc := ⟨.hbm, 39, rfl⟩
abbrev main_call1_call0_c : Ref sig .tc := ⟨.hbm, 40, rfl⟩
abbrev main_call1_call0_v0 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v25 : Ref sig .tc := ⟨.hbm, 61, rfl⟩
abbrev main_c_7 : Ref sig .tc := ⟨.hbm, 62, rfl⟩
abbrev main_v26 : Ref sig .tc := ⟨.hbm, 63, rfl⟩
abbrev main_c_8 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v27 : Ref sig .tc := ⟨.hbm, 68, rfl⟩
abbrev main_c_9 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v42 : Ref sig .tc := ⟨.hbm, 88, rfl⟩
abbrev main_call5_v0 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_10 : Ref sig .tc := ⟨.hbm, 93, rfl⟩
abbrev main_v46 : Ref sig .tc := ⟨.hbm, 94, rfl⟩
abbrev main_v47 : Ref sig .tc := ⟨.hbm, 95, rfl⟩
abbrev main_cst_11 : Ref sig .tc := ⟨.hbm, 96, rfl⟩
abbrev main_v48 : Ref sig .tc := ⟨.hbm, 97, rfl⟩
abbrev main_v49 : Ref sig .tc := ⟨.hbm, 98, rfl⟩
abbrev main_cst_12 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_13 : Ref sig .tc := ⟨.hbm, 115, rfl⟩
abbrev main_v65 : Ref sig .tc := ⟨.hbm, 116, rfl⟩
abbrev main_v66 : Ref sig .tc := ⟨.hbm, 117, rfl⟩
abbrev main_cst_14 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_15 : Ref sig .tc := ⟨.hbm, 130, rfl⟩
abbrev main_v78 : Ref sig .tc := ⟨.hbm, 131, rfl⟩
abbrev main_v79 : Ref sig .tc := ⟨.hbm, 132, rfl⟩
abbrev main_cst_16 : Ref sig .tc := ⟨.hbm, 133, rfl⟩
abbrev main_v80 : Ref sig .tc := ⟨.hbm, 134, rfl⟩
abbrev main_v81 : Ref sig .tc := ⟨.hbm, 135, rfl⟩
abbrev main_cst_17 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩

abbrev nD : Nat := 1
abbrev τ : Topo := Topo.v7x

variable {F : FTy → Type} [FloatOps F]
-- ==== Reference3Ideal.lean ====
abbrev S1x128 : Shape := ⟨2, ![1, 128]⟩
abbrev S62976x2176 : Shape := ⟨2, ![62976, 2176]⟩
abbrev S1x32x2048x256 : Shape := ⟨4, ![1, 32, 2048, 256]⟩
abbrev S1x32x256x2048 : Shape := ⟨4, ![1, 32, 256, 2048]⟩
abbrev S1x2048 : Shape := ⟨2, ![1, 2048]⟩
abbrev S2048 : Shape := ⟨1, ![2048]⟩
abbrev S112 : Shape := ⟨1, ![112]⟩
abbrev S62976 : Shape := ⟨1, ![62976]⟩
abbrev S1x112 : Shape := ⟨2, ![1, 112]⟩
abbrev S_ : Shape := ⟨0, ![]⟩
abbrev S62976x1 : Shape := ⟨2, ![62976, 1]⟩
abbrev S62976x112 : Shape := ⟨2, ![62976, 112]⟩
abbrev S32 : Shape := ⟨1, ![32]⟩
abbrev S1x32 : Shape := ⟨2, ![1, 32]⟩
abbrev S62976x32 : Shape := ⟨2, ![62976, 32]⟩
abbrev S62976x2048 : Shape := ⟨2, ![62976, 2048]⟩
abbrev S32x2048x256 : Shape := ⟨3, ![32, 2048, 256]⟩
abbrev S62976x32x256 : Shape := ⟨3, ![62976, 32, 256]⟩
abbrev S32x256x2048 : Shape := ⟨3, ![32, 256, 2048]⟩
abbrev S32x2048x62976 : Shape := ⟨3, ![32, 2048, 62976]⟩
abbrev S62976x32x2048 : Shape := ⟨3, ![62976, 32, 2048]⟩
abbrev S62976x32x1 : Shape := ⟨3, ![62976, 32, 1]⟩

abbrev nBuf : Space → Nat
  | .hbm => 148
  | .vmem => 0
  | .smem => 0
  | _ => 0

abbrev hbmTy0_0 (i : Nat) : BufTy := match i % 128 with
  | 0 => ⟨S1x128, .f32⟩
  | 1 => ⟨S62976x2176, .f32⟩
  | 2 => ⟨S1x32x2048x256, .f32⟩
  | 3 => ⟨S1x32x2048x256, .f32⟩
  | 4 => ⟨S1x32x256x2048, .f32⟩
  | 5 => ⟨S1x2048, .f32⟩
  | 6 => ⟨S2048, .f32⟩
  | 7 => ⟨S112, .i32⟩
  | 8 => ⟨S112, .i32⟩
  | 9 => ⟨S62976, .i32⟩
  | 10 => ⟨S1x112, .f32⟩
  | 11 => ⟨S112, .f32⟩
  | 12 => ⟨S112, .i32⟩
  | 13 => ⟨S_, .i32⟩
  | 14 => ⟨S112, .i32⟩
  | 15 => ⟨S112, .i32⟩
  | 16 => ⟨S_, .i32⟩
  | 17 => ⟨S112, .i32⟩
  | 18 => ⟨S112, .i32⟩
  | 19 => ⟨S_, .i32⟩
  | 20 => ⟨S_, .i32⟩
  | 21 => ⟨S112, .i32⟩
  | 22 => ⟨S112, .i32⟩
  | 23 => ⟨S112, .i32⟩
  | 24 => ⟨S_, .i32⟩
  | 25 => ⟨S112, .i32⟩
  | 26 => ⟨S112, .i1⟩
  | 27 => ⟨S112, .i32⟩
  | 28 => ⟨S112, .i32⟩
  | 29 => ⟨S_, .i32⟩
  | 30 => ⟨S112, .i32⟩
  | 31 => ⟨S112, .i1⟩
  | 32 => ⟨S112, .i1⟩
  | 33 => ⟨S_, .i32⟩
  | 34 => ⟨S112, .i32⟩
  | 35 => ⟨S112, .i32⟩
  | 36 => ⟨S112, .i32⟩
  | 37 => ⟨S_, .i32⟩
  | 38 => ⟨S112, .i32⟩
  | 39 => ⟨S112, .i32⟩
  | 40 => ⟨S_, .i32⟩
  | 41 => ⟨S_, .i32⟩
  | 42 => ⟨S112, .i32⟩
  | 43 => ⟨S62976x1, .i32⟩
  | 44 => ⟨S1x112, .i32⟩
  | 45 => ⟨S62976x112, .i32⟩
  | 46 => ⟨S62976x112, .i32⟩
  | 47 => ⟨S62976x112, .i1⟩
  | 48 => ⟨S62976x112, .i32⟩
  | 49 => ⟨S_, .i32⟩
  | 50 => ⟨S62976, .i32⟩
  | 51 => ⟨S62976x1, .i32⟩
  | 52 => ⟨S112, .i32⟩
  | 53 => ⟨S1x112, .i32⟩
  | 54 => ⟨S62976x112, .i32⟩
  | 55 => ⟨S62976x112, .i32⟩
  | 56 => ⟨S62976x112, .i1⟩
  | 57 => ⟨S_, .i32⟩
  | 58 => ⟨S_, .i32⟩
  | 59 => ⟨S62976x112, .i32⟩
  | 60 => ⟨S62976x112, .i32⟩
  | 61 => ⟨S62976x112, .i32⟩
  | 62 => ⟨S_, .i32⟩
  | 63 => ⟨S62976, .i32⟩
  | 64 => ⟨S_, .i32⟩
  | 65 => ⟨S_, .i32⟩
  | 66 => ⟨S62976x112, .i32⟩
  | 67 => ⟨S62976x112, .i32⟩
  | 68 => ⟨S62976x112, .i32⟩
  | 69 => ⟨S_, .i32⟩
  | 70 => ⟨S62976, .i32⟩
  | 71 => ⟨S32, .i32⟩
  | 72 => ⟨S62976x1, .i32⟩
  | 73 => ⟨S1x32, .i32⟩
  | 74 => ⟨S62976x32, .i32⟩
  | 75 => ⟨S62976x32, .i32⟩
  | 76 => ⟨S62976x32, .i1⟩
  | 77 => ⟨S62976x1, .f32⟩
  | 78 => ⟨S62976x1, .i32⟩
  | 79 => ⟨S1x32, .i32⟩
  | 80 => ⟨S62976x32, .i32⟩
  | 81 => ⟨S62976x32, .i32⟩
  | 82 => ⟨S62976x32, .i1⟩
  | 83 => ⟨S62976x1, .f32⟩
  | 84 => ⟨S_, .f32⟩
  | 85 => ⟨S_, .f32⟩
  | 86 => ⟨S62976x32, .f32⟩
  | 87 => ⟨S62976x32, .f32⟩
  | 88 => ⟨S62976x32, .f32⟩
  | 89 => ⟨S62976x32, .f32⟩
  | 90 => ⟨S62976x32, .f32⟩
  | 91 => ⟨S62976x2048, .f32⟩
  | 92 => ⟨S62976x2048, .f32⟩
  | 93 => ⟨S_, .f32⟩
  | 94 => ⟨S62976, .f32⟩
  | 95 => ⟨S62976x1, .f32⟩
  | 96 => ⟨S_, .f32⟩
  | 97 => ⟨S62976x1, .f32⟩
  | 98 => ⟨S62976x1, .f32⟩
  | 99 => ⟨S_, .f32⟩
  | 100 => ⟨S62976x1, .f32⟩
  | 101 => ⟨S62976x1, .f32⟩
  | 102 => ⟨S62976x1, .f32⟩
  | 103 => ⟨S62976x2048, .f32⟩
  | 104 => ⟨S62976x2048, .f32⟩
  | 105 => ⟨S2048, .f32⟩
  | 106 => ⟨S1x2048, .f32⟩
  | 107 => ⟨S62976x2048, .f32⟩
  | 108 => ⟨S62976x2048, .f32⟩
  | 109 => ⟨S32x2048x256, .f32⟩
  | 110 => ⟨S62976x32x256, .f32⟩
  | 111 => ⟨S32x2048x256, .f32⟩
  | 112 => ⟨S62976x32x256, .f32⟩
  | 113 => ⟨S62976x32x256, .f32⟩
  | 114 => ⟨S62976x32x256, .f32⟩
  | 115 => ⟨S_, .f32⟩
  | 116 => ⟨S62976x32x256, .f32⟩
  | 117 => ⟨S62976x32x256, .f32⟩
  | 118 => ⟨S_, .f32⟩
  | 119 => ⟨S62976x32x256, .f32⟩
  | 120 => ⟨S62976x32x256, .f32⟩
  | 121 => ⟨S62976x32x256, .f32⟩
  | 122 => ⟨S62976x32x256, .f32⟩
  | 123 => ⟨S32x256x2048, .f32⟩
  | 124 => ⟨S32x2048x62976, .f32⟩
  | 125 => ⟨S62976x32x2048, .f32⟩
  | 126 => ⟨S62976x32x1, .f32⟩
  | 127 => ⟨S62976x32x2048, .f32⟩
  | _ => ⟨S1x128, .f32⟩

abbrev hbmTy0_1 (i : Nat) : BufTy := match i % 128 with
  | 0 => ⟨S62976x32x2048, .f32⟩
  | 1 => ⟨S_, .f32⟩
  | 2 => ⟨S62976x2048, .f32⟩
  | 3 => ⟨S62976x2048, .f32⟩
  | 4 => ⟨S62976x2048, .f32⟩
  | 5 => ⟨S_, .f32⟩
  | 6 => ⟨S62976, .f32⟩
  | 7 => ⟨S62976x1, .f32⟩
  | 8 => ⟨S_, .f32⟩
  | 9 => ⟨S62976x1, .f32⟩
  | 10 => ⟨S62976x1, .f32⟩
  | 11 => ⟨S_, .f32⟩
  | 12 => ⟨S62976x1, .f32⟩
  | 13 => ⟨S62976x1, .f32⟩
  | 14 => ⟨S62976x1, .f32⟩
  | 15 => ⟨S62976x2048, .f32⟩
  | 16 => ⟨S62976x2048, .f32⟩
  | 17 => ⟨S1x2048, .f32⟩
  | 18 => ⟨S62976x2048, .f32⟩
  | 19 => ⟨S62976x2048, .f32⟩
  | _ => ⟨S1x128, .f32⟩

abbrev hbmTy (i : Nat) : BufTy := match i / 128 with
  | 0 => hbmTy0_0 i
  | 1 => hbmTy0_1 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v8 : Ref sig .tc := ⟨.hbm, 36, rfl⟩
abbrev main_c_4 : Ref sig .tc := ⟨.hbm, 37, rfl⟩
abbrev main_v9 : Ref sig .tc := ⟨.hbm, 38, rfl⟩
abbrev main_v10 : Ref sig .tc := ⟨.hbm, 39, rfl⟩
abbrev main_call1_call0_c : Ref sig .tc := ⟨.hbm, 40, rfl⟩
abbrev main_call1_call0_v0 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v25 : Ref sig .tc := ⟨.hbm, 61, rfl⟩
abbrev main_c_7 : Ref sig .tc := ⟨.hbm, 62, rfl⟩
abbrev main_v26 : Ref sig .tc := ⟨.hbm, 63, rfl⟩
abbrev main_c_8 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v27 : Ref sig .tc := ⟨.hbm, 68, rfl⟩
abbrev main_c_9 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v42 : Ref sig .tc := ⟨.hbm, 88, rfl⟩
abbrev main_call5_v0 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_10 : Ref sig .tc := ⟨.hbm, 93, rfl⟩
abbrev main_v46 : Ref sig .tc := ⟨.hbm, 94, rfl⟩
abbrev main_v47 : Ref sig .tc := ⟨.hbm, 95, rfl⟩
abbrev main_cst_11 : Ref sig .tc := ⟨.hbm, 96, rfl⟩
abbrev main_v48 : Ref sig .tc := ⟨.hbm, 97, rfl⟩
abbrev main_v49 : Ref sig .tc := ⟨.hbm, 98, rfl⟩
abbrev main_cst_12 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_13 : Ref sig .tc := ⟨.hbm, 115, rfl⟩
abbrev main_v65 : Ref sig .tc := ⟨.hbm, 116, rfl⟩
abbrev main_v66 : Ref sig .tc := ⟨.hbm, 117, rfl⟩
abbrev main_cst_14 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_15 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_16 : Ref sig .tc := ⟨.hbm, 133, rfl⟩
abbrev main_v80 : Ref sig .tc := ⟨.hbm, 134, rfl⟩
abbrev main_v81 : Ref sig .tc := ⟨.hbm, 135, rfl⟩
abbrev main_cst_17 : Ref sig .tc := ⟨.hbm, 136, rfl⟩
abbrev main_v82 : Ref sig .tc := ⟨.hbm, 137, rfl⟩
abbrev main_v83 : Ref sig .tc := ⟨.hbm, 138, rfl⟩
abbrev main_cst_18 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩

abbrev nD : Nat := 1
abbrev τ : Topo := Topo.v7x

variable {F : FTy → Type} [FloatOps F]
-- ==== Proof.Rows.lean ====
/- One row copy of the dispatch, and the printed straight-line trip as 128 of them. -/
module

public import proofs.«01_k».proof.Defs
public import proofs.«01_k».proof.Proof.Gen.KernelIdeal
public import proofs.«01_k».proof.Proof.Gen.KernelIdeal.Skeleton

@[expose] public section

noncomputable section

namespace Cert.Proof.Rows

open Cert.KernelIdeal Cert.KernelIdeal.Gen
open Idealize.ShloMosaic Idealize.ShloMosaic.TcCoe
open Idealize.SL.Sem

variable {F : FTy → Type} [FloatOps F]

/-- Where trip `t`'s copy `c` reads its destination row's number. -/
def ldOff (t : Fin k0_t1_loop.trips) (c : BitVec 32) : Fin 2 → Nat :=
  ![(Scalar.indexCast (Scf.iv 0#32 1#32 t)).toNat, c.toNat]
/-- The first element of the row it copies out of the window. -/
def srcOff (t : Fin k0_t1_loop.trips) (c : BitVec 32) : Fin 2 → Nat :=
  ![(Scalar.addi (Scalar.muli (Scf.iv 0#32 1#32 t) 128#32) c).toNat, 0]

theorem trips8 : k0_t1_loop.trips = 8 := by decide +kernel
theorem ldOff_eq (t : Fin k0_t1_loop.trips) (c : BitVec 32) : ldOff t c = ![t.val, c.toNat] := by
  have ht : t.val < 8 := trips8 ▸ t.isLt
  funext a
  match a with
  | 0 => show (Scalar.indexCast (Scf.iv 0#32 1#32 t)).toNat = t.val
         simp [Scalar.indexCast, Scf.iv]; omega
  | 1 => rfl
theorem srcOff_eq (t : Fin k0_t1_loop.trips) (c : BitVec 32) (hc : c.toNat < 128) : srcOff t c = ![128 * t.val + c.toNat, 0] := by
  have ht : t.val < 8 := trips8 ▸ t.isLt
  funext a
  match a with
  | 0 => show (Scalar.addi (Scalar.muli (Scf.iv 0#32 1#32 t) 128#32) c).toNat = 128 * t.val + c.toNat
         simp [Scalar.addi, Scalar.muli, Scf.iv, IntOp.addi, IntOp.muli, BitVec.toNat_add, BitVec.toNat_mul]; omega
  | 1 => rfl
theorem ldOff_inb (t : Fin k0_t1_loop.trips) (c : BitVec 32) (hc : c.toNat < 128) : ∀ a, ldOff t c a + S1x1.size a ≤ S8x128.size a := by
  have ht : t.val < 8 := trips8 ▸ t.isLt
  rw [ldOff_eq]; intro a
  match a with
  | 0 => show t.val + 1 ≤ 8; omega
  | 1 => show c.toNat + 1 ≤ 128; omega
theorem srcOff_inb (t : Fin k0_t1_loop.trips) (c : BitVec 32) (hc : c.toNat < 128) : ∀ a, srcOff t c a + S1x2176.size a ≤ S1024x2176.size a := by
  have ht : t.val < 8 := trips8 ▸ t.isLt
  rw [srcOff_eq t c hc]; intro a
  match a with
  | 0 => show 128 * t.val + c.toNat + 1 ≤ 1024; omega
  | 1 => show 0 + 2176 ≤ 2176; omega

section Prog

variable (arg2 : Memref sig .tc .vmem S1024x2176 .f32) (arg5 : Memref sig .tc .hbm S62976x2176 .f32)
  (arg6 : Memref sig .tc .smem S8x128 .i32) (arg8 : DmaSems sig S_)

/-- The row copied, and the row it is copied to. -/
def srcRow (o : Fin 2 → Nat) (ho : ∀ a, o a + S1x2176.size a ≤ S1024x2176.size a) : Memref sig .tc .vmem S1x2176 .f32 :=
  arg2.slice (Rect.unit (s := S1024x2176) o S1x2176.size ho) (fun _ => rfl)
def dstRow (v : BitVec 32) (hw : k0_chk1 v) : Memref sig .tc .hbm S1x2176 .f32 :=
  arg5.slice (Rect.unit (s := S62976x2176) (k0_off3 v) S1x2176.size (k0_off3_inb v hw)) (fun _ => rfl)

/-- One copy: read the destination's number, check it, start the transfer. -/
def copyRow (t : Fin k0_t1_loop.trips) (c : BitVec 32) (hc : c.toNat < 128) : Prog (TpuEff nD τ sig (Elt F) Λ₀ .tc) PUnit := do
  let v : Elt F .i32 ← smemLoad arg6 (Rect.unit (s := S8x128) (ldOff t c) S1x1.size (ldOff_inb t c hc)) numel1_S1x1 rfl
  have hw : k0_chk1 v := (← Prog.lift (TpuEff.assume (k0_chk1 v) (k0_chk1.dec v))).down
  Prog.lift (.enqueueDma (srcRow arg2 (srcOff t c) (srcOff_inb t c hc)) (.here (dstRow arg5 v hw)) (.dma arg8.sem)
    (View.wordExact_bits rfl) (View.wordExact_bits rfl) ⟨Or.inl rfl, trivial⟩)

/-- `n` copies, the last of a trip (`c = 128 - n` first). -/
def copies (t : Fin k0_t1_loop.trips) : (n : ℕ) → n ≤ 128 → Prog (TpuEff nD τ sig (Elt F) Λ₀ .tc) PUnit
  | 0, _ => pure ⟨⟩
  | n + 1, h => do
    copyRow arg2 arg5 arg6 arg8 t (BitVec.ofNat 32 (127 - n)) (by simp; omega)
    copies t n (by omega)

end Prog

set_option maxRecDepth 65536 in
set_option maxHeartbeats 4000000 in
theorem body_eq (i : grid0.Coords) (arg1 : Memref sig .tc .smem S112 .i32) (harg1 : arg1.IsWhole) (arg2 : Memref sig .tc .vmem S1024x2176 .f32) (harg2 : arg2.IsWhole)
    (arg3 : Memref sig .tc .hbm S8x128 .i32) (harg3 : arg3.IsWhole) (arg4 : Memref sig .tc .hbm S62976x2176 .f32) (harg4 : arg4.IsWhole)
    (arg5 : Memref sig .tc .hbm S62976x2176 .f32) (harg5 : arg5.IsWhole) (arg6 : Memref sig .tc .smem S8x128 .i32) (harg6 : arg6.IsWhole)
    (arg7 : DmaSems sig S_) (arg8 : DmaSems sig S_) (t : Fin k0_t1_loop.trips) :
    k0_t1_body (F := F) i arg1 harg1 arg2 harg2 arg3 harg3 arg4 harg4 arg5 harg5 arg6 harg6 arg7 arg8 t ()
      = copies arg2 arg5 arg6 arg8 t 128 le_rfl := by
  rfl

end Cert.Proof.Rows

end
-- ==== Proof.Loops.lean ====
/- The dispatch's two loops: every row's copy started, then every copy waited for. -/
module

public import proofs.«01_k».proof.Proof.Rows
public import proofs.«01_k».proof.Proof.Gen.KernelIdeal.Loops
public import Idealize.ShloMosaic.Lib.Batch
public import Idealize.ShloMosaic.Lib.Ring
public import Idealize.ShloMosaic.Lib.ValueIdx
public import Idealize.ShloMosaic.Lib.Tactic
public import Idealize.ShloMosaic.Lib.Pipeline.FrameValue

@[expose] public section

set_option maxRecDepth 16384

noncomputable section

namespace Cert.Proof.Loops

open Cert.KernelIdeal Cert.KernelIdeal.Gen Cert.Proof.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open ValueIdx (ix2 eq_ix2)

variable {F : FTy → Type} [FloatOps F]

local notation "𝕄" => MT nD τ sig Unit (Elt F) ℕ (Pipeline.UD sig nD τ) ℕ

/-- The window, the array the rows go to, and the positions' buffer. -/
abbrev win : Memref sig .tc .vmem S1024x2176 .f32 := Memref.whole cc0_stg0_0
abbrev out : Memref sig .tc .hbm S62976x2176 .f32 := Memref.whole main_v30
abbrev posb : Memref sig .tc .smem S8x128 .i32 := Memref.whole cc0_scratch0

/-- One row of the array written, and of the window copied from. -/
def dRow (p : ℕ) : Finset S62976x2176.Idx := Finset.univ.filter fun y => (y 0).val = p
def sRow (p : ℕ) : Finset S1024x2176.Idx := Finset.univ.filter fun y => (y 0).val = p
theorem mem_dRow (p : ℕ) (y : S62976x2176.Idx) : y ∈ dRow p ↔ (y 0).val = p := by simp [dRow]
theorem mem_sRow (p : ℕ) (y : S1024x2176.Idx) : y ∈ sRow p ↔ (y 0).val = p := by simp [sRow]

/-- Row `t`'s destination. -/
def pos (pw : S8x128.Idx → BitVec 32) (t : Fin 1024) : BitVec 32 :=
  pw (ix2 (⟨t.val / 128, by omega⟩ : Fin 8) (⟨t.val % 128, by omega⟩ : Fin 128))

/-- What the array holds at the end: row `t` of the window where `t`'s destination is, elsewhere what it held. -/
def filled (fx : S1024x2176.Idx → Elt F .f32) (f0 : S62976x2176.Idx → Elt F .f32) (pw : S8x128.Idx → BitVec 32) :
    S62976x2176.Idx → Elt F .f32 := by
  classical
  exact fun y => if h : ∃ t : Fin 1024, (pos pw t).toNat = (y 0).val then fx (ix2 h.choose (y 1)) else f0 y

/-- The destinations lie in the array and are distinct. -/
def Apart (pw : S8x128.Idx → BitVec 32) : Prop :=
  (∀ t, (pos pw t).toNat < 62976) ∧ ∀ t t', (pos pw t).toNat = (pos pw t').toNat → t = t'

theorem filled_at (fx : S1024x2176.Idx → Elt F .f32) (f0 : S62976x2176.Idx → Elt F .f32) (pw : S8x128.Idx → BitVec 32)
    (ha : Apart pw) (t : Fin 1024) (y : S62976x2176.Idx) (hy : (pos pw t).toNat = (y 0).val) :
    filled fx f0 pw y = fx (ix2 t (y 1)) := by
  have h : ∃ t : Fin 1024, (pos pw t).toNat = (y 0).val := ⟨t, hy⟩
  unfold filled; rw [dif_pos h, ha.2 _ _ (h.choose_spec.trans hy.symm)]
theorem filled_off (fx : S1024x2176.Idx → Elt F .f32) (f0 : S62976x2176.Idx → Elt F .f32) (pw : S8x128.Idx → BitVec 32)
    (y : S62976x2176.Idx) (hy : ∀ t, (pos pw t).toNat ≠ (y 0).val) : filled fx f0 pw y = f0 y := by
  unfold filled; rw [dif_neg (fun ⟨t, h⟩ => hy t h)]

/-- The rows as the transfers name them. -/
theorem srcRow_set (t : ℕ) (ht : t < 1024) (o : Fin 2 → Nat) (ho) (he : o = ![t, 0]) : (srcRow win o ho).view.set = sRow t := by
  subst he
  refine (View.set_slice_whole _ _).trans ?_
  ext y; rw [mem_sRow, Rect.mem_set_unit]
  have h1 : (y 1).val < 2176 := (y 1).isLt
  constructor
  · intro H; have a0 : t ≤ (y 0).val ∧ (y 0).val < t + 1 := H 0; omega
  · intro H a; match a with
    | 0 => show t ≤ (y 0).val ∧ (y 0).val < t + 1; omega
    | 1 => show 0 ≤ (y 1).val ∧ (y 1).val < 0 + 2176; omega
theorem dstRow_set (v : BitVec 32) (hw) : (dstRow out v hw).view.set = dRow v.toNat := by
  refine (View.set_slice_whole _ _).trans ?_
  ext y; rw [mem_dRow, Rect.mem_set_unit]
  have h1 : (y 1).val < 2176 := (y 1).isLt
  constructor
  · intro H; have a0 : v.toNat ≤ (y 0).val ∧ (y 0).val < v.toNat + 1 := H 0; omega
  · intro H a; match a with
    | 0 => show v.toNat ≤ (y 0).val ∧ (y 0).val < v.toNat + 1; omega
    | 1 => show 0 ≤ (y 1).val ∧ (y 1).val < 0 + 2176; omega

/-- A row copied is the row of `filled`. -/
theorem row_write (fx : S1024x2176.Idx → Elt F .f32) (f0 : S62976x2176.Idx → Elt F .f32) (pw : S8x128.Idx → BitVec 32)
    (ha : Apart pw) (t : Fin 1024) (hw) (o : Fin 2 → Nat) (ho) (he : o = ![t.val, 0]) (y : S62976x2176.Idx)
    (hy : y ∈ dRow (pos pw t).toNat) :
    (dstRow out (pos pw t) hw).view.write (Elt F) f0 ((srcRow win o ho).view.read (Elt F) fx) Finset.univ y = filled fx f0 pw y := by
  subst he
  rw [mem_dRow] at hy
  rw [filled_at fx f0 pw ha t y hy.symm]
  have e : y = (dstRow out (pos pw t) hw).view.emb (ix2 (0 : Fin 1) (y 1 : Fin 2176)) := by
    funext a; match a with
    | 0 => exact Fin.ext (by show (y 0).val = (pos pw t).toNat + 1 * 0; omega)
    | 1 => exact Fin.ext (by show (y 1).val = 0 + 1 * (y 1).val; omega)
  have e' : (srcRow win ![t.val, 0] ho).view.emb (ix2 (0 : Fin 1) (y 1 : Fin 2176)) = (ix2 t (y 1) : S1024x2176.Idx) := by
    refine funext fun (a : Fin 2) => ?_
    match a with
    | 0 => exact Fin.ext (by show t.val + 1 * 0 = t.val; omega)
    | 1 => exact Fin.ext (by show 0 + 1 * (y 1).val = (y 1).val; omega)
  refine (congrArg _ e).trans ((View.write_emb_of_mem (v := (dstRow out (pos pw t) hw).view) f0 _ (Finset.mem_univ _)).trans ?_)
  exact congrArg fx e'

section Batch

variable (c : Dev nD) (fx : S1024x2176.Idx → Elt F .f32) (f0 : S62976x2176.Idx → Elt F .f32) (pw : S8x128.Idx → BitVec 32)

/-- The array's row `p` at `f`, and the window's row `t`. -/
abbrev dPt (f : S62976x2176.Idx → Elt F .f32) (p : ℕ) : sProp 𝕄 := out.view.loc (c : Thread nD τ) ↦[dRow p]{fullShare} f
abbrev sPt (t : ℕ) : sProp 𝕄 := win.view.loc (c : Thread nD τ) ↦[sRow t]{fullShare} fx

/-- What copy `t` delivers, and what it takes. -/
abbrev done (t : Fin 1024) : sProp 𝕄 := iprop(dPt c (filled fx f0 pw) (pos pw t).toNat ∗ sPt c fx t.val)
abbrev todo (t : Fin 1024) : sProp 𝕄 := iprop(dPt c f0 (pos pw t).toNat ∗ sPt c fx t.val)

/-- The copies' credit: one row. -/
abbrev NN : ℕ := (dstRow out 0#32 (by decide)).view.dmaCredit

abbrev batch (j u : ℕ) : sProp 𝕄 :=
  Transfers.Batch (countersEmb (U := Pipeline.UD sig nD τ)) (c : Thread nD τ) (.dma cc0_scratch2.sem) () NN (done c fx f0 pw) j u

/-- `j` copies started. -/
def issueAt (j : ℕ) : sProp 𝕄 :=
  iprop(batch c fx f0 pw j 0 ∗ bigSep (Ring.rangeSet 1024 j 1024) (todo c fx f0 pw)
    ∗ (posb.view.loc (c : Thread nD τ) ↦{fullShare} pw))

theorem sPt_eq (t : ℕ) (ht : t < 1024) (o : Fin 2 → Nat) (ho) (he : o = ![t, 0]) :
    sPt c fx t = ((srcRow win o ho).view.loc (c : Thread nD τ) ↦[(srcRow win o ho).view.set]{fullShare} fx : sProp 𝕄) := by
  show (win.view.loc (c : Thread nD τ) ↦[sRow t]{fullShare} fx : sProp 𝕄)
    = (win.view.loc (c : Thread nD τ) ↦[(srcRow win o ho).view.set]{fullShare} fx)
  rw [srcRow_set t ht o ho he]
theorem dPt_eq (f : S62976x2176.Idx → Elt F .f32) (v : BitVec 32) (hw) :
    dPt c f v.toNat = ((dstRow out v hw).view.loc (c : Thread nD τ) ↦[(dstRow out v hw).view.set]{fullShare} f : sProp 𝕄) := by
  show (out.view.loc (c : Thread nD τ) ↦[dRow v.toNat]{fullShare} f : sProp 𝕄)
    = (out.view.loc (c : Thread nD τ) ↦[(dstRow out v hw).view.set]{fullShare} f)
  rw [dstRow_set]

/-- One transfer started, as a rule of the batch. -/
theorem start (ha : Apart pw) (t : Fin 1024) (v : BitVec 32) (hw) (hv : v = pos pw t) (o : Fin 2 → Nat) (ho) (he : o = ![t.val, 0]) (bd)
    {hsrc} {hdst} {hsem} (k : PUnit → Prog (TpuEff nD τ sig (Elt F) Λ₀ .tc) PUnit) (Q : PUnit → sProp 𝕄) :
    iprop(sPt c fx t.val ∗ dPt c f0 v.toNat ∗ batch c fx f0 pw t.val 0)
      ⊢ iprop((batch c fx f0 pw (t.val + 1) 0 -∗ wp frame (wpE (defs₀ (F := F)) Variants.none (c : Thread nD τ) bd) Set.univ (k ⟨⟩) Q)
        -∗ wp frame (wpE (defs₀ (F := F)) Variants.none (c : Thread nD τ) bd) Set.univ
          (.op (.enqueueDmaAs (srcRow win o ho) (.here (dstRow out v hw)) .same (.dma cc0_scratch2.sem) hsrc hdst hsem) k) Q) := by
  subst hv
  have hD : iprop(((dstRow out (pos pw t) hw).view.loc (c : Thread nD τ) ↦[(dstRow out (pos pw t) hw).view.set]{fullShare}
        ((dstRow out (pos pw t) hw).view.write (Elt F) f0 ((srcRow win o ho).view.read (Elt F) fx) Finset.univ))
      ∗ ((srcRow win o ho).view.loc (c : Thread nD τ) ↦[(srcRow win o ho).view.set]{fullShare} fx)) ⊢ (done c fx f0 pw ⟨t.val, t.isLt⟩ : sProp 𝕄) := by
    refine sep_mono (Entails.of_eq ?_) (Entails.of_eq (sPt_eq c fx t.val t.isLt o ho he).symm)
    refine (dPt_eq c _ (pos pw t) hw).symm.trans ?_
    exact pointsTo_congr fun y hy => row_write fx f0 pw ha t hw o ho he y hy
  have h := Transfers.wp_dmaBatch (defs := defs₀ (F := F)) (countersEmb (U := Pipeline.UD sig nD τ)) Variants.none (c : Thread nD τ) bd (via := .same)
      (src := srcRow win o ho) (dst := dstRow out (pos pw t) hw) (hsrc := hsrc) (hdst := hdst) (hsem := hsem) (k := k) (Q := Q)
      (sm := .dma cc0_scratch2.sem) (Sd := (dstRow out (pos pw t) hw).view.set) (q := fullShare) (fs := fx) (fd := f0)
      (D := done c fx f0 pw) (j := t.val) (u := 0) () NN rfl subset_rfl t.isLt (Nat.zero_le _) hD
  rw [← sPt_eq c fx t.val t.isLt o ho he, ← dPt_eq c _ _ hw] at h
  exact h

theorem issue_copy (ha : Apart pw) (t : Fin k0_t1_loop.trips) (x : BitVec 32) (hx : x.toNat < 128) (bd) :
    issueAt c fx f0 pw (128 * t.val + x.toNat)
      ⊢ wp frame (wpE (defs₀ (F := F)) Variants.none (c : Thread nD τ) bd) Set.univ (copyRow (F := F) win out posb cc0_scratch2 t x hx)
        (fun _ => issueAt c fx f0 pw (128 * t.val + x.toNat + 1)) := by
  have ht : t.val < 8 := trips8 ▸ t.isLt
  unfold issueAt
  rw [Ring.bigSep_rangeSet_head (Φ := todo c fx f0 pw) (by omega) (by omega)]
  iintro ⟨HB, ⟨⟨Hd, Hs⟩, HR⟩, Hp⟩
  have hpos := ha.1 ⟨128 * t.val + x.toNat, by omega⟩
  have hk : k0_chk1 (pos pw ⟨128 * t.val + x.toNat, by omega⟩) := by
    intro a; match a with
    | 0 => show (pos pw _).toNat + 1 ≤ 62976; omega
    | 1 => show 0 + 2176 ≤ 2176; omega
  unfold copyRow
  sl_exec
  have hv : issue_copy.sl.r (F := F) pw t x hx = pos pw ⟨128 * t.val + x.toNat, by omega⟩ := by
    unfold issue_copy.sl.r
    refine congrArg pw (show (_ : S8x128.Idx) = _ from ?_)
    refine funext fun (a : Fin 2) => Fin.ext ?_
    show ldOff t x a + 1 * ((Shape.Idx.first _ : S1x1.Idx) a).val = _
    refine (congrArg (· + 1 * ((Shape.Idx.first _ : S1x1.Idx) a).val) (congrFun (ldOff_eq t x) a)).trans ?_
    match a with
    | 0 => show t.val + 1 * 0 = (128 * t.val + x.toNat) / 128; omega
    | 1 => show x.toNat + 1 * 0 = (128 * t.val + x.toNat) % 128; omega
  rw [hv]
  iapply (wp_assume _ _ _ _ hk)
  iapply (start c fx f0 pw ha ⟨128 * t.val + x.toNat, by omega⟩ _ hk rfl (srcOff t x) (srcOff_inb t x hx) (srcOff_eq t x hx) bd _ _) $$ [HB Hd Hs]
  · isplitl [Hs]; · iexact Hs
    isplitl [Hd]; · iexact Hd
    iexact HB
  iintro HB
  sl_step
  isplitl [HB]; · iexact HB
  isplitl [HR] <;> iassumption

theorem issue_copies (ha : Apart pw) (t : Fin k0_t1_loop.trips) (bd) (n : ℕ) (hn : n ≤ 128) :
    issueAt c fx f0 pw (128 * t.val + (128 - n))
      ⊢ wp frame (wpE (defs₀ (F := F)) Variants.none (c : Thread nD τ) bd) Set.univ (copies (F := F) win out posb cc0_scratch2 t n hn)
        (fun _ => issueAt c fx f0 pw (128 * t.val + 128)) := by
  induction n with
  | zero => unfold copies; iintro H; sl_step; iexact H
  | succ n ih =>
    unfold copies
    rw [wp_bind]
    have e : (BitVec.ofNat 32 (127 - n)).toNat = 127 - n := by simp; omega
    have h := issue_copy c fx f0 pw ha t (BitVec.ofNat 32 (127 - n)) (by omega) bd
    rw [show 128 * t.val + (128 - (n + 1)) = 128 * t.val + (BitVec.ofNat 32 (127 - n)).toNat by omega]
    refine h.trans (wp_mono _ _ _ fun _ => ?_)
    rw [show 128 * t.val + (BitVec.ofNat 32 (127 - n)).toNat + 1 = 128 * t.val + (128 - n) by omega]
    exact ih (by omega)

/-- The issue loop: trip `t` starts copies `128 t … 128 t + 127`. -/
theorem issue_step (ha : Apart pw) (bd) (i : grid0.Coords) (arg1 : Memref sig .tc .smem S112 .i32) (harg1 : arg1.IsWhole) (harg2 : win.IsWhole)
    (arg3 : Memref sig .tc .hbm S8x128 .i32) (harg3 : arg3.IsWhole) (arg4 : Memref sig .tc .hbm S62976x2176 .f32) (harg4 : arg4.IsWhole)
    (harg5 : out.IsWhole) (harg6 : posb.IsWhole) (arg7 : DmaSems sig S_) (k : Fin k0_t1_loop.trips) (acc : Unit) :
    issueAt c fx f0 pw (128 * k.val)
      ⊢ wp frame (wpE (defs₀ (F := F)) Variants.none (c : Thread nD τ) bd) Set.univ
        (k0_t1_body (F := F) i arg1 harg1 win harg2 arg3 harg3 arg4 harg4 out harg5 posb harg6 arg7 cc0_scratch2 k acc)
        (fun _ => issueAt c fx f0 pw (128 * (k.val + 1))) := by
  rw [body_eq]
  have h := issue_copies c fx f0 pw ha k bd 128 le_rfl
  rwa [Nat.sub_self, Nat.add_zero, ← Nat.mul_succ] at h

theorem trips1024 : k0_t2_loop.trips = 1024 := by decide +kernel

/-- `k` copies waited for: short of the last the batch, after it every delivery. -/
def drainInv (k : ℕ) (_ : Unit) : sProp 𝕄 :=
  iprop(⌜k ≤ 1024⌝ ∗ (∃ W, owes (c : Thread nD τ) 0 W)
    ∗ (if k < 1024 then batch c fx f0 pw 1024 (k * NN)
       else iprop(semVal ((c : Thread nD τ), SemLoc.dma cc0_scratch2.sem) 0 ∗ bigSep Finset.univ (done c fx f0 pw))))

theorem NN_pos : 0 < NN := by decide +kernel

theorem drain_step (bd) (i : grid0.Coords) (arg1 : Memref sig .tc .smem S112 .i32) (harg1 : arg1.IsWhole) (harg2 : win.IsWhole)
    (arg3 : Memref sig .tc .hbm S8x128 .i32) (harg3 : arg3.IsWhole) (arg4 : Memref sig .tc .hbm S62976x2176 .f32) (harg4 : arg4.IsWhole)
    (harg5 : out.IsWhole) (harg6 : posb.IsWhole) (arg7 : DmaSems sig S_) (k : Fin k0_t2_loop.trips) (acc : Unit) :
    drainInv c fx f0 pw k acc
      ⊢ wp frame (wpE (defs₀ (F := F)) Variants.none (c : Thread nD τ) bd) Set.univ
        (k0_t2_body (F := F) i arg1 harg1 win harg2 arg3 harg3 arg4 harg4 out harg5 posb harg6 arg7 cc0_scratch2 k acc)
        (drainInv c fx f0 pw (k.val + 1)) := by
  have hk : k.val < 1024 := trips1024 ▸ k.isLt
  unfold drainInv k0_t2_body
  simp only [if_pos hk]
  rcases Nat.lt_or_ge (k.val + 1) 1024 with h1 | h1
  · simp only [if_pos h1]
    iintro ⟨-, ⟨%W, HO⟩, HB⟩
    iapply (Transfers.wp_waitBatch (defs := defs₀ (F := F)) (countersEmb (U := Pipeline.UD sig nD τ)) Variants.none (c : Thread nD τ) bd () (N := NN) rfl
      (D := done c fx f0 pw) (u := k.val * NN) (by have := NN_pos; nlinarith) (W := W) (k := fun _ => .ret ())) $$ [HB HO]
    · isplitl [HB] <;> iassumption
    iintro ⟨HB, HO⟩
    sl_step
    isplitr; · ipureintro; omega
    isplitl [HO]; · iexists _; iexact HO
    rw [Nat.succ_mul]; iexact HB
  · simp only [if_neg (Nat.not_lt.mpr h1)]
    iintro ⟨-, ⟨%W, HO⟩, HB⟩
    iapply (Transfers.wp_waitBatchLast (defs := defs₀ (F := F)) (countersEmb (U := Pipeline.UD sig nD τ)) Variants.none (c : Thread nD τ) bd () (N := NN) rfl NN_pos
      (D := done c fx f0 pw) (u := k.val * NN) (by rw [← Nat.succ_mul, Nat.mul_comm, show k.val.succ = 1024 by omega]) (W := W) (k := fun _ => .ret ())) $$ [HB HO]
    · isplitl [HB] <;> iassumption
    iintro ⟨HD, HB, HO⟩
    sl_step
    isplitr; · ipureintro; omega
    isplitl [HO]; · iexists _; iexact HO
    isplitl [HB] <;> iassumption

end Batch

end Cert.Proof.Loops
end
-- ==== Proof.Body.lean ====
/- The dispatch's body: the positions fetched, every row copied to its destination, every copy waited for. -/
module

public import proofs.«01_k».proof.Proof.Loops
public import proofs.«01_k».proof.Proof.Gen.KernelIdeal.Skeleton

@[expose] public section

set_option maxRecDepth 16384

noncomputable section

namespace Cert.Proof.Body

open Cert.KernelIdeal Cert.KernelIdeal.Gen Cert.Proof.Rows Cert.Proof.Loops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open ValueIdx (ix2 eq_ix2)

variable {F : FTy → Type} [FloatOps F]

local notation "𝕄" => MT nD τ sig Unit (Elt F) ℕ (Pipeline.UD sig nD τ) ℕ

/-- The positions, in HBM. -/
abbrev posh : Memref sig .tc .hbm S8x128 .i32 := Memref.whole main_v29

variable (c : Dev nD) (fx : S1024x2176.Idx → Elt F .f32) (f0 : S62976x2176.Idx → Elt F .f32) (pw : S8x128.Idx → BitVec 32)

/-- The rows written, all together. -/
def dRows : Finset S62976x2176.Idx := Finset.univ.biUnion fun t : Fin 1024 => dRow (pos pw t).toNat

theorem sRows_univ : (Finset.univ.biUnion fun t : Fin 1024 => sRow t.val) = Finset.univ := by
  ext y
  simp only [Finset.mem_biUnion, Finset.mem_univ, true_and, iff_true]
  exact ⟨⟨(y 0).val, (y 0).isLt⟩, (mem_sRow _ y).2 rfl⟩

theorem win_rows (f : S1024x2176.Idx → Elt F .f32) :
    (win.view.loc (c : Thread nD τ) ↦{fullShare} f : sProp 𝕄) = bigSep Finset.univ fun t : Fin 1024 => sPt c f t.val := by
  have h := pointsTo_biUnion (Ix := Unit) (Name := ℕ) (U := Pipeline.UD sig nD τ) (Lvl := ℕ) (ℓ := win.view.loc (c : Thread nD τ)) (q := fullShare) (f := f)
    (Finset.univ : Finset (Fin 1024)) (fun t => sRow t.val) (by
      intro t _ t' _ hne
      refine Finset.disjoint_left.2 fun y hy hy' => hne (Fin.ext ?_)
      rw [mem_sRow] at hy hy'; omega)
  rw [sRows_univ] at h
  exact h

theorem out_rows (ha : Apart pw) (f : S62976x2176.Idx → Elt F .f32) :
    (out.view.loc (c : Thread nD τ) ↦[dRows pw]{fullShare} f : sProp 𝕄)
      = bigSep Finset.univ fun t : Fin 1024 => dPt c f (pos pw t).toNat := by
  refine pointsTo_biUnion (Ix := Unit) (Name := ℕ) (U := Pipeline.UD sig nD τ) (Lvl := ℕ) (ℓ := out.view.loc (c : Thread nD τ)) (q := fullShare) (f := f)
    (Finset.univ : Finset (Fin 1024)) (fun t => dRow (pos pw t).toNat) ?_
  intro t _ t' _ hne
  refine Finset.disjoint_left.2 fun y hy hy' => hne (ha.2 _ _ ?_)
  rw [mem_dRow] at hy hy'; omega

/-- What the rows' copies take, out of the two arrays; the rest stays. -/
theorem split_rows (ha : Apart pw) :
    iprop((win.view.loc (c : Thread nD τ) ↦{fullShare} fx) ∗ (out.view.loc (c : Thread nD τ) ↦{fullShare} f0))
      ⊢ (iprop(bigSep Finset.univ (todo c fx f0 pw)
        ∗ (out.view.loc (c : Thread nD τ) ↦[Finset.univ \ dRows pw]{fullShare} filled fx f0 pw)) : sProp 𝕄) := by
  have e : (out.view.loc (c : Thread nD τ) ↦[Finset.univ \ dRows pw]{fullShare} filled fx f0 pw : sProp 𝕄)
      = (out.view.loc (c : Thread nD τ) ↦[Finset.univ \ dRows pw]{fullShare} f0) := by
    refine pointsTo_congr fun y hy => filled_off fx f0 pw y fun t ht => ?_
    refine (Finset.mem_sdiff.1 hy).2 (Finset.mem_biUnion.2 ⟨t, Finset.mem_univ _, (mem_dRow _ _).2 ht.symm⟩)
  rw [e, win_rows, bigSep_sep' Finset.univ, ← out_rows c pw ha f0]
  iintro ⟨Hs, Ho⟩
  ihave H := (pointsTo_split_subset (Finset.subset_univ (dRows pw))).1 $$ Ho
  icases H with ⟨Hd, Hr⟩
  isplitr [Hr]
  · isplitl [Hd] <;> iassumption
  iexact Hr

/-- What the copies deliver, put together. -/
theorem join_rows (ha : Apart pw) :
    iprop(bigSep Finset.univ (done c fx f0 pw)
        ∗ (out.view.loc (c : Thread nD τ) ↦[Finset.univ \ dRows pw]{fullShare} filled fx f0 pw))
      ⊢ (iprop((win.view.loc (c : Thread nD τ) ↦{fullShare} fx) ∗ (out.view.loc (c : Thread nD τ) ↦{fullShare} filled fx f0 pw)) : sProp 𝕄) := by
  rw [win_rows, bigSep_sep' Finset.univ, ← out_rows c pw ha (filled fx f0 pw)]
  iintro ⟨⟨Hd, Hs⟩, Hr⟩
  isplitl [Hs]; · iexact Hs
  iapply (pointsTo_split_subset (Finset.subset_univ (dRows pw))).2
  isplitl [Hd] <;> iassumption

theorem off1_eq : ∀ i : grid0.Coords, k0_off1 i = ![0, 0] := by decide +kernel

/-- The positions as the body's first transfer names them. -/
abbrev posr (i : grid0.Coords) : Memref sig .tc .hbm S8x128 .i32 :=
  posh.slice (Rect.unit (s := S8x128) (k0_off1 i) S8x128.size (k0_off1_inb i)) (fun _ => rfl)

theorem posr_set (i : grid0.Coords) : (posr i).view.set = Finset.univ := by
  refine (View.set_slice_whole _ _).trans ?_
  ext y; rw [Rect.mem_set_unit]
  refine iff_of_true (fun (a : Fin 2) => ?_) (Finset.mem_univ _)
  have e := congrFun (off1_eq i) a
  have h := (y a).isLt
  match a with
  | 0 => have e' : k0_off1 i 0 = 0 := e; have h' : (y 0).val < 8 := h; show k0_off1 i 0 ≤ (y 0).val ∧ (y 0).val < k0_off1 i 0 + 8; omega
  | 1 => have e' : k0_off1 i 1 = 0 := e; have h' : (y 1).val < 128 := h; show k0_off1 i 1 ≤ (y 1).val ∧ (y 1).val < k0_off1 i 1 + 128; omega

theorem posr_read (i : grid0.Coords) (y : S8x128.Idx) : (posr i).view.read (Elt F) pw y = pw y := by
  refine congrArg pw (funext fun (a : Fin 2) => Fin.ext ?_)
  show k0_off1 i a + 1 * (y a).val = (y a).val
  have e := congrFun (off1_eq i) a
  match a with
  | 0 => have e' : k0_off1 i 0 = 0 := e; show k0_off1 i 0 + 1 * (y 0).val = _; omega
  | 1 => have e' : k0_off1 i 1 = 0 := e; show k0_off1 i 1 + 1 * (y 1).val = _; omega

/-- What the positions' transfer delivers. -/
abbrev fetched (_ : Fin 1) : sProp 𝕄 :=
  iprop((posb.view.loc (c : Thread nD τ) ↦{fullShare} pw) ∗ (posh.view.loc (c : Thread nD τ) ↦{fullShare} pw))
abbrev NP : ℕ := posb.view.dmaCredit
theorem NP_pos : 0 < NP := by decide +kernel

theorem posb_set : posb.view.set = Finset.univ := by rw [Memref.view_whole, View.set_whole]
theorem posb_write (d : S8x128.Idx → BitVec 32) (f : S8x128.Idx → BitVec 32) :
    posb.view.write (Elt F) d f Finset.univ = f := View.write_whole_univ _ _ _

/-- The positions fetched. -/
theorem fetch (i : grid0.Coords) (d : S8x128.Idx → BitVec 32) (W : Waits sig Unit) {hs hd hh hs' hd'} {K : Prog (TpuEff nD τ sig (Elt F) Λ₀ .tc) PUnit} (Q : PUnit → sProp 𝕄) :
    (iprop((posb.view.loc (c : Thread nD τ) ↦{fullShare} d) ∗ (posh.view.loc (c : Thread nD τ) ↦{fullShare} pw)
        ∗ semVal ((c : Thread nD τ), SemLoc.dma cc0_scratch1.sem) 0 ∗ owes (c : Thread nD τ) 0 W
        ∗ (iprop((posb.view.loc (c : Thread nD τ) ↦{fullShare} pw) ∗ (posh.view.loc (c : Thread nD τ) ↦{fullShare} pw)
          ∗ semVal ((c : Thread nD τ), SemLoc.dma cc0_scratch1.sem) 0 ∗ (∃ W', owes (c : Thread nD τ) 0 W'))
          -∗ wp frame (wpE (defs₀ (F := F)) Variants.none (c : Thread nD τ) none) Set.univ K Q)) : sProp 𝕄)
      ⊢ wp frame (wpE (defs₀ (F := F)) Variants.none (c : Thread nD τ) none) Set.univ
        (.op (.enqueueDmaAs (posr i) (.here posb) .same (.dma cc0_scratch1.sem) hs hd hh) fun _ =>
          .op (.waitDma2 cc0_scratch1.sem (posr i) posb hs' hd') fun _ => K) Q := by
  iintro ⟨Hp, Hh, Hc, HO, HK⟩
  imod (Transfers.batch_alloc' (Lvl := ℕ) (countersEmb (U := Pipeline.UD sig nD τ)) (c : Thread nD τ) () NP (fetched (F := F) c pw)
    (sm := .dma cc0_scratch1.sem) (E := Set.univ)) $$ Hc with HB
  have hD : iprop((posb.view.loc (c : Thread nD τ) ↦[posb.view.set]{fullShare}
        (posb.view.write (Elt F) d ((posr i).view.read (Elt F) pw) Finset.univ))
      ∗ ((posr i).view.loc (c : Thread nD τ) ↦[(posr i).view.set]{fullShare} pw)) ⊢ (fetched (F := F) c pw ⟨0, Nat.one_pos⟩ : sProp 𝕄) := by
    rw [posr_set, posb_set, posb_write, show (posr i).view.read (Elt F) pw = pw from funext (posr_read pw i)]
  have h := Transfers.wp_dmaBatch (defs := defs₀ (F := F)) (countersEmb (U := Pipeline.UD sig nD τ)) Variants.none (c : Thread nD τ) none (via := .same)
      (src := posr i) (dst := posb) (hsrc := hs) (hdst := hd) (hsem := hh) (k := fun _ => .op (.waitDma2 cc0_scratch1.sem (posr i) posb hs' hd') fun _ => K) (Q := Q)
      (sm := .dma cc0_scratch1.sem) (Sd := posb.view.set) (q := fullShare) (fs := pw) (fd := d)
      (D := fetched (F := F) c pw) (j := 0) (u := 0) () NP rfl subset_rfl Nat.one_pos (Nat.zero_le _) hD
  rw [posr_set, posb_set] at h
  iapply h $$ [Hp Hh HB]
  · isplitl [Hh]; · iexact Hh
    isplitl [Hp]; · iexact Hp
    iexact HB
  iintro HB
  iapply (Transfers.wp_waitBatchLast (defs := defs₀ (F := F)) (countersEmb (U := Pipeline.UD sig nD τ)) Variants.none (c : Thread nD τ) none () (N := NP) rfl NP_pos
      (D := fetched (F := F) c pw) (u := 0) (by rw [Nat.mul_one, Nat.zero_add]) (W := W) (k := fun _ => K)) $$ [HB HO]
  · isplitl [HB] <;> iassumption
  iintro ⟨HD, HB, HO⟩
  iapply HK
  ihave HD' := (Entails.of_eq ((bigSep_univ_eq_bigSepL [(0 : Fin 1)] (by decide) (by decide) (fetched (F := F) c pw)).trans
    (BI.bigSepL_singleton _ _))) $$ HD
  icases HD' with ⟨Hp, Hh⟩
  isplitl [Hp]; · iexact Hp
  isplitl [Hh]; · iexact Hh
  isplitl [HB]; · iexact HB
  iexists _; iexact HO

/-- The whole body. -/
theorem run (ha : Apart pw) (i : grid0.Coords) (arg1 : Memref sig .tc .smem S112 .i32) (harg1 : arg1.IsWhole)
    (h2 : win.IsWhole) (h3 : posh.IsWhole) (h4 h5 : out.IsWhole) (h6 : posb.IsWhole) (W : Waits sig Unit) (d : S8x128.Idx → BitVec 32) :
    (iprop((win.view.loc (c : Thread nD τ) ↦{fullShare} fx) ∗ (posb.view.loc (c : Thread nD τ) ↦{fullShare} d)
        ∗ semVal ((c : Thread nD τ), SemLoc.dma cc0_scratch1.sem) 0 ∗ semVal ((c : Thread nD τ), SemLoc.dma cc0_scratch2.sem) 0
        ∗ (posh.view.loc (c : Thread nD τ) ↦{fullShare} pw) ∗ (out.view.loc (c : Thread nD τ) ↦{fullShare} f0)
        ∗ owes (c : Thread nD τ) 0 W) : sProp 𝕄)
      ⊢ wp frame (wpE (defs₀ (F := F)) Variants.none (c : Thread nD τ) none) Set.univ
        (cc0_moe_dispatch (F := F) i arg1 harg1 win h2 posh h3 out h4 out h5 posb h6 cc0_scratch1 cc0_scratch2)
        (fun _ => iprop((win.view.loc (c : Thread nD τ) ↦{fullShare} fx) ∗ (∃ d, posb.view.loc (c : Thread nD τ) ↦{fullShare} d)
        ∗ semVal ((c : Thread nD τ), SemLoc.dma cc0_scratch1.sem) 0 ∗ semVal ((c : Thread nD τ), SemLoc.dma cc0_scratch2.sem) 0
        ∗ (posh.view.loc (c : Thread nD τ) ↦{fullShare} pw) ∗ (out.view.loc (c : Thread nD τ) ↦{fullShare} filled fx f0 pw)
        ∗ (∃ W', owes (c : Thread nD τ) 0 W'))) := by
  iintro ⟨Hw, Hp, Hc1, Hc2, Hh, Ho, HO⟩
  ihave H := (split_rows c fx f0 pw ha) $$ [Hw Ho]
  · isplitl [Hw] <;> iassumption
  icases H with ⟨Ht, Hr⟩
  imod (Transfers.batch_alloc' (Lvl := ℕ) (countersEmb (U := Pipeline.UD sig nD τ)) (c : Thread nD τ) () NN (done c fx f0 pw)
    (sm := .dma cc0_scratch2.sem) (E := Set.univ)) $$ Hc2 with HB
  simp only [cc0_moe_dispatch_eq_skeleton]; unfold cc0_moe_dispatch_skel
  dsimp only
  iapply (fetch c pw i d W _)
  isplitl [Hp]; · iexact Hp
  isplitl [Hh]; · iexact Hh
  isplitl [Hc1]; · iexact Hc1
  isplitl [HO]; · iexact HO
  iintro ⟨Hp, Hh, Hc1, ⟨%W', HO⟩⟩
  rw [show ∀ (x : Prog (TpuEff nD τ sig (Elt F) Λ₀ .tc) Unit) (f : Unit → Prog (TpuEff nD τ sig (Elt F) Λ₀ .tc) PUnit), x.bind f = (x >>= f) from fun _ _ => rfl]
  sl_for (fun k _ => issueAt c fx f0 pw (128 * k)) $$ [HB Ht Hp]
  · intro k acc; exact issue_step c fx f0 pw ha none i arg1 harg1 h2 posh h3 out h4 h5 h6 cc0_scratch1 k acc
  · unfold issueAt
    isplitl [HB]; · iexact HB
    rw [Ring.rangeSet_univ]
    isplitl [Ht] <;> iassumption
  iintro %acc HI
  ihave HI' := (show issueAt c fx f0 pw (128 * k0_t1_loop.trips) ⊢ iprop(batch c fx f0 pw 1024 0 ∗ posb.view.loc (c : Thread nD τ) ↦{fullShare} pw) from by
    rw [trips8]; unfold issueAt; iintro ⟨HB, -, Hp⟩
    isplitl [HB] <;> iassumption) $$ HI
  icases HI' with ⟨HB, Hp⟩
  unfold run.sl.prog.cont_1
  sl_for (drainInv c fx f0 pw) $$ [HB HO]
  · intro k acc; exact drain_step c fx f0 pw none i arg1 harg1 h2 posh h3 out h4 h5 h6 cc0_scratch1 k acc
  · unfold drainInv
    rw [if_pos (by norm_num)]
    isplitr; · ipureintro; omega
    isplitl [HO]; · iexists _; iexact HO
    rw [Nat.zero_mul]; iexact HB
  iintro %acc' HL
  ihave HL' := (show drainInv c fx f0 pw k0_t2_loop.trips acc' ⊢ iprop((∃ W, owes (c : Thread nD τ) 0 W)
      ∗ semVal ((c : Thread nD τ), SemLoc.dma cc0_scratch2.sem) 0 ∗ bigSep Finset.univ (done c fx f0 pw)) from by
    unfold drainInv; rw [trips1024, if_neg (Nat.lt_irrefl _)]; iintro ⟨-, HO, Hc, Hall⟩
    isplitl [HO]; · iexact HO
    isplitl [Hc] <;> iassumption) $$ HL
  icases HL' with ⟨⟨%W2, HO⟩, Hc2, Hall⟩
  ihave H := (join_rows c fx f0 pw ha) $$ [Hall Hr]
  · isplitl [Hall] <;> iassumption
  icases H with ⟨Hw, Ho⟩
  unfold run.sl.prog.cont_2
  sl_step
  isplitl [Hw]; · iexact Hw
  isplitl [Hp]; · iexists _; iexact Hp
  isplitl [Hc1]; · iexact Hc1
  isplitl [Hc2]; · iexact Hc2
  isplitl [Hh]; · iexact Hh
  isplitl [Ho]; · iexact Ho
  iexists _; iexact HO

end Cert.Proof.Body
end
-- ==== Proof.Run.lean ====
/- The dispatch run whole: the host's operations, then the call, its result the rows at their destinations. -/
module

public import proofs.«01_k».proof.Proof.Body
public import proofs.«01_k».proof.Proof.Gen.KernelIdeal.Launch
public import Idealize.ShloMosaic.Lib.Pipeline.FrameBody
public import Idealize.ShloMosaic.Lib.Pipeline.Value

@[expose] public section

set_option maxRecDepth 16384

noncomputable section

namespace Cert.Proof.Run

open Cert.KernelIdeal Cert.KernelIdeal.Gen Cert.Proof.Rows Cert.Proof.Loops Cert.Proof.Body
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host's operations before the call. -/
abbrev opss : List (List (HloOp τ sig (Elt F))) :=
  [hostOps0, hostOps0_1, hostOps0_2, hostOps0_3, hostOps0_4, hostOps0_5, hostOps0_6, hostOps0_7, hostOps0_8]

/-- What each buffer holds when the call starts. -/
def V (c : Dev nD) (b : Ref sig .tc) : Buf (Elt F) ((c : Thread nD τ).loc b) :=
  StableHlo.after (opss (F := F)).flatten (fun b => m (c, b)) b

theorem hmain (𝒱₀ : Variants) :
    Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main opss
    ⟨hostOps0_sub, hostOps0_1_sub, hostOps0_2_sub, hostOps0_3_sub, hostOps0_4_sub, hostOps0_5_sub, hostOps0_6_sub, hostOps0_7_sub, hostOps0_8_sub⟩
    (by simp only [List.Forall]; repeat' constructor)
    (fun c => main_chain c)

attribute [irreducible] V

/-- The table the call reads at entry. -/
def adm (_ : Fin 1) : (pcfg0 (F := F)).Adm := ⟨fun k => V m 0 (pre0.ref k), trivial⟩

/-- The window's rows, the positions and the array when the call starts. -/
abbrev rowsIn (c : Dev nD) : S1024x2176.Idx → Elt F .f32 := V m c main_arg2
abbrev posIn (c : Dev nD) : S8x128.Idx → BitVec 32 := V m c main_v29
abbrev arrIn (c : Dev nD) : S62976x2176.Idx → Elt F .f32 := V m c main_v30

/-- The result. -/
def res (c : Dev nD) : S62976x2176.Idx → Elt F .f32 := filled (rowsIn m c) (arrIn m c) (posIn m c)

/-- What the written buffer holds at the end. -/
def G (c : Dev nD) (b : Ref sig .tc) : Buf (Elt F) ((c : Thread nD τ).loc b) := Function.update (V m c) main_v30 (res m c) b

theorem G_out (c : Dev nD) : G m c main_v30 = res m c := by unfold G; rw [Function.update_self]

def H0 : Finset (Ref sig .tc) := {main_v29}
def R0 : Finset (Ref sig .tc) := {main_v30}

theorem H0_sub : H0 ⊆ Pipeline.restRefsP sig pre0 spec0 := by decide +kernel
theorem R0_sub : R0 ⊆ Pipeline.restRefsP sig pre0 spec0 \ H0 := by decide +kernel

abbrev osem0 : Fin 2 → SemLoc sig := fun j => (![SemLoc.dma cc0_scratch1.sem, SemLoc.dma cc0_scratch2.sem] : Fin 2 → SemLoc sig) j
theorem ownSemFacts0 : Pipeline.OwnSemFacts spec0 osem0 := by decide +kernel
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch1.sem) 0 ∗ semVal ((c : Thread nD τ), SemLoc.dma cc0_scratch2.sem) 0) := by
  rw [Pipeline.ownSems0_eq_of_list c osem0 [0, 1] (by decide) (by decide)]; rfl

theorem heldPts_eq (c : Dev nD) :
    (bigSep H0 (fun b => ((c : Thread nD τ).loc b) ↦{fullShare} V m c b) : sProp 𝕄)
      = (posh.view.loc (c : Thread nD τ) ↦{fullShare} posIn m c) := by
  rw [BI.bigSep_eq_bigSepL_of_eq [main_v29] (by decide) (by decide)]; rfl
theorem routedPts_eq (c : Dev nD) (X : (b : Ref sig .tc) → Buf (Elt F) ((c : Thread nD τ).loc b)) :
    (Pipeline.routed R0 c X : sProp 𝕄) = (out.view.loc (c : Thread nD τ) ↦{fullShare} X main_v30) := by
  unfold Pipeline.routed; rw [BI.bigSep_eq_bigSepL_of_eq [main_v30] (by decide) (by decide)]; rfl

/-- The call's own buffers and semaphores, with the array written at `X`. -/
def inv (c : Dev nD) (X : S62976x2176.Idx → Elt F .f32) : sProp 𝕄 :=
  iprop((∃ d : S8x128.Idx → BitVec 32, posb.view.loc (c : Thread nD τ) ↦{fullShare} d) ∗ (∃ r, prngReg c r)
    ∗ (semVal ((c : Thread nD τ), SemLoc.dma cc0_scratch1.sem) 0 ∗ semVal ((c : Thread nD τ), SemLoc.dma cc0_scratch2.sem) 0)
    ∗ (posh.view.loc (c : Thread nD τ) ↦{fullShare} posIn m c) ∗ (out.view.loc (c : Thread nD τ) ↦{fullShare} X))

theorem inv_eq (c : Dev nD) (X : (b : Ref sig .tc) → Buf (Elt F) ((c : Thread nD τ).loc b)) (W : (c : Dev nD) → (b : Ref sig .tc) → Buf (Elt F) ((c : Thread nD τ).loc b)) (hW : W c = X) :
    (Pipeline.ΦDRG osem0 spec0 H0 R0 (V m) W c : sProp 𝕄) = inv m c (X main_v30) := by
  rw [Pipeline.ΦDRG_eq, scopedRest0_eq, ownSems00_eq, heldPts_eq, routedPts_eq, hW]; rfl

/-- The proof data of the call. -/
def dats (_ : Fin 1) (c : Dev nD) : Dat τ (Elt F) Unit ℕ (Pipeline.UD sig nD τ) ℕ (cfg0 (adm m 0)) c where
  A w := V m c (Pipeline.arrRef spec0 w)
  after w _ := match w with
    | ⟨0, _⟩ => rowsIn m c
  Φ t := inv m c (if t.val = 0 then arrIn m c else res m c)
  q _ := fullShare
  owed _ := 0

/-- The window's copy at the call's one grid point brings the whole of its array. -/
theorem before0 (c : Dev nD) (t : Fin (cfg0 (adm m 0)).N) (d : S1024x2176.Idx → Elt F .f32) :
    (dats m 0 c).before (0 : Fin 1) t d = rowsIn m c := by
  obtain rfl := fin_N0 t
  unfold Dat.before
  rw [if_pos (show ((cfg0 (adm m 0)).win (0 : Fin 1)).fetch t0_0 = true from rfl)]
  funext x
  have hm : ((cfg0 (adm m 0)).win (0 : Fin 1)).moved ((cfg0 (adm m 0)).grid.coords t0_0) x = true :=
    (((cfg0 (adm m 0)).win (0 : Fin 1)).moved_iff _ x).mpr fun a => (x a).isLt
  unfold Dat.fetched Pipeline.Window.fill; rw [dif_pos hm]
  refine congrArg (V m c main_arg2) ?_
  refine funext fun (a : Fin 2) => Fin.ext ((Pipeline.Window.rect_emb_val _ _ _ _ rfl).trans ?_)
  have hp : ∀ a, 0 < S1024x2176.size a := by decide
  have hz : ((cfg0 (adm m 0)).win (0 : Fin 1)).index t0_0 a = 0 := by
    have h : (cc0_transform_0 (grid0.coords t0_0) a + 1) * S1024x2176.size a ≤ S1024x2176.size a := Facts₀.hinb0_0 _ a
    have hle : cc0_transform_0 (grid0.coords t0_0) a + 1 ≤ 1 := Nat.le_of_mul_le_mul_right (by rw [Nat.one_mul]; exact h) (hp a)
    exact Nat.le_zero.mp (Nat.le_of_succ_le_succ hle)
  exact (congrArg (fun k => k * ((cfg0 (adm m 0)).win (0 : Fin 1)).size a + (x a).val) hz).trans (by rw [Nat.zero_mul, Nat.zero_add])

theorem Phi_start (c : Dev nD) (t : Fin ((cfg0 (adm m 0)).N + 1)) (h : t.val = 0) : (dats m 0 c).Φ t = inv m c (arrIn m c) :=
  congrArg (inv m c) (if_pos h)
theorem Phi_end (c : Dev nD) (t : Fin ((cfg0 (adm m 0)).N + 1)) (h : t.val ≠ 0) : (dats m 0 c).Φ t = inv m c (res m c) :=
  congrArg (inv m c) (if_neg h)

/-- The body as the loop calls it at the grid's point. -/
def bodyAt (t : Fin (cfg0 (adm m 0)).N) : Prog (TpuEff nD τ sig (Elt F) Λ₀ .tc) PUnit :=
  cc0_moe_dispatch (grid0.coords t) (Memref.whole main_v10) (Memref.isWhole_whole _) win (Memref.isWhole_whole _) posh (Memref.isWhole_whole _)
    out (Memref.isWhole_whole _) out (Memref.isWhole_whole _) posb (Memref.isWhole_whole _) cc0_scratch1 cc0_scratch2

theorem defs₀_row (t : Fin (cfg0 (adm m 0)).N) :
    defs₀ (F := F) .tc (cfg0 (adm m 0)).body ((cfg0 (adm m 0)).bodyArgs t ((cfg0 (adm m 0)).slots t)) = bodyAt m t := by
  unfold defs₀; rw [Defs.onTc_tc]; obtain rfl := fin_N0 t; rfl

variable (ha : ∀ c, Apart (posIn m c))

theorem A_eq (c : Dev nD) (w : Fin 1) : (dats m 0 c).A w = V m c (Pipeline.arrRef spec0 w) := rfl

include ha

theorem sound_body (c : Dev nD) (t : Fin (cfg0 (adm m 0)).N) :
    (iprop((dats m 0 c).Φ t.castSucc ∗ (dats m 0 c).owesAt () t.castSucc ∗ (∃ d, owns c.tc win fullShare ((dats m 0 c).before (0 : Fin 1) t d))) : sProp 𝕄)
      ⊢ wp frame (wpE (defs₀ (F := F)) Variants.none c none) Set.univ (bodyAt m t)
        (fun _ => iprop((dats m 0 c).Φ t.succ ∗ (dats m 0 c).owesAt () t.succ ∗ owns c.tc win fullShare (rowsIn m c))) := by
  have ht : t.val = 0 := by obtain rfl := fin_N0 t; rfl
  rw [Phi_start m c _ ht, Phi_end m c t.succ (Nat.succ_ne_zero _)]
  simp only [before0]
  unfold Dat.owesAt Pipeline.owesWithin inv
  rw [show (dats m 0 c).owed t.castSucc = 0 from rfl, show (dats m 0 c).owed t.succ = 0 from rfl]
  rw [owns_whole]
  unfold bodyAt
  iintro ⟨⟨⟨%d, Hp⟩, Hg, ⟨Hc1, Hc2⟩, Hh, Ho⟩, ⟨%W, -, HO⟩, ⟨%d0, Hw⟩⟩
  ihave H := (Body.run c (rowsIn m c) (arrIn m c) (posIn m c) (ha c) (grid0.coords t) (Memref.whole main_v10) (Memref.isWhole_whole _)
    (Memref.isWhole_whole _) (Memref.isWhole_whole _) (Memref.isWhole_whole _) (Memref.isWhole_whole _) (Memref.isWhole_whole _) W d) $$ [Hp Hc1 Hc2 Hh Ho HO Hw]
  · isplitl [Hw]; · iexact Hw
    isplitl [Hp]; · iexact Hp
    isplitl [Hc1]; · iexact Hc1
    isplitl [Hc2]; · iexact Hc2
    isplitl [Hh]; · iexact Hh
    isplitl [Ho]; · iexact Ho
    iexact HO
  iapply wp_wand $$ H
  iintro %a ⟨Hw, Hp, Hc1, Hc2, Hh, Ho, ⟨%W', HO⟩⟩
  isplitl [Hp Hg Hc1 Hc2 Hh Ho]
  · isplitl [Hp]; · iexact Hp
    isplitl [Hg]; · iexact Hg
    isplitl [Hc1 Hc2]
    · isplitl [Hc1] <;> iassumption
    isplitl [Hh]; · iexact Hh
    iexact Ho
  isplitl [HO]
  · iexists W'; isplitr; · ipureintro; exact fun _ _ => Or.inl trivial
    iexact HO
  iexact Hw

theorem body_obligation (c : Dev nD) : BodyObligation (dats m 0 c) (defs₀ (F := F)) Variants.none () Set.univ := fun t => by
  rw [bigSep_W0, bigSep_W0, defs₀_row]
  obtain rfl := fin_N0 t
  exact triple_restated (sound_body m ha c t0_0) rfl .rfl fun _ => .rfl

theorem hin (c : Dev nD) : (Pipeline.ΦDRG osem0 spec0 H0 R0 (V m) (V m) c : sProp 𝕄) ⊢ (dats m 0 c).Φ 0 := by
  rw [inv_eq m c (V m c) (V m) rfl, Phi_start m c _ rfl]

theorem hout (c : Dev nD) : (dats m 0 c).Φ (Fin.last (cfg0 (adm m 0)).N) ⊢ (Pipeline.ΦDRG osem0 spec0 H0 R0 (V m) (G m) c : sProp 𝕄) := by
  rw [inv_eq m c (G m c) (G m) rfl, G_out, Phi_end m c _ (by rw [Fin.val_last]; exact fun h => Nat.one_ne_zero (N_0.symm.trans h))]

set_option backward.isDefEq.respectTransparency.types false in
theorem run_main : θ_run defs (onTc (τ := τ) (main (F := F))) (s₀ m ρ)
    (fun r => Pipeline.FramePostRG (Pipeline.pin pcfgs (adm m)) (dats m) 0 R0 (V m) (G m) r ∧ r.2.sem = fun _ => 0) :=
  Pipeline.θ_run_frameP_dmaRG (Q' := _) pcfgs (adm m) (dats m) (0 : Fin 1) launch0 osem0 defs₀ Variants.none ownSemFacts0 H0 R0 H0_sub R0_sub m ρ main
    (hbody := fun c => (body_obligation m ha c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl) (G := G m)
    (hin := fun c => sep_elim_left.trans (hin m ha c)) (hout := hout m ha)

end Cert.Proof.Run
end
-- ==== Proof.Refs.lean ====
/- The reference's run. -/
module

public import proofs.«01_k».proof.Defs
public import proofs.«01_k».proof.Proof.Gen.ReferenceIdeal
public import proofs.«01_k».proof.Proof.Gen.Pre_rows_apart
public import Idealize.ShloMosaic.Lib.StableHlo.RunHlo
public import Idealize.ShloMosaic.Lib.StableHlo.RunRead
public import Idealize.ShloMosaic.Lib.Claim
public import Idealize.ShloMosaic.Lib.Tactic.WordOmega
public import Idealize.ShloMosaic.Lib.Pointwise
public import Idealize.ShloMosaic.Lib.Routing.OpsSet
public import Idealize.ShloMosaic.Lib.Routing.OpsOne

@[expose] public section

set_option maxRecDepth 16384

noncomputable section

namespace Cert.Proof.Refs

open Idealize.ShloMosaic hiding ix1 ix2
open Idealize.ShloMosaic.TcCoe Idealize.ShloMosaic.Tactic
open Idealize.ShloMosaic.ValueIdx
open Idealize.SL.Sem

variable {F : FTy → Type} [FloatOps F]

section
open Cert.Pre_rows_apart Cert.Pre_rows_apart.Facts

/-- The counts rounded up to whole tiles. -/
def padded (a0 : FVec F S1x128 .f32) : IVec S112 32 :=
  muli (fn_floor_divide (F := F) (subi (addi (fptosi 32 (shapeCast S112 (extractStridedSlice S1x112 ![0, 0] a0 slices_S1x128_S1x112_0_0) shapeCasts_S1x112_S112))
      (broadcastInDim S112 ![] bcast_S_S112 (constantI S_ 32 256#32))) (broadcastInDim S112 ![] bcast_S_S112 (constantI S_ 32 1#32))) (constantI S_ 32 256#32))
    (broadcastInDim S112 ![] bcast_S_S112 (constantI S_ 32 256#32))

/-- Where each group's rows start. -/
def starts (a0 : FVec F S1x128 .f32) : IVec S112 32 := subi (fn_cumsum (F := F) (padded a0)) (padded a0)

/-- Which group each row is of, as a table of bits. -/
def ofGroup (a1 : FVec F S1024x128 .f32) : IVec S1024x112 1 :=
  cmpi .eq
    (broadcastInDim S1024x112 ![0, 1] bcast_S1024x1_S1024x112_0_1 (broadcastInDim S1024x1 ![0] bcast_S1024_S1024x1_0
      (fptosi 32 (shapeCast S1024 (extractStridedSlice S1024x1 ![0, 0] a1 slices_S1024x128_S1024x1_0_0) shapeCasts_S1024x1_S1024))))
    (broadcastInDim S1024x112 ![0, 1] bcast_S1x112_S1024x112_0_1 (broadcastInDim S1x112 ![1] bcast_S112_S1x112_1 (iotaInDim S112 32 0)))

/-- Each row's destination: its group's start plus its rank in the group. -/
def rows (a0 : FVec F S1x128 .f32) (a1 : FVec F S1024x128 .f32) : IVec S1024 32 :=
  addi (Host.reduce IntOp.addi (fn_where_1 (F := F) (ofGroup a1) (starts a0) (constantI S_ 32 0#32)) (constantI S_ 32 0#32) reducesTo_S1024x112_S1024_d1 h_S_)
    (fptosi 32 (shapeCast S1024 (extractStridedSlice S1024x1 ![0, 1] a1 slices_S1024x128_S1024x1_0_1) shapeCasts_S1024x1_S1024))

/-- The precondition's first result: every destination is a row of the array. -/
theorem fn_inside (a0 : FVec F S1x128 .f32) (a1 : FVec F S1024x128 .f32) (a2 : FVec F S1024x2176 .f32) (a3 : FVec F S62976x2176 .f32) :
    (fn (F := F) a0 a1 a2 a3).1 = andi (cmpi .sge (rows a0 a1) (broadcastInDim S1024 ![] bcast_S_S1024 (constantI S_ 32 0#32)))
      (cmpi .slt (rows a0 a1) (broadcastInDim S1024 ![] bcast_S_S1024 (constantI S_ 32 62976#32))) := rfl

/-- Its second: no two rows have one destination. -/
theorem fn_apart (a0 : FVec F S1x128 .f32) (a1 : FVec F S1024x128 .f32) (a2 : FVec F S1024x2176 .f32) (a3 : FVec F S62976x2176 .f32) :
    (fn (F := F) a0 a1 a2 a3).2 = ori
      (cmpi .ne (broadcastInDim S1024x1024 ![0, 1] bcast_S1024x1_S1024x1024_0_1 (broadcastInDim S1024x1 ![0] bcast_S1024_S1024x1_0 (rows a0 a1)))
        (broadcastInDim S1024x1024 ![0, 1] bcast_S1x1024_S1024x1024_0_1 (broadcastInDim S1x1024 ![1] bcast_S1024_S1x1024_1 (rows a0 a1))))
      (cmpi .eq (broadcastInDim S1024x1024 ![0, 1] bcast_S1024x1_S1024x1024_0_1 (broadcastInDim S1024x1 ![0] bcast_S1024_S1024x1_0 (iotaInDim S1024 32 0)))
        (broadcastInDim S1024x1024 ![0, 1] bcast_S1x1024_S1024x1024_0_1 (broadcastInDim S1x1024 ![1] bcast_S1024_S1x1024_1 (iotaInDim S1024 32 0)))) := rfl

end

section
open Cert.ReferenceIdeal Cert.ReferenceIdeal.Facts₀

/-- The index words of the reference's scatter. -/
def words (p : IVec S1024 32) : IVec S1024x1 32 :=
  broadcastInDim S1024x1 ![0] bcast_S1024_S1024x1_0
    (select (cmpi .slt p (broadcastInDim S1024 ![] bcast_S_S1024 (constantI S_ 32 0#32))) (addi p (broadcastInDim S1024 ![] bcast_S_S1024 (constantI S_ 32 62976#32))) p)

/-- The reference's result. -/
def dense (a0 : FVec F S1x128 .f32) (a1 : FVec F S1024x128 .f32) (a2 : FVec F S1024x2176 .f32) (a3 : FVec F S62976x2176 .f32) : FVec F S62976x2176 .f32 :=
  Host.scatter scatter_S62976x2176_S1024x1_S1024x2176_1_0_0_1 (fun _ b => b) a3 (words (rows a0 a1)) a2

theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v33) = dense (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  hlo_run
  · refine fun c => ⟨?_, trivial, trivial, trivial, trivial⟩
    simp -implicitDefEqProofs only [StableHlo.TRef.toBuf, StableHlo.TRef.ofBuf, cast_eq]
    unfold dense words rows ofGroup starts padded Cert.Pre_rows_apart.fn_where_1 Cert.Pre_rows_apart.fn_cumsum Cert.Pre_rows_apart.fn_cumsum_0 Cert.Pre_rows_apart.fn_floor_divide Cert.Pre_rows_apart.fn_where
    rfl
  · exact sem_eq_zero_of_no_sems rfl _

/-- Row `n` of the updates lands on the row its index word names. -/
theorem lands (idx : IVec S1024x1 32) (n : Fin 1024) (e : Fin 2176) (x : Fin 62976) (y : Fin 2176) :
    (scatter_S62976x2176_S1024x1_S1024x2176_1_0_0_1).resultIdx? (ix2 n e) idx = some (ix2 x y) ↔ (idx (ix2 n (0 : Fin 1))).toInt = (x.val : Int) ∧ e = y := by
  have hm : (0 : Fin 2) ∈ (scatter_S62976x2176_S1024x1_S1024x2176_1_0_0_1).scatterDimsToOperandDims := List.mem_singleton.2 rfl
  have hw0 : (scatter_S62976x2176_S1024x1_S1024x2176_1_0_0_1).window (ix2 n e) 0 = 0 := rfl
  have hw1 : (scatter_S62976x2176_S1024x1_S1024x2176_1_0_0_1).window (ix2 n e) 1 = e.val := rfl
  have hs1 : (scatter_S62976x2176_S1024x1_S1024x2176_1_0_0_1).start (ix2 n e) idx 1 = 0 := rfl
  have hs0 : (scatter_S62976x2176_S1024x1_S1024x2176_1_0_0_1).start (ix2 n e) idx 0 = (idx (ix2 n (0 : Fin 1))).toInt := by
    unfold ScatterDims.start
    rw [dif_pos hm]
    refine congrArg (fun j => (idx j).toInt) (funext fun (b : Fin 2) => ?_)
    match b with
    | ⟨0, _⟩ => rfl
    | ⟨1, _⟩ => rfl
  rw [Routing.resultIdx?_ix2 (R := 62976) (C := 2176), hs0, hw0, hs1, hw1, Fin.ext_iff]
  omega

/-- The two spellings of an index of one axis. -/
theorem one_index (n : Fin 1024) : Idealize.ShloMosaic.ix1 n = ix1 n := by
  funext a
  fin_cases a
  rfl

/-- An index word inside the array is the destination itself. -/
theorem words_at (p : IVec S1024 32) (n : Fin 1024) (h : (p (ix1 n)).toNat < 62976) : (words p (ix2 n (0 : Fin 1))).toInt = ((p (ix1 n)).toNat : Int) := by
  have e : words p (ix2 n (0 : Fin 1)) = Scalar.select (IntOp.cmpi .slt (p (ix1 n)) 0#32) (IntOp.addi (p (ix1 n)) 62976#32) (p (ix1 n)) := by
    unfold words
    pointwise
    change Scalar.select (IntOp.cmpi .slt (p (Idealize.ShloMosaic.ix1 n)) 0#32) (IntOp.addi (p (Idealize.ShloMosaic.ix1 n)) 62976#32) (p (Idealize.ShloMosaic.ix1 n)) = _
    rw [one_index]
  rw [e]
  word_omega
end

section
open Cert.Pre_rows_apart Cert.Pre_rows_apart.Facts

variable (a0 : FVec F S1x128 .f32) (a1 : FVec F S1024x128 .f32) (a2 : FVec F S1024x2176 .f32) (a3 : FVec F S62976x2176 .f32)

theorem inside_of (h : (fn (F := F) a0 a1 a2 a3).1 = fun _ => 1#1) (n : Fin 1024) : (rows a0 a1 (ix1 n)).toNat < 62976 := by
  have e := congrFun ((fn_inside a0 a1 a2 a3).symm.trans h) (ix1 n)
  generalize rows a0 a1 = p at e ⊢
  pointwise at e
  generalize p (ix1 n) = w at e ⊢
  word_omega

theorem apart_of (h : (fn (F := F) a0 a1 a2 a3).2 = fun _ => 1#1) (n n' : Fin 1024)
    (hn : (rows a0 a1 (ix1 n)).toNat = (rows a0 a1 (ix1 n')).toNat) : n = n' := by
  have e := congrFun ((fn_apart a0 a1 a2 a3).symm.trans h) (ix2 n n')
  generalize rows a0 a1 = p at e hn
  pointwise at e
  change IntOp.ori (IntOp.cmpi .ne (p (Idealize.ShloMosaic.ix1 n)) (p (Idealize.ShloMosaic.ix1 n')))
    (IntOp.cmpi .eq (BitVec.ofNat 32 n.val) (BitVec.ofNat 32 n'.val)) = 1#1 at e
  rw [one_index, one_index, BitVec.eq_of_toNat_eq hn] at e
  have h1 := n.isLt
  have h2 := n'.isLt
  refine Fin.ext ?_
  generalize p (ix1 n') = w at e
  word_omega
end

end Cert.Proof.Refs
end
-- ==== Proof.Value.lean ====
/- What the dispatch leaves is what the reference's scatter gives. -/
module

public import proofs.«01_k».proof.Proof.Run
public import proofs.«01_k».proof.Proof.Refs
public import Idealize.ShloMosaic.Lib.StableHlo.ReadAt
public import Idealize.ShloMosaic.Lib.Routing.OpsSet

@[expose] public section

set_option maxRecDepth 16384

noncomputable section

namespace Cert.Proof.Value

open Cert.KernelIdeal Cert.KernelIdeal.Gen Cert.Proof.Rows Cert.Proof.Loops Cert.Proof.Run Cert.Proof.Refs
open Idealize.ShloMosaic hiding ix1 ix2
open Idealize.ShloMosaic.TcCoe Idealize.ShloMosaic.Tactic Idealize.ShloMosaic.ValueIdx
open Idealize.SL.Sem

variable {F : FTy → Type} [FloatOps F]
variable (m : (ℓ : Loc nD τ sig) → Buf (Elt F) ℓ) (c : Dev nD)

theorem posIn_eq : posIn m c = shapeCast S8x128 (pad S1x1024 ![0, 0] ![0, 0] ![0, 0]
    (shapeCast S1x1024 (rows (F := F) (m ((c : Thread nD τ).loc main_arg0)) (m ((c : Thread nD τ).loc main_arg1))) Facts₀.shapeCasts_S1024_S1x1024)
    (constantI S_ 32 0#32) Facts₀.pads_S1x1024_S1x1024_000_000 Facts₀.h_S_) Facts₀.shapeCasts_S1x1024_S8x128 := by
  unfold posIn V
  after_reads_simp
  simp -implicitDefEqProofs only [StableHlo.TRef.toBuf, StableHlo.TRef.ofBuf, cast_eq]
  unfold rows ofGroup starts padded Cert.Pre_rows_apart.fn_where_1 Cert.Pre_rows_apart.fn_cumsum Cert.Pre_rows_apart.fn_cumsum_0 Cert.Pre_rows_apart.fn_floor_divide Cert.Pre_rows_apart.fn_where
  rfl

theorem rowsIn_eq : rowsIn m c = m ((c : Thread nD τ).loc main_arg2) := by
  unfold rowsIn V
  after_reads_simp

theorem arrIn_eq : arrIn m c = m ((c : Thread nD τ).loc main_arg3) := by
  unfold arrIn V
  after_reads_simp
  rfl

/-- Word `t` of the positions. -/
theorem pos_eq (t : Fin 1024) : pos (posIn m c) t = rows (F := F) (m ((c : Thread nD τ).loc main_arg0)) (m ((c : Thread nD τ).loc main_arg1)) (ix1 t) := by
  rw [posIn_eq]
  generalize rows (F := F) (m ((c : Thread nD τ).loc main_arg0)) (m ((c : Thread nD τ).loc main_arg1)) = p
  unfold pos
  pointwise
  have ht : t.val / 128 * 128 + t.val % 128 = t.val := by omega
  rw [dif_pos (by omega)]
  exact (congrArg (fun i => p (Idealize.ShloMosaic.ix1 i)) (Fin.ext ht)).trans (congrArg p (one_index t))

/-- Rows set one by one at distinct places are the rows filled in. -/
theorem scatter_filled (p : IVec S1024 32) (pw : IVec S8x128 32) (h : ∀ t, pos pw t = p (ix1 t)) (ha : Apart pw)
    (fx : FVec F S1024x2176 .f32) (f0 : FVec F S62976x2176 .f32) :
    Host.scatter Cert.ReferenceIdeal.scatter_S62976x2176_S1024x1_S1024x2176_1_0_0_1 (fun _ b => b) f0 (words p) fx = filled fx f0 pw := by
  funext y
  obtain ⟨x, z, rfl⟩ : ∃ x z, y = ix2 x z := ⟨y 0, y 1, ValueIdx.eq_ix2 y⟩
  have hw : ∀ n, (words p (ix2 n (0 : Fin 1))).toInt = ((pos pw n).toNat : Int) := fun n => by
    rw [h]
    exact words_at p n (h n ▸ ha.1 n)
  by_cases hx : ∃ t, (pos pw t).toNat = x.val
  · obtain ⟨t, ht⟩ := hx
    rw [filled_at fx f0 pw ha t (ix2 x z) ht]
    refine Routing.scatter_set_hit _ _ _ _ _ _ (fun k hk => ?_) (ix2 t z) ((lands _ _ _ _ _).2 ⟨by rw [hw, ht], rfl⟩)
    obtain ⟨n, e, rfl⟩ : ∃ n e, k = ix2 n e := ⟨k 0, k 1, ValueIdx.eq_ix2 k⟩
    obtain ⟨h1, rfl⟩ := (lands _ _ _ _ _).1 hk
    rw [hw] at h1
    rw [ha.2 n t (by omega)]
  · rw [filled_off fx f0 pw (ix2 x z) (fun t ht => hx ⟨t, ht⟩)]
    refine Routing.scatter_set_miss _ _ _ _ _ (fun k hk => ?_)
    obtain ⟨n, e, rfl⟩ : ∃ n e, k = ix2 n e := ⟨k 0, k 1, ValueIdx.eq_ix2 k⟩
    obtain ⟨h1, -⟩ := (lands _ _ _ _ _).1 hk
    rw [hw] at h1
    exact hx ⟨n, by omega⟩

/-- The precondition, at the arguments of `m`. -/
def Spread : Prop := ∀ c : Dev nD,
    (Cert.Pre_rows_apart.fn (F := F) (m ((c : Thread nD τ).loc main_arg0)) (m ((c : Thread nD τ).loc main_arg1)) (m ((c : Thread nD τ).loc main_arg2)) (m ((c : Thread nD τ).loc main_arg3))).1 = (fun _ => 1#1) ∧
    (Cert.Pre_rows_apart.fn (F := F) (m ((c : Thread nD τ).loc main_arg0)) (m ((c : Thread nD τ).loc main_arg1)) (m ((c : Thread nD τ).loc main_arg2)) (m ((c : Thread nD τ).loc main_arg3))).2 = (fun _ => 1#1)

/-- The precondition puts the rows at distinct places inside the array. -/
theorem apart_pre (h : Spread m) (c : Dev nD) :
    Apart (posIn m c) := by
  refine ⟨fun t => ?_, fun t t' e => ?_⟩
  · rw [pos_eq]
    exact inside_of _ _ _ _ (h c).1 t
  · rw [pos_eq, pos_eq] at e
    exact apart_of _ _ _ _ (h c).2 t t' e

/-- Under it the result is the reference's. -/
theorem res_eq (ha : Apart (posIn m c)) : res m c = dense (F := F) (m ((c : Thread nD τ).loc main_arg0)) (m ((c : Thread nD τ).loc main_arg1)) (m ((c : Thread nD τ).loc main_arg2)) (m ((c : Thread nD τ).loc main_arg3)) := by
  unfold res dense
  rw [rowsIn_eq, arrIn_eq]
  exact (scatter_filled _ _ (pos_eq m c) ha _ _).symm

variable {m}

/-- An array that is neither the window's nor the result's is among the kept ones. -/
theorem rest_of (b : Ref sig .tc) (h1 : b.isScoped = false) (h2 : ∀ w, (spec0 w).arr.view.ref ≠ b) (h3 : b ∉ R0) : b ∈ Pipeline.restRefs sig spec0 \ R0 :=
  Finset.mem_sdiff.mpr ⟨Pipeline.mem_restRefs_of b h1 h2, h3⟩

/-- The kernel's run: the result is the reference's, the arguments are unchanged, nothing is in flight. -/
theorem run (ρ : Dev nD → PrngReg) (h : Spread m) :
    θ_run (defs (F := F)) (onTc (τ := τ) (main (F := F))) ⟨m, fun _ => 0, ρ⟩ (fun r => (∀ c : Dev nD,
      r.2.mem ((c.tc : Thread nD τ).loc main_v30) = dense (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r hr => ⟨fun c => ?_, hr.2⟩) (run_main m ρ (apart_pre m h))
  have hf := hr.1.toR c
  refine ⟨?_, (hf.2 main_arg0 (rest_of main_arg0 (by decide) (by decide) (by decide))).trans ?_,
    (hf.2 main_arg1 (rest_of main_arg1 (by decide) (by decide) (by decide))).trans ?_,
    (hf.1 0).trans ?_,
    (hf.2 main_arg3 (rest_of main_arg3 (by decide) (by decide) (by decide))).trans ?_⟩
  · rw [← res_eq m c (apart_pre m h c)]
    exact (hr.1.written c (by decide)).trans (G_out m c)
  · unfold V
    after_reads_simp
  · unfold V
    after_reads_simp
  · exact (Pipeline.Dat.arrAt_in (dats m 0 c) 0 rfl _).trans (rowsIn_eq m c)
  · unfold V
    after_reads_simp

end Cert.Proof.Value
end
-- ==== Proof.Same.lean ====
/- The two printed kernels are one text: `Kernel` and `KernelIdeal` run alike at every choice of the float values. -/
module
public import proofs.«01_k».proof.Defs
public import proofs.«01_k».proof.Proof.Gen.Kernel
public import proofs.«01_k».proof.Proof.Gen.KernelIdeal
@[expose] public section
set_option maxRecDepth 16384
noncomputable section
namespace Cert.Proof.Same
open Idealize.ShloMosaic Idealize.SL.Sem
attribute [local instance] Cert.Kernel.Gen.facts Cert.KernelIdeal.Gen.facts
variable {F : FTy → Type} [FloatOps F]
/-! The pieces that the kernel's body is printed in. -/

theorem part1 : @Cert.Kernel.k0_part1 F _ = @Cert.KernelIdeal.k0_part1 F _ := rfl
theorem part2 : @Cert.Kernel.k0_part2 F _ = @Cert.KernelIdeal.k0_part2 F _ := rfl
theorem part3 : @Cert.Kernel.k0_part3 F _ = @Cert.KernelIdeal.k0_part3 F _ := rfl
theorem part4 : @Cert.Kernel.k0_part4 F _ = @Cert.KernelIdeal.k0_part4 F _ := rfl
theorem part5 : @Cert.Kernel.k0_part5 F _ = @Cert.KernelIdeal.k0_part5 F _ := rfl
theorem part6 : @Cert.Kernel.k0_part6 F _ = @Cert.KernelIdeal.k0_part6 F _ := rfl
theorem part7 : @Cert.Kernel.k0_part7 F _ = @Cert.KernelIdeal.k0_part7 F _ := rfl
theorem part8 : @Cert.Kernel.k0_part8 F _ = @Cert.KernelIdeal.k0_part8 F _ := rfl
theorem part9 : @Cert.Kernel.k0_part9 F _ = @Cert.KernelIdeal.k0_part9 F _ := rfl
theorem part10 : @Cert.Kernel.k0_part10 F _ = @Cert.KernelIdeal.k0_part10 F _ := rfl
theorem part11 : @Cert.Kernel.k0_part11 F _ = @Cert.KernelIdeal.k0_part11 F _ := rfl
theorem part12 : @Cert.Kernel.k0_part12 F _ = @Cert.KernelIdeal.k0_part12 F _ := rfl
theorem part13 : @Cert.Kernel.k0_part13 F _ = @Cert.KernelIdeal.k0_part13 F _ := rfl
theorem part14 : @Cert.Kernel.k0_part14 F _ = @Cert.KernelIdeal.k0_part14 F _ := rfl
theorem part15 : @Cert.Kernel.k0_part15 F _ = @Cert.KernelIdeal.k0_part15 F _ := rfl
theorem part16 : @Cert.Kernel.k0_part16 F _ = @Cert.KernelIdeal.k0_part16 F _ := rfl
theorem part17 : @Cert.Kernel.k0_part17 F _ = @Cert.KernelIdeal.k0_part17 F _ := rfl
theorem part18 : @Cert.Kernel.k0_part18 F _ = @Cert.KernelIdeal.k0_part18 F _ := rfl
theorem part19 : @Cert.Kernel.k0_part19 F _ = @Cert.KernelIdeal.k0_part19 F _ := rfl
theorem part20 : @Cert.Kernel.k0_part20 F _ = @Cert.KernelIdeal.k0_part20 F _ := rfl
theorem part21 : @Cert.Kernel.k0_part21 F _ = @Cert.KernelIdeal.k0_part21 F _ := rfl
theorem part22 : @Cert.Kernel.k0_part22 F _ = @Cert.KernelIdeal.k0_part22 F _ := rfl
theorem part23 : @Cert.Kernel.k0_part23 F _ = @Cert.KernelIdeal.k0_part23 F _ := rfl

set_option maxHeartbeats 2000000 in
/-- The body. -/
theorem body : @Cert.Kernel.cc0_moe_dispatch F _ = @Cert.KernelIdeal.cc0_moe_dispatch F _ := by
  funext i a1 h1 a2 h2 a3 h3 a4 h4 a5 h5 a6 h6 a7 a8
  unfold Cert.Kernel.cc0_moe_dispatch Cert.KernelIdeal.cc0_moe_dispatch
  simp only [part1, part2, part3, part4, part5, part6, part7, part8, part9, part10, part11, part12, part13, part14, part15, part16, part17, part18, part19, part20, part21, part22, part23]
  rfl
/-- The body tables. -/
theorem tables : Cert.Kernel.defs₀ (F := F) = Cert.KernelIdeal.defs₀ (F := F) := by
  unfold Cert.Kernel.defs₀ Cert.KernelIdeal.defs₀
  rw [body]
  refine congrArg Defs.onTc (funext fun ℓ => funext fun a => ?_)
  obtain rfl : ℓ = 0 := Subsingleton.elim (α := Fin 1) _ _
  rfl
/-- The pipelines. -/
theorem pipelines : Cert.Kernel.pcfgs (F := F) = Cert.KernelIdeal.pcfgs (F := F) := by
  rfl
/-- The labels. -/
theorem labels : Cert.Kernel.defs (F := F) = Cert.KernelIdeal.defs (F := F) := by
  unfold Cert.Kernel.defs Cert.KernelIdeal.defs
  exact congrArg (Pipeline.defs Cert.KernelIdeal.pcfgs) tables
set_option maxHeartbeats 2000000 in
/-- The host programs. -/
theorem mains : Cert.Kernel.main (F := F) = Cert.KernelIdeal.main (F := F) := by
  rfl

/-- So their runs are the same. -/
theorem runs : θ_run (Cert.Kernel.defs (F := F)) (onTc (τ := Cert.Kernel.τ) (Cert.Kernel.main (F := F))) = θ_run (Cert.KernelIdeal.defs (F := F)) (onTc (τ := Cert.KernelIdeal.τ) (Cert.KernelIdeal.main (F := F))) := by
  rw [mains]
  exact congrArg (fun d => θ_run d (onTc (τ := Cert.KernelIdeal.τ) (Cert.KernelIdeal.main (F := F)))) labels

/-- What the one run ends in, the other ends in. -/
theorem of_run {m : (ℓ : Loc Cert.Kernel.nD Cert.Kernel.τ Cert.Kernel.sig) → Buf (Elt F) ℓ} {g : Dev Cert.Kernel.nD → PrngReg}
    {post : PUnit × MemSt Cert.KernelIdeal.nD Cert.KernelIdeal.τ Cert.KernelIdeal.sig (Elt F) → Prop}
    (h : θ_run (Cert.KernelIdeal.defs (F := F)) (onTc (τ := Cert.KernelIdeal.τ) (Cert.KernelIdeal.main (F := F))) ⟨m, fun _ => 0, g⟩ post) :
    θ_run (Cert.Kernel.defs (F := F)) (onTc (τ := Cert.Kernel.τ) (Cert.Kernel.main (F := F))) ⟨m, fun _ => 0, g⟩ post := by
  rw [runs]
  exact h

end Cert.Proof.Same
end
-- ==== Proof.FfnRef.lean ====
/- The feed-forward reference's run. -/
module

public import proofs.«01_k».proof.Defs
public import proofs.«01_k».proof.Proof.Gen.Reference2Ideal
public import proofs.«01_k».proof.Proof.Gen.Pre_some_rows
public import Idealize.ShloMosaic.Lib.StableHlo.RunHlo
public import Idealize.ShloMosaic.Lib.StableHlo.RunRead
public import Idealize.ShloMosaic.Lib.Claim

@[expose] public section

set_option maxRecDepth 16384

noncomputable section

namespace Cert.Proof.FfnRef

open Idealize.ShloMosaic
open Idealize.ShloMosaic.TcCoe Idealize.ShloMosaic.Tactic
open Idealize.SL.Sem

variable {F : FTy → Type} [FloatOps F]

section
open Cert.Pre_some_rows Cert.Pre_some_rows.Facts

/-- The counts rounded up to whole tiles. -/
def padded (a0 : FVec F S1x128 .f32) : IVec S112 32 :=
  muli (fn_floor_divide (F := F) (subi (addi (fptosi 32 (shapeCast S112 (extractStridedSlice S1x112 ![0, 0] a0 slices_S1x128_S1x112_0_0) shapeCasts_S1x112_S112))
      (broadcastInDim S112 ![] bcast_S_S112 (constantI S_ 32 256#32))) (broadcastInDim S112 ![] bcast_S_S112 (constantI S_ 32 1#32))) (constantI S_ 32 256#32))
    (broadcastInDim S112 ![] bcast_S_S112 (constantI S_ 32 256#32))

/-- Where each class's rows end. -/
def ends (a0 : FVec F S1x128 .f32) : IVec S112 32 := fn_cumsum (F := F) (padded a0)

end

section
open Cert.Reference2Ideal Cert.Reference2Ideal.Facts₀

/-- How many classes end at or before each row. -/
def classes (e : IVec S112 32) : IVec S62976 32 :=
  Host.reduce IntOp.addi (extui 32 (cmpi .sle
      (broadcastInDim S62976x112 ![0, 1] bcast_S1x112_S62976x112_0_1 (broadcastInDim S1x112 ![1] bcast_S112_S1x112_1 e))
      (broadcastInDim S62976x112 ![0, 1] bcast_S62976x1_S62976x112_0_1 (broadcastInDim S62976x1 ![0] bcast_S62976_S62976x1_0 (iotaInDim S62976 32 0)))) natLt_1_32)
    (constantI S_ 32 0#32) reducesTo_S62976x112_S62976_d1 h_S_

/-- The table's word at each row's class. -/
def picked (l : IVec S112 32) (k : IVec S62976 32) : IVec S62976 32 :=
  Host.reduce IntOp.addi (select (cmpi .eq
      (broadcastInDim S62976x112 ![0, 1] bcast_S62976x1_S62976x112_0_1 (broadcastInDim S62976x1 ![0] bcast_S62976_S62976x1_0 k))
      (broadcastInDim S62976x112 ![0, 1] bcast_S1x112_S62976x112_0_1 (broadcastInDim S1x112 ![1] bcast_S112_S1x112_1 (iotaInDim S112 32 0))))
      (broadcastInDim S62976x112 ![1] bcast_S112_S62976x112_1 l) (broadcastInDim S62976x112 ![] bcast_S_S62976x112 (constantI S_ 32 0#32)))
    (constantI S_ 32 0#32) reducesTo_S62976x112_S62976_d1 h_S_

/-- Which expert a row's word names. -/
def isExpert (p : IVec S62976 32) : IVec S62976x32 1 :=
  cmpi .eq (broadcastInDim S62976x32 ![0, 1] bcast_S62976x1_S62976x32_0_1 (broadcastInDim S62976x1 ![0] bcast_S62976_S62976x1_0 p))
    (broadcastInDim S62976x32 ![0, 1] bcast_S1x32_S62976x32_0_1 (broadcastInDim S1x32 ![1] bcast_S32_S1x32_1 (iotaInDim S32 32 0)))

/-- Every expert's weight on every row. -/
def weights (p q : IVec S62976 32) (x : FVec F S62976x2176 .f32) : FVec F S62976x32 .f32 :=
  select (isExpert p) (broadcastInDim S62976x32 ![0, 1] bcast_S62976x1_S62976x32_0_1 (extractStridedSlice S62976x1 ![0, 2050] x slices_S62976x2176_S62976x1_0_2050))
    (select (isExpert q) (broadcastInDim S62976x32 ![0, 1] bcast_S62976x1_S62976x32_0_1 (extractStridedSlice S62976x1 ![0, 2051] x slices_S62976x2176_S62976x1_0_2051))
      (broadcastInDim S62976x32 ![] bcast_S_S62976x32 (constant (F := F) S_ .f32 0x00000000#32)))

/-- The rows normalized and weighted. -/
def rowsNormed (x : FVec F S62976x2048 .f32) (n : FVec F S2048 .f32) : FVec F S62976x2048 .f32 :=
  mulf (mulf x (broadcastInDim S62976x2048 ![0, 1] bcast_S62976x1_S62976x2048_0_1
    (Host.rsqrt (addf (Host.divf (broadcastInDim S62976x1 ![0] bcast_S62976_S62976x1_0
        (Host.reduceAdd (mulf x x) (constant (F := F) S_ .f32 0x00000000#32) reducesTo_S62976x2048_S62976_d1 h_S_))
      (broadcastInDim S62976x1 ![] bcast_S_S62976x1 (constant (F := F) S_ .f32 0x45000000#32))) (broadcastInDim S62976x1 ![] bcast_S_S62976x1 (constant (F := F) S_ .f32 0x358637BD#32))))))
    (broadcastInDim S62976x2048 ![0, 1] bcast_S1x2048_S62976x2048_0_1 (broadcastInDim S1x2048 ![1] bcast_S2048_S1x2048_1 n))

/-- Every expert's projection of every row. -/
def proj (z : FVec F S62976x2048 .f32) (w : FVec F S1x32x2048x256 .f32) : FVec F S62976x32x256 .f32 :=
  Host.dotGeneral dot_S62976x2048_S32x2048x256_S62976x32x256_1_1_0_02_n_n none z (shapeCast S32x2048x256 w shapeCasts_S1x32x2048x256_S32x2048x256)

/-- The gate's silu times the up projection times the weight. -/
def hiddens (g u : FVec F S62976x32x256 .f32) (c : FVec F S62976x32 .f32) : FVec F S62976x32x256 .f32 :=
  mulf (mulf (mulf g (Host.divf (broadcastInDim S62976x32x256 ![] bcast_S_S62976x32x256 (constant (F := F) S_ .f32 0x3F800000#32))
      (addf (broadcastInDim S62976x32x256 ![] bcast_S_S62976x32x256 (constant (F := F) S_ .f32 0x3F800000#32)) (Host.exp (Host.negf g))))) u)
    (broadcastInDim S62976x32x256 ![0, 1, 2] bcast_S62976x32x1_S62976x32x256_0_1_2 (broadcastInDim S62976x32x1 ![0, 1] bcast_S62976x32_S62976x32x1_0_1 c))

/-- The rows' features. -/
def feats (x : FVec F S62976x2176 .f32) : FVec F S62976x2048 .f32 := extractStridedSlice S62976x2048 ![0, 0] x slices_S62976x2176_S62976x2048_0_0

/-- The rows with what the experts add. -/
def mixed (x : FVec F S62976x2048 .f32) (h : FVec F S62976x32x256 .f32) (d : FVec F S1x32x256x2048 .f32) : FVec F S62976x2048 .f32 :=
  addf x (Host.dotGeneral dot_S62976x32x256_S32x256x2048_S62976x2048_12_01_0_2_n_n none h (shapeCast S32x256x2048 d shapeCasts_S1x32x256x2048_S32x256x2048))

/-- The two tables: each class's first expert, -/
def firsts : IVec S112 32 := fun i => lit0 (S112.rowMajor i)
/-- and its second. -/
def seconds : IVec S112 32 := fun i => lit1 (S112.rowMajor i)

/-- The reference's result. -/
def dense (a0 : FVec F S1x128 .f32) (a1 : FVec F S62976x2176 .f32) (a2 a3 : FVec F S1x32x2048x256 .f32) (a4 : FVec F S1x32x256x2048 .f32) (a5 : FVec F S1x2048 .f32) (a6 : FVec F S2048 .f32) : FVec F S62976x2048 .f32 :=
  rowsNormed (mixed (feats a1)
    (hiddens (proj (rowsNormed (feats a1) (shapeCast S2048 a5 shapeCasts_S1x2048_S2048)) a2) (proj (rowsNormed (feats a1) (shapeCast S2048 a5 shapeCasts_S1x2048_S2048)) a3)
      (weights (picked firsts (classes (ends a0))) (picked seconds (classes (ends a0))) a1)) a4) a6

theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v89) = dense (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  hlo_run
  · refine fun c => ⟨?_, trivial, trivial, trivial, trivial, trivial, trivial, trivial⟩
    simp -implicitDefEqProofs only [StableHlo.TRef.toBuf, StableHlo.TRef.ofBuf, cast_eq]
    unfold dense rowsNormed mixed feats hiddens proj weights isExpert picked classes firsts seconds ends padded Cert.Pre_some_rows.fn_cumsum Cert.Pre_some_rows.fn_cumsum_0 Cert.Pre_some_rows.fn_floor_divide Cert.Pre_some_rows.fn_where
    rfl
  · exact sem_eq_zero_of_no_sems rfl _

end

end Cert.Proof.FfnRef
end
-- ==== Proof.FfnBody.lean ====
/- One grid point of the feed-forward call: two tiles of rows, each through its class's two experts. -/
module

public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.TableIdle

@[expose] public section

set_option maxRecDepth 65536

noncomputable section

namespace Cert.Proof.FfnBody

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rTop : Rect S512x2048 := Rect.unit (s := S512x2048) ![0, 0] S256x2048.size inb_S512x2048_S256x2048_0_0
abbrev rBot : Rect S512x2048 := Rect.unit (s := S512x2048) ![256, 0] S256x2048.size inb_S512x2048_S256x2048_256_0
abbrev xTop : Rect S512x2176 := Rect.unit (s := S512x2176) ![0, 0] S256x2048.size inb_S512x2176_S256x2048_0_0
abbrev xBot : Rect S512x2176 := Rect.unit (s := S512x2176) ![256, 0] S256x2048.size inb_S512x2176_S256x2048_256_0
abbrev wTop : Rect S512x2176 := Rect.unit (s := S512x2176) ![0, 2048] S256x128.size inb_S512x2176_S256x128_0_2048
abbrev wBot : Rect S512x2176 := Rect.unit (s := S512x2176) ![256, 2048] S256x128.size inb_S512x2176_S256x128_256_2048
abbrev rN : Rect S1x2048 := Rect.unit (s := S1x2048) ![0, 0] S1x2048.size inb_S1x2048_S1x2048_0_0
abbrev rU : Rect S1x2048x256 := Rect.unit (s := S1x2048x256) ![0, 0, 0] S1x2048x256.size inb_S1x2048x256_S1x2048x256_0_0_0
abbrev rD : Rect S1x256x2048 := Rect.unit (s := S1x256x2048) ![0, 0, 0] S1x256x2048.size inb_S1x256x2048_S1x256x2048_0_0_0

/-- A block read through a rectangle. -/
abbrev ld {s : Shape} {e : EltTy} (r : Rect s) (x : Vec F s e) : Vec F r.shape e := fun y => x (r.idx y)

variable (x0 : Vec F S512x2176 .f32) (x1 x2 : Vec F S1x2048x256 .bf16) (x3 : Vec F S1x256x2048 .bf16) (x4 x5 : Vec F S1x2048x256 .bf16) (x6 : Vec F S1x256x2048 .bf16)
  (x7 x8 : Vec F S1x2048x256 .bf16) (x9 : Vec F S1x256x2048 .bf16) (x10 x11 : Vec F S1x2048x256 .bf16) (x12 : Vec F S1x256x2048 .bf16) (x13 x14 : Vec F S1x2048 .f32)

/-- The first tile's rows. -/
def topV : Vec F S256x2048 .f32 :=
  k0_pay16 (k0_pay13 (ld wTop x0) (k0_pay6 (k0_pay2 (ld xTop x0) (ld rN x13)) (ld rU x4)) (k0_pay9 (k0_pay2 (ld xTop x0) (ld rN x13)) (ld rU x5)))
    (k0_pay15 (ld xTop x0) (ld wTop x0) (k0_pay11 (k0_pay2 (ld xTop x0) (ld rN x13)) (k0_pay4 (ld xTop x0) (ld rN x13) (ld rU x1)) (ld rU x2)) (ld rD x3))
    (ld rD x6) (ld rN x14)

/-- The second tile's. -/
def botV : Vec F S256x2048 .f32 :=
  k0_pay1 (k0_pay17 (ld xBot x0)
    (k0_pay12 (ld wBot x0) (k0_pay5 (k0_pay3 (ld xBot x0) (ld rN x13)) (ld rU x7)) (k0_pay8 (k0_pay3 (ld xBot x0) (ld rN x13)) (ld rU x8)))
    (k0_pay14 (ld wBot x0) (k0_pay7 (k0_pay3 (ld xBot x0) (ld rN x13)) (ld rU x10)) (k0_pay10 (k0_pay3 (ld xBot x0) (ld rN x13)) (ld rU x11)))
    (ld rD x9) (ld rD x12)) (ld rN x14)

/-- What the body leaves in the output's buffer. -/
def outV : Vec F S512x2048 .f32 :=
  View.canon [⟨rBot, botV x0 x7 x8 x9 x10 x11 x12 x13 x14⟩, ⟨rTop, topV x0 x1 x2 x3 x4 x5 x6 x13 x14⟩]

theorem cover (p q : Vec F S256x2048 .f32) (y : S512x2048.Idx) :
    ∃ pc ∈ ([⟨rBot, p⟩, ⟨rTop, q⟩] : List (View.Piece (Elt F) S512x2048 .f32)), y ∈ pc.1.set :=
  View.cover_of_tiled [⟨rBot, p⟩, ⟨rTop, q⟩] S256x2048.size (by rfl) y

variable (i : grid0.Coords) (c : Dev nD)

/-- A point with tiles to compute. -/
theorem sound_on (arg1 : Memref sig .tc .smem S246 .i32) (harg1 : arg1.IsWhole) (arg2 : Memref sig .tc .smem S246 .i32) (harg2 : arg2.IsWhole) (arg3 : Memref sig .tc .smem S1 .i32) (harg3 : arg3.IsWhole) (arg4 : Memref sig .tc .vmem S512x2176 .f32) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x256x2048 .bf16) (harg7 : arg7.IsWhole) (arg8 : Memref sig .tc .vmem S1x2048x256 .bf16) (harg8 : arg8.IsWhole) (arg9 : Memref sig .tc .vmem S1x2048x256 .bf16) (harg9 : arg9.IsWhole) (arg10 : Memref sig .tc .vmem S1x256x2048 .bf16) (harg10 : arg10.IsWhole) (arg11 : Memref sig .tc .vmem S1x2048x256 .bf16) (harg11 : arg11.IsWhole) (arg12 : Memref sig .tc .vmem S1x2048x256 .bf16) (harg12 : arg12.IsWhole) (arg13 : Memref sig .tc .vmem S1x256x2048 .bf16) (harg13 : arg13.IsWhole) (arg14 : Memref sig .tc .vmem S1x2048x256 .bf16) (harg14 : arg14.IsWhole) (arg15 : Memref sig .tc .vmem S1x2048x256 .bf16) (harg15 : arg15.IsWhole) (arg16 : Memref sig .tc .vmem S1x256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S512x2048 .f32) (harg19 : arg19.IsWhole)
    (q : PosShare TreeShare) (nv : S1.Idx → BitVec 32) (hk : k0_cond1 i (nv ((Rect.unit (s := S1) ![0] S1.size inb_S1_S1_0).point numel1_S1)) = 1#1)
    (K : PUnit → sProp 𝕄) :
    iprop(owns (c : Thread nD τ) arg3 q nv ∗ owns (c : Thread nD τ) arg4 fullShare x0
      ∗ owns (c : Thread nD τ) arg5 fullShare x1 ∗ owns (c : Thread nD τ) arg6 fullShare x2 ∗ owns (c : Thread nD τ) arg7 fullShare x3
      ∗ owns (c : Thread nD τ) arg8 fullShare x4 ∗ owns (c : Thread nD τ) arg9 fullShare x5 ∗ owns (c : Thread nD τ) arg10 fullShare x6
      ∗ owns (c : Thread nD τ) arg11 fullShare x7 ∗ owns (c : Thread nD τ) arg12 fullShare x8 ∗ owns (c : Thread nD τ) arg13 fullShare x9
      ∗ owns (c : Thread nD τ) arg14 fullShare x10 ∗ owns (c : Thread nD τ) arg15 fullShare x11 ∗ owns (c : Thread nD τ) arg16 fullShare x12
      ∗ owns (c : Thread nD τ) arg17 fullShare x13 ∗ owns (c : Thread nD τ) arg18 fullShare x14 ∗ (∃ d, owns (c : Thread nD τ) arg19 fullShare d)
      ∗ (iprop(owns (c : Thread nD τ) arg3 q nv ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare (outV x0 x1 x2 x3 x4 x5 x6 x7 x8 x9 x10 x11 x12 x13 x14)) -∗ K ⟨⟩))
      ⊢ wp frame (wpE (defs₀ (F := F)) Variants.none c none) Set.univ (cc0_moe_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_moe_ffn_eq_skeleton]; unfold cc0_moe_ffn_skel
  simp only [k0_part1_eq_skeleton, k0_part2_eq_skeleton, k0_part3_eq_skeleton, k0_part4_eq_skeleton]
  unfold owns
  iintro ⟨⟨%fn, %hfn, Hn⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hfn hf0 hf1 hf2 hf3 hf4 hf5 hf6 hf7 hf8 hf9 hf10 hf11 hf12 hf13 hf14
  sl_exec
  sl_step
  iapply Hk
  isplitl [Hn]
  · iexists fn; isplitr; · ipureintro; rfl
    iexact Hn
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  refine (View.read_writes_eq_canon _ _ _ (cover _ _)).trans ?_
  rfl

/-- A point past the last tile leaves everything as it was. -/
theorem sound_off (arg1 : Memref sig .tc .smem S246 .i32) (harg1 : arg1.IsWhole) (arg2 : Memref sig .tc .smem S246 .i32) (harg2 : arg2.IsWhole) (arg3 : Memref sig .tc .smem S1 .i32) (harg3 : arg3.IsWhole) (arg4 : Memref sig .tc .vmem S512x2176 .f32) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x256x2048 .bf16) (harg7 : arg7.IsWhole) (arg8 : Memref sig .tc .vmem S1x2048x256 .bf16) (harg8 : arg8.IsWhole) (arg9 : Memref sig .tc .vmem S1x2048x256 .bf16) (harg9 : arg9.IsWhole) (arg10 : Memref sig .tc .vmem S1x256x2048 .bf16) (harg10 : arg10.IsWhole) (arg11 : Memref sig .tc .vmem S1x2048x256 .bf16) (harg11 : arg11.IsWhole) (arg12 : Memref sig .tc .vmem S1x2048x256 .bf16) (harg12 : arg12.IsWhole) (arg13 : Memref sig .tc .vmem S1x256x2048 .bf16) (harg13 : arg13.IsWhole) (arg14 : Memref sig .tc .vmem S1x2048x256 .bf16) (harg14 : arg14.IsWhole) (arg15 : Memref sig .tc .vmem S1x2048x256 .bf16) (harg15 : arg15.IsWhole) (arg16 : Memref sig .tc .vmem S1x256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S512x2048 .f32) (harg19 : arg19.IsWhole)
    (q : PosShare TreeShare) (nv : S1.Idx → BitVec 32) (hk : ¬k0_cond1 i (nv ((Rect.unit (s := S1) ![0] S1.size inb_S1_S1_0).point numel1_S1)) = 1#1)
    (K : PUnit → sProp 𝕄) :
    iprop(owns (c : Thread nD τ) arg3 q nv ∗ (iprop(owns (c : Thread nD τ) arg3 q nv) -∗ K ⟨⟩))
      ⊢ wp frame (wpE (defs₀ (F := F)) Variants.none c none) Set.univ (cc0_moe_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_moe_ffn_eq_skeleton]; unfold cc0_moe_ffn_skel
  unfold owns
  iintro ⟨⟨%fn, %hfn, Hn⟩, Hk⟩
  subst hfn
  sl_exec
  sl_step
  iapply Hk
  iexists fn; isplitr; · ipureintro; rfl
  iexact Hn

end Cert.Proof.FfnBody
end
-- ==== Proof.FfnRun.lean ====
/- The feed-forward run whole: the host's operations, then the call, the rows of a tile what the body computes of its blocks. -/
module

public import proofs.«01_k».proof.Proof.FfnBody
public import Idealize.ShloMosaic.Lib.Pipeline.Value
public import Idealize.ShloMosaic.Lib.Tactic.WordOmega

@[expose] public section

set_option maxRecDepth 65536

noncomputable section

namespace Cert.Proof.FfnRun

open Cert.Kernel2Ideal Cert.Kernel2Ideal.Gen Cert.Proof.FfnBody
open Idealize.ShloMosaic Idealize.ShloMosaic.TcCoe Idealize.ShloMosaic.Tactic
open Idealize.ShloMosaic.Pipeline (Dat BodyObligationLoose)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host's operations before the call. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

/-- What each buffer holds when the call starts. -/
def V (c : Dev nD) (b : Ref sig .tc) : Buf (Elt F) ((c : Thread nD τ).loc b) :=
  StableHlo.after (opss (F := F)).flatten (fun b => m (c, b)) b

theorem hmain (𝒱₀ : Variants) :
    Pipeline.HMainP (Ix := Unit) (Name := ℕ) (U := UR sig nD τ) (Lvl := ℕ) (pcfgs (F := F)) 0 defs₀ 𝒱₀ m (main (F := F)) (V m) :=
  Pipeline.hmainP_prefixes (pcfgs (F := F)) 0 defs₀ 𝒱₀ m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩
    (by simp only [List.Forall]; repeat' constructor)
    (fun c => main_chain c)

attribute [irreducible] V

/-- The tables the call reads at entry. -/
abbrev tabs : pre0.Contents (Elt F) := fun k => V m 0 (pre0.ref k)

/-- The number of pairs of tiles that hold rows. -/
def nvw : BitVec 32 := (V m 0 main_v38 : S1.Idx → BitVec 32) (Shape.Idx.first (by decide))

theorem one_ix (i j : S1.Idx) : i = j := funext fun a => Fin.ext (by
  have hi := (i a).isLt; have hj := (j a).isLt
  have : ∀ a, S1.size a = 1 := by decide
  have := this a
  omega)

theorem nv_at (j : S1.Idx) : (V m 0 main_v38 : S1.Idx → BitVec 32) j = nvw m := congrArg _ (one_ix _ _)

variable (hok : ok0 (tabs m)) (hnv : 1 ≤ (nvw m).toNat ∧ (nvw m).toNat < 2 ^ 31)

def adm (_ : Fin 1) : (pcfg0 (F := F)).Adm := ⟨tabs m, hok⟩

/-- The block an input window stages at a point. -/
def iblk (c : Dev nD) (w : Fin (cfg0 (adm m hok 0)).W) (t : Fin (cfg0 (adm m hok 0)).N) :
    (((cfg0 (adm m hok 0)).win w).xblock ((cfg0 (adm m hok 0)).grid.coords t)).Idx → Elt F ((cfg0 (adm m hok 0)).win w).elt :=
  (((cfg0 (adm m hok 0)).win w).blk t).view.read (Elt F) (V m c (Pipeline.arrRef spec0 w))

/-- What the body computes at a point. -/
def outAt (c : Dev nD) (t : Fin (cfg0 (adm m hok 0)).N) : Vec F S512x2048 .f32 :=
  outV (iblk m hok c 0 t) (iblk m hok c 1 t) (iblk m hok c 2 t) (iblk m hok c 3 t) (iblk m hok c 4 t) (iblk m hok c 5 t) (iblk m hok c 6 t) (iblk m hok c 7 t) (iblk m hok c 8 t) (iblk m hok c 9 t) (iblk m hok c 10 t) (iblk m hok c 11 t) (iblk m hok c 12 t) (iblk m hok c 13 t) (iblk m hok c 14 t)

/-- The last point that computes at or before a point. -/
def last (t : Fin (cfg0 (adm m hok 0)).N) : Fin (cfg0 (adm m hok 0)).N := ⟨min t.val ((nvw m).toNat - 1), lt_of_le_of_lt (Nat.min_le_left _ _) t.isLt⟩

/-- The proof data of the call. -/
def dats (_ : Fin 1) (c : Dev nD) : Dat τ (Elt F) Unit ℕ (UR sig nD τ) ℕ (cfg0 (adm m hok 0)) c where
  A w := V m c (Pipeline.arrRef spec0 w)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => iblk m hok c 4 t
    | ⟨5, _⟩ => iblk m hok c 5 t
    | ⟨6, _⟩ => iblk m hok c 6 t
    | ⟨7, _⟩ => iblk m hok c 7 t
    | ⟨8, _⟩ => iblk m hok c 8 t
    | ⟨9, _⟩ => iblk m hok c 9 t
    | ⟨10, _⟩ => iblk m hok c 10 t
    | ⟨11, _⟩ => iblk m hok c 11 t
    | ⟨12, _⟩ => iblk m hok c 12 t
    | ⟨13, _⟩ => iblk m hok c 13 t
    | ⟨14, _⟩ => iblk m hok c 14 t
    | ⟨15, _⟩ => outAt m hok c (last m hok t)
    | ⟨_ + 16, h⟩ => absurd h (Nat.not_lt.2 (Nat.le_add_left _ _))
  Φ _ := iprop(Pipeline.ΦA spec0 c ∗ Pipeline.ΦT pre0 (tabs m) c)
  q w := Pipeline.shareOf spec0 w
  owed _ := 0

theorem A_eq (c : Dev nD) (w : Fin (cfg0 (adm m hok 0)).W) : (dats m hok 0 c).A w = V m c (Pipeline.arrRef spec0 w) := by
  dsimp only [dats]

theorem after_0 (c : Dev nD) (t : Fin (cfg0 (adm m hok 0)).N) : (dats m hok 0 c).after 0 t = iblk m hok c 0 t := by unfold dats; rfl
theorem after_1 (c : Dev nD) (t : Fin (cfg0 (adm m hok 0)).N) : (dats m hok 0 c).after 1 t = iblk m hok c 1 t := by unfold dats; rfl
theorem after_2 (c : Dev nD) (t : Fin (cfg0 (adm m hok 0)).N) : (dats m hok 0 c).after 2 t = iblk m hok c 2 t := by unfold dats; rfl
theorem after_3 (c : Dev nD) (t : Fin (cfg0 (adm m hok 0)).N) : (dats m hok 0 c).after 3 t = iblk m hok c 3 t := by unfold dats; rfl
theorem after_4 (c : Dev nD) (t : Fin (cfg0 (adm m hok 0)).N) : (dats m hok 0 c).after 4 t = iblk m hok c 4 t := by unfold dats; rfl
theorem after_5 (c : Dev nD) (t : Fin (cfg0 (adm m hok 0)).N) : (dats m hok 0 c).after 5 t = iblk m hok c 5 t := by unfold dats; rfl
theorem after_6 (c : Dev nD) (t : Fin (cfg0 (adm m hok 0)).N) : (dats m hok 0 c).after 6 t = iblk m hok c 6 t := by unfold dats; rfl
theorem after_7 (c : Dev nD) (t : Fin (cfg0 (adm m hok 0)).N) : (dats m hok 0 c).after 7 t = iblk m hok c 7 t := by unfold dats; rfl
theorem after_8 (c : Dev nD) (t : Fin (cfg0 (adm m hok 0)).N) : (dats m hok 0 c).after 8 t = iblk m hok c 8 t := by unfold dats; rfl
theorem after_9 (c : Dev nD) (t : Fin (cfg0 (adm m hok 0)).N) : (dats m hok 0 c).after 9 t = iblk m hok c 9 t := by unfold dats; rfl
theorem after_10 (c : Dev nD) (t : Fin (cfg0 (adm m hok 0)).N) : (dats m hok 0 c).after 10 t = iblk m hok c 10 t := by unfold dats; rfl
theorem after_11 (c : Dev nD) (t : Fin (cfg0 (adm m hok 0)).N) : (dats m hok 0 c).after 11 t = iblk m hok c 11 t := by unfold dats; rfl
theorem after_12 (c : Dev nD) (t : Fin (cfg0 (adm m hok 0)).N) : (dats m hok 0 c).after 12 t = iblk m hok c 12 t := by unfold dats; rfl
theorem after_13 (c : Dev nD) (t : Fin (cfg0 (adm m hok 0)).N) : (dats m hok 0 c).after 13 t = iblk m hok c 13 t := by unfold dats; rfl
theorem after_14 (c : Dev nD) (t : Fin (cfg0 (adm m hok 0)).N) : (dats m hok 0 c).after 14 t = iblk m hok c 14 t := by unfold dats; rfl
attribute [local irreducible] outAt

theorem after_15 (c : Dev nD) (t : Fin (cfg0 (adm m hok 0)).N) : (dats m hok 0 c).after 15 t = outAt m hok c (last m hok t) := by unfold dats; rfl

theorem before_0 (c : Dev nD) (t : Fin (cfg0 (adm m hok 0)).N) (d) : (dats m hok 0 c).before 0 t d = iblk m hok c 0 t :=
  ((dats m hok 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (adm m hok 0)).N) (d) : (dats m hok 0 c).before 1 t d = iblk m hok c 1 t :=
  ((dats m hok 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (adm m hok 0)).N) (d) : (dats m hok 0 c).before 2 t d = iblk m hok c 2 t :=
  ((dats m hok 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (adm m hok 0)).N) (d) : (dats m hok 0 c).before 3 t d = iblk m hok c 3 t :=
  ((dats m hok 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 (adm m hok 0)).N) (d) : (dats m hok 0 c).before 4 t d = iblk m hok c 4 t :=
  ((dats m hok 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfg0 (adm m hok 0)).N) (d) : (dats m hok 0 c).before 5 t d = iblk m hok c 5 t :=
  ((dats m hok 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfg0 (adm m hok 0)).N) (d) : (dats m hok 0 c).before 6 t d = iblk m hok c 6 t :=
  ((dats m hok 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (cfg0 (adm m hok 0)).N) (d) : (dats m hok 0 c).before 7 t d = iblk m hok c 7 t :=
  ((dats m hok 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin (cfg0 (adm m hok 0)).N) (d) : (dats m hok 0 c).before 8 t d = iblk m hok c 8 t :=
  ((dats m hok 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin (cfg0 (adm m hok 0)).N) (d) : (dats m hok 0 c).before 9 t d = iblk m hok c 9 t :=
  ((dats m hok 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin (cfg0 (adm m hok 0)).N) (d) : (dats m hok 0 c).before 10 t d = iblk m hok c 10 t :=
  ((dats m hok 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin (cfg0 (adm m hok 0)).N) (d) : (dats m hok 0 c).before 11 t d = iblk m hok c 11 t :=
  ((dats m hok 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin (cfg0 (adm m hok 0)).N) (d) : (dats m hok 0 c).before 12 t d = iblk m hok c 12 t :=
  ((dats m hok 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin (cfg0 (adm m hok 0)).N) (d) : (dats m hok 0 c).before 13 t d = iblk m hok c 13 t :=
  ((dats m hok 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin (cfg0 (adm m hok 0)).N) (d) : (dats m hok 0 c).before 14 t d = iblk m hok c 14 t :=
  ((dats m hok 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)

theorem N_eq : (cfg0 (adm m hok 0)).N = 123 := N_0

theorem coord0 (t : Fin (cfg0 (adm m hok 0)).N) : ((grid0.coords t) 0).val = t.val := by
  have ht : t.val < 123 := lt_of_lt_of_eq t.isLt N_0
  show t.val / 1 % 123 = t.val
  omega

theorem cond_word (i : grid0.Coords) (v : BitVec 32) (h : v.toNat < 2 ^ 31) : k0_cond1 i v = 1#1 ↔ (i 0).val < v.toNat := by
  have hi : (i 0).val < 123 := (i 0).isLt
  unfold k0_cond1
  generalize (i 0).val = n at hi
  simp only [Scalar.cmpi, Scalar.extui, IntOp.cmpi]
  by_cases hc : n < v.toNat
  · have : (BitVec.ofNat 32 n).slt v = true := by
      simp only [BitVec.slt, BitVec.toInt_eq_toNat_cond, BitVec.toNat_ofNat, decide_eq_true_eq]; omega
    rw [this]; simp [hc]
  · have : (BitVec.ofNat 32 n).slt v = false := by
      simp only [BitVec.slt, BitVec.toInt_eq_toNat_cond, BitVec.toNat_ofNat, decide_eq_false_iff_not]; omega
    rw [this]; simp [hc]

theorem min_word (n : ℕ) (hn : n < 123) (v : BitVec 32) (h1 : 1 ≤ v.toNat) (h : v.toNat < 2 ^ 31) :
    (Scalar.minsi (BitVec.ofNat 32 n) (Scalar.subi v 1#32)).toNat = min n (v.toNat - 1) := by
  have hs : (v - 1#32).toNat = v.toNat - 1 := by
    rw [BitVec.toNat_sub]; simp only [BitVec.toNat_ofNat]; omega
  change (if (BitVec.ofNat 32 n).slt (v - 1#32) then BitVec.ofNat 32 n else v - 1#32).toNat = _
  have : (BitVec.ofNat 32 n).slt (v - 1#32) = decide (n < v.toNat - 1) := by
    simp only [BitVec.slt, BitVec.toInt_eq_toNat_cond, hs, BitVec.toNat_ofNat]
    congr 1; apply propext; omega
  rw [this]; split <;> rename_i hc <;> simp only [decide_eq_true_eq] at hc
  · rw [BitVec.toNat_ofNat]; omega
  · rw [hs]; omega

/-- The body as the loop calls it at a point. -/
def bodyAt (t : Fin (cfg0 (adm m hok 0)).N) : Prog (TpuEff nD τ sig (Elt F) Λ₀ .tc) PUnit :=
  cc0_moe_ffn (grid0.coords t) (Memref.whole main_v45) (Memref.isWhole_whole _) (Memref.whole main_v47) (Memref.isWhole_whole _) (Memref.whole main_v38) (Memref.isWhole_whole _)
    (spec0_0.stage ((cfg0 (adm m hok 0)).slots t 0)) (hstage0_0 (((cfg0 (adm m hok 0)).slots t 0).cast nbuf0_0))
    (spec0_1.stage ((cfg0 (adm m hok 0)).slots t 1)) (hstage0_1 (((cfg0 (adm m hok 0)).slots t 1).cast nbuf0_1))
    (spec0_2.stage ((cfg0 (adm m hok 0)).slots t 2)) (hstage0_2 (((cfg0 (adm m hok 0)).slots t 2).cast nbuf0_2))
    (spec0_3.stage ((cfg0 (adm m hok 0)).slots t 3)) (hstage0_3 (((cfg0 (adm m hok 0)).slots t 3).cast nbuf0_3))
    (spec0_4.stage ((cfg0 (adm m hok 0)).slots t 4)) (hstage0_4 (((cfg0 (adm m hok 0)).slots t 4).cast nbuf0_4))
    (spec0_5.stage ((cfg0 (adm m hok 0)).slots t 5)) (hstage0_5 (((cfg0 (adm m hok 0)).slots t 5).cast nbuf0_5))
    (spec0_6.stage ((cfg0 (adm m hok 0)).slots t 6)) (hstage0_6 (((cfg0 (adm m hok 0)).slots t 6).cast nbuf0_6))
    (spec0_7.stage ((cfg0 (adm m hok 0)).slots t 7)) (hstage0_7 (((cfg0 (adm m hok 0)).slots t 7).cast nbuf0_7))
    (spec0_8.stage ((cfg0 (adm m hok 0)).slots t 8)) (hstage0_8 (((cfg0 (adm m hok 0)).slots t 8).cast nbuf0_8))
    (spec0_9.stage ((cfg0 (adm m hok 0)).slots t 9)) (hstage0_9 (((cfg0 (adm m hok 0)).slots t 9).cast nbuf0_9))
    (spec0_10.stage ((cfg0 (adm m hok 0)).slots t 10)) (hstage0_10 (((cfg0 (adm m hok 0)).slots t 10).cast nbuf0_10))
    (spec0_11.stage ((cfg0 (adm m hok 0)).slots t 11)) (hstage0_11 (((cfg0 (adm m hok 0)).slots t 11).cast nbuf0_11))
    (spec0_12.stage ((cfg0 (adm m hok 0)).slots t 12)) (hstage0_12 (((cfg0 (adm m hok 0)).slots t 12).cast nbuf0_12))
    (spec0_13.stage ((cfg0 (adm m hok 0)).slots t 13)) (hstage0_13 (((cfg0 (adm m hok 0)).slots t 13).cast nbuf0_13))
    (spec0_14.stage ((cfg0 (adm m hok 0)).slots t 14)) (hstage0_14 (((cfg0 (adm m hok 0)).slots t 14).cast nbuf0_14))
    (spec0_15.stage ((cfg0 (adm m hok 0)).slots t 15)) (hstage0_15 (((cfg0 (adm m hok 0)).slots t 15).cast nbuf0_15))

theorem defs₀_row (t : Fin (cfg0 (adm m hok 0)).N) :
    defs₀ (F := F) .tc (cfg0 (adm m hok 0)).body ((cfg0 (adm m hok 0)).bodyArgs t ((cfg0 (adm m hok 0)).slots t)) = bodyAt m hok t := by
  unfold defs₀; rw [Defs.onTc_tc]; rfl

theorem last_of_lt (t : Fin (cfg0 (adm m hok 0)).N) (h : t.val < (nvw m).toNat) : last m hok t = t := Fin.ext (by
  show min t.val _ = t.val; omega)

include hnv in
theorem index15 (t : Fin (cfg0 (adm m hok 0)).N) : ((cfg0 (adm m hok 0)).win 15).index t = ![min t.val ((nvw m).toNat - 1), 0] := by
  have h : ((cfg0 (adm m hok 0)).win 15).index t = ![(Scalar.minsi (BitVec.ofNat 32 ((grid0.coords t) 0).val) (Scalar.subi (nvw m) 1#32)).toNat, 0] := by
    show cc0_transform_15 inb_S1_S1_0 numel1_S1 (tabs m) (grid0.coords t) = _
    unfold cc0_transform_15
    exact congrArg (fun v : BitVec 32 => ![(Scalar.minsi (BitVec.ofNat 32 ((grid0.coords t) 0).val) (Scalar.subi v 1#32)).toNat, 0]) (nv_at m _)
  rw [h, coord0 m hok t, min_word _ (lt_of_lt_of_eq t.isLt N_0) _ hnv.1 hnv.2]

theorem idle15 (t : Fin (cfg0 (adm m hok 0)).N) :
    (cfg0 (adm m hok 0)).idle 15 ((cfg0 (adm m hok 0)).grid.coords t) = !(k0_cond1 (grid0.coords t) (nvw m) == 1#1) := by
  show (!(k0_cond1 (grid0.coords t) ((tabs m).atD 2 ![0]) == 1#1)) = _
  have : (tabs m).atD 2 ![0] = nvw m := by
    unfold Pipeline.Prefetch.Contents.atD
    rw [dif_pos (by decide)]
    exact nv_at m _
  rw [this]

include hnv in
theorem idle15_eq (t : Fin (cfg0 (adm m hok 0)).N) :
    (cfg0 (adm m hok 0)).idle 15 ((cfg0 (adm m hok 0)).grid.coords t) = decide ((nvw m).toNat ≤ t.val) := by
  rw [idle15]
  have h := cond_word (grid0.coords t) (nvw m) hnv.2
  rw [coord0 m hok t] at h
  by_cases hc : t.val < (nvw m).toNat
  · rw [h.mpr hc, decide_eq_false (by omega)]; rfl
  · rw [decide_eq_true (by omega), Bool.not_eq_true', beq_eq_false_iff_ne]; exact fun e => hc (h.mp e)

include hnv in
theorem flush15 (t : Fin (cfg0 (adm m hok 0)).N) (h1 : (nvw m).toNat - 1 ≤ t.val) (h2 : t.val + 1 < 123) :
    ((cfg0 (adm m hok 0)).win 15).flush t = false := by
  unfold Pipeline.Window.flush
  rw [Bool.and_eq_false_iff]; right
  rw [Bool.or_eq_false_iff]
  refine ⟨decide_eq_false fun h => ?_, decide_eq_false ?_⟩
  · have := h.trans N_0; omega
  · rintro ⟨h, hne⟩
    apply hne
    rw [index15 m hok hnv, index15 m hok hnv]
    have e : min (t.val + 1) ((nvw m).toNat - 1) = min t.val ((nvw m).toNat - 1) := by omega
    show ![min (t.val + 1) ((nvw m).toNat - 1), 0] = _
    rw [e]

include hnv in
theorem fresh15 (n : ℕ) (h1 : (nvw m).toNat ≤ n) (h2 : n < 123) : (cfg0 (adm m hok 0)).fresh 15 n = false := by
  induction n with
  | zero => omega
  | succ n ih =>
    have hn : n < (cfg0 (adm m hok 0)).N := lt_of_lt_of_eq (by omega : n < 123) N_0.symm
    rw [Pipeline.Cfg.fresh_succ _ 15 n hn, flush15 m hok hnv ⟨n, hn⟩ (by show _ ≤ n; omega) h2, idle15_eq m hok hnv, Bool.false_or]
    by_cases hc : (nvw m).toNat ≤ n
    · rw [ih hc (by omega), Bool.and_false]
    · rw [decide_eq_false hc, Bool.false_and]

include hnv in
theorem before_15 (c : Dev nD) (t : Fin (cfg0 (adm m hok 0)).N) (h : (nvw m).toNat ≤ t.val) (d) :
    (dats m hok 0 c).before 15 t d = (dats m hok 0 c).after 15 t := by
  have ht : t.val < 123 := lt_of_lt_of_eq t.isLt N_0
  have key : ∀ t' : Fin (cfg0 (adm m hok 0)).N, (nvw m).toNat ≤ t'.val → last m hok t' = last m hok ⟨t'.val - 1, by omega⟩ := by
    intro t' h'
    refine Fin.ext ?_
    show min t'.val _ = min (t'.val - 1) _
    omega
  have hcarry : ∀ (t' : Fin (cfg0 (adm m hok 0)).N) (_ : t'.val ≠ 0), (cfg0 (adm m hok 0)).idle 15 ((cfg0 (adm m hok 0)).grid.coords t') = true →
      (cfg0 (adm m hok 0)).fresh 15 t'.val = false → (dats m hok 0 c).after 15 t' = (dats m hok 0 c).after 15 ⟨t'.val - 1, by omega⟩ := by
    intro t' h0 hi _
    rw [idle15_eq m hok hnv] at hi
    rw [after_15, after_15, key t' (of_decide_eq_true hi)]
  rw [(dats m hok 0 c).before_out_traj 15 rfl (fun _ _ => rfl) hcarry t.val t rfl d, fresh15 m hok hnv _ h ht, if_neg Bool.false_ne_true,
    after_15, after_15, key t h]

/-- What the body leaves of the output's buffer. -/
def left15 (c : Dev nD) (t : Fin (cfg0 (adm m hok 0)).N) : sProp 𝕄 :=
  match (cfg0 (adm m hok 0)).idle 15 ((cfg0 (adm m hok 0)).grid.coords t) with
  | true =>
    match ((cfg0 (adm m hok 0)).win 15).flush t with
    | false => iprop(∃ d, owns (c : Thread nD τ) (spec0_15.stage ((cfg0 (adm m hok 0)).slots t 15)) fullShare ((dats m hok 0 c).before 15 t d))
    | true => owns (c : Thread nD τ) (spec0_15.stage ((cfg0 (adm m hok 0)).slots t 15)) fullShare ((dats m hok 0 c).after 15 t)
  | false => owns (c : Thread nD τ) (spec0_15.stage ((cfg0 (adm m hok 0)).slots t 15)) fullShare ((dats m hok 0 c).after 15 t)

include hnv in
theorem left15_on (c : Dev nD) (t : Fin (cfg0 (adm m hok 0)).N) (h : t.val < (nvw m).toNat) :
    (owns (c : Thread nD τ) (spec0_15.stage ((cfg0 (adm m hok 0)).slots t 15)) fullShare (outAt m hok c t) : sProp 𝕄) ⊢ left15 m hok c t := by
  unfold left15
  rw [idle15_eq m hok hnv, decide_eq_false (by omega), after_15, last_of_lt m hok t h]

include hnv in
theorem left15_off (c : Dev nD) (t : Fin (cfg0 (adm m hok 0)).N) (h : (nvw m).toNat ≤ t.val) (d) :
    (owns (c : Thread nD τ) (spec0_15.stage ((cfg0 (adm m hok 0)).slots t 15)) fullShare ((dats m hok 0 c).before 15 t d) : sProp 𝕄) ⊢ left15 m hok c t := by
  unfold left15
  rw [idle15_eq m hok hnv, decide_eq_true h]
  cases ((cfg0 (adm m hok 0)).win 15).flush t
  · dsimp only
    iintro H; iexists d; iexact H
  · dsimp only
    rw [before_15 m hok hnv c t h]

theorem tables_eq (c : Dev nD) : (Pipeline.ΦT (U := UR sig nD τ) pre0 (tabs m) c : sProp 𝕄)
    = iprop(owns (c : Thread nD τ) (Memref.whole main_v45) fullShare.right (V m 0 main_v45) ∗ owns (c : Thread nD τ) (Memref.whole main_v47) fullShare.right (V m 0 main_v47)
      ∗ owns (c : Thread nD τ) (Memref.whole main_v38) fullShare.right (V m 0 main_v38)) := by
  rw [owns_whole, owns_whole, owns_whole]
  unfold Pipeline.ΦT Pipeline.prefHeld
  rw [bigSep_univ_eq_bigSepL [(0 : Fin 3), (1 : Fin 3), (2 : Fin 3)] (by decide) (by decide)]
  rfl

include hnv in
set_option maxHeartbeats 1000000 in
theorem sound_body (c : Dev nD) (t : Fin (cfg0 (adm m hok 0)).N) :
    iprop((dats m hok 0 c).Φ t.castSucc ∗ (dats m hok 0 c).owesAt () t.castSucc
      ∗ (∃ d, owns (c : Thread nD τ) (spec0_0.stage ((cfg0 (adm m hok 0)).slots t 0)) fullShare ((dats m hok 0 c).before 0 t d))
      ∗ (∃ d, owns (c : Thread nD τ) (spec0_1.stage ((cfg0 (adm m hok 0)).slots t 1)) fullShare ((dats m hok 0 c).before 1 t d))
      ∗ (∃ d, owns (c : Thread nD τ) (spec0_2.stage ((cfg0 (adm m hok 0)).slots t 2)) fullShare ((dats m hok 0 c).before 2 t d))
      ∗ (∃ d, owns (c : Thread nD τ) (spec0_3.stage ((cfg0 (adm m hok 0)).slots t 3)) fullShare ((dats m hok 0 c).before 3 t d))
      ∗ (∃ d, owns (c : Thread nD τ) (spec0_4.stage ((cfg0 (adm m hok 0)).slots t 4)) fullShare ((dats m hok 0 c).before 4 t d))
      ∗ (∃ d, owns (c : Thread nD τ) (spec0_5.stage ((cfg0 (adm m hok 0)).slots t 5)) fullShare ((dats m hok 0 c).before 5 t d))
      ∗ (∃ d, owns (c : Thread nD τ) (spec0_6.stage ((cfg0 (adm m hok 0)).slots t 6)) fullShare ((dats m hok 0 c).before 6 t d))
      ∗ (∃ d, owns (c : Thread nD τ) (spec0_7.stage ((cfg0 (adm m hok 0)).slots t 7)) fullShare ((dats m hok 0 c).before 7 t d))
      ∗ (∃ d, owns (c : Thread nD τ) (spec0_8.stage ((cfg0 (adm m hok 0)).slots t 8)) fullShare ((dats m hok 0 c).before 8 t d))
      ∗ (∃ d, owns (c : Thread nD τ) (spec0_9.stage ((cfg0 (adm m hok 0)).slots t 9)) fullShare ((dats m hok 0 c).before 9 t d))
      ∗ (∃ d, owns (c : Thread nD τ) (spec0_10.stage ((cfg0 (adm m hok 0)).slots t 10)) fullShare ((dats m hok 0 c).before 10 t d))
      ∗ (∃ d, owns (c : Thread nD τ) (spec0_11.stage ((cfg0 (adm m hok 0)).slots t 11)) fullShare ((dats m hok 0 c).before 11 t d))
      ∗ (∃ d, owns (c : Thread nD τ) (spec0_12.stage ((cfg0 (adm m hok 0)).slots t 12)) fullShare ((dats m hok 0 c).before 12 t d))
      ∗ (∃ d, owns (c : Thread nD τ) (spec0_13.stage ((cfg0 (adm m hok 0)).slots t 13)) fullShare ((dats m hok 0 c).before 13 t d))
      ∗ (∃ d, owns (c : Thread nD τ) (spec0_14.stage ((cfg0 (adm m hok 0)).slots t 14)) fullShare ((dats m hok 0 c).before 14 t d))
      ∗ (∃ d, owns (c : Thread nD τ) (spec0_15.stage ((cfg0 (adm m hok 0)).slots t 15)) fullShare ((dats m hok 0 c).before 15 t d)))
    ⊢ wp frame (wpE (defs₀ (F := F)) Variants.none c none) Set.univ (bodyAt m hok t)
      (fun _ => iprop((dats m hok 0 c).Φ t.succ ∗ (dats m hok 0 c).owesAt () t.succ
      ∗ owns (c : Thread nD τ) (spec0_0.stage ((cfg0 (adm m hok 0)).slots t 0)) fullShare ((dats m hok 0 c).after 0 t)
      ∗ owns (c : Thread nD τ) (spec0_1.stage ((cfg0 (adm m hok 0)).slots t 1)) fullShare ((dats m hok 0 c).after 1 t)
      ∗ owns (c : Thread nD τ) (spec0_2.stage ((cfg0 (adm m hok 0)).slots t 2)) fullShare ((dats m hok 0 c).after 2 t)
      ∗ owns (c : Thread nD τ) (spec0_3.stage ((cfg0 (adm m hok 0)).slots t 3)) fullShare ((dats m hok 0 c).after 3 t)
      ∗ owns (c : Thread nD τ) (spec0_4.stage ((cfg0 (adm m hok 0)).slots t 4)) fullShare ((dats m hok 0 c).after 4 t)
      ∗ owns (c : Thread nD τ) (spec0_5.stage ((cfg0 (adm m hok 0)).slots t 5)) fullShare ((dats m hok 0 c).after 5 t)
      ∗ owns (c : Thread nD τ) (spec0_6.stage ((cfg0 (adm m hok 0)).slots t 6)) fullShare ((dats m hok 0 c).after 6 t)
      ∗ owns (c : Thread nD τ) (spec0_7.stage ((cfg0 (adm m hok 0)).slots t 7)) fullShare ((dats m hok 0 c).after 7 t)
      ∗ owns (c : Thread nD τ) (spec0_8.stage ((cfg0 (adm m hok 0)).slots t 8)) fullShare ((dats m hok 0 c).after 8 t)
      ∗ owns (c : Thread nD τ) (spec0_9.stage ((cfg0 (adm m hok 0)).slots t 9)) fullShare ((dats m hok 0 c).after 9 t)
      ∗ owns (c : Thread nD τ) (spec0_10.stage ((cfg0 (adm m hok 0)).slots t 10)) fullShare ((dats m hok 0 c).after 10 t)
      ∗ owns (c : Thread nD τ) (spec0_11.stage ((cfg0 (adm m hok 0)).slots t 11)) fullShare ((dats m hok 0 c).after 11 t)
      ∗ owns (c : Thread nD τ) (spec0_12.stage ((cfg0 (adm m hok 0)).slots t 12)) fullShare ((dats m hok 0 c).after 12 t)
      ∗ owns (c : Thread nD τ) (spec0_13.stage ((cfg0 (adm m hok 0)).slots t 13)) fullShare ((dats m hok 0 c).after 13 t)
      ∗ owns (c : Thread nD τ) (spec0_14.stage ((cfg0 (adm m hok 0)).slots t 14)) fullShare ((dats m hok 0 c).after 14 t)
      ∗ left15 m hok c t)) := by
  simp only [before_0, before_1, before_2, before_3, before_4, before_5, before_6, before_7, before_8, before_9, before_10, before_11, before_12, before_13, before_14]
  rw [show (dats m hok 0 c).Φ t.succ = (dats m hok 0 c).Φ t.castSucc from rfl,
    show (dats m hok 0 c).owesAt () t.succ = (dats m hok 0 c).owesAt () t.castSucc from rfl,
    after_0, after_1, after_2, after_3, after_4, after_5, after_6, after_7, after_8, after_9, after_10, after_11, after_12, after_13, after_14,
    show (dats m hok 0 c).Φ t.castSucc = iprop(Pipeline.ΦA spec0 c ∗ Pipeline.ΦT pre0 (tabs m) c) from rfl, tables_eq]
  have hcw := cond_word (grid0.coords t) (nvw m) hnv.2
  rw [coord0 m hok t] at hcw
  unfold bodyAt
  by_cases hc : t.val < (nvw m).toNat
  · iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_on (iblk m hok c 0 t) (iblk m hok c 1 t) (iblk m hok c 2 t) (iblk m hok c 3 t) (iblk m hok c 4 t) (iblk m hok c 5 t) (iblk m hok c 6 t) (iblk m hok c 7 t) (iblk m hok c 8 t) (iblk m hok c 9 t) (iblk m hok c 10 t) (iblk m hok c 11 t) (iblk m hok c 12 t) (iblk m hok c 13 t) (iblk m hok c 14 t) (grid0.coords t) c _ _ _ _ _ _ _ _ _ _ _ _ _ _ _ _ _ _ _ _ _ _ _ _ _ _ _ _ _ _ _ _ _ _ _ _ _ _  fullShare.right (V m 0 main_v38) ((congrArg (k0_cond1 (grid0.coords t)) (nv_at m _)).trans (hcw.mpr hc)))
    isplitl [HT2]; · iexact HT2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iintro ⟨HT2, H0, H1, H2, H3, H4, H5, H6, H7, H8, H9, H10, H11, H12, H13, H14, H15⟩
    isplitl [HA HT0 HT1 HT2]
    · isplitl [HA]; · iexact HA
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iapply (left15_on m hok hnv c t hc)
    unfold outAt
    iexact H15
  · iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_off (grid0.coords t) c _ _ _ _ _ _ _ _ _ _ _ _ _ _ _ _ _ _ _ _ _ _ _ _ _ _ _ _ _ _ _ _ _ _ _ _ _ _  fullShare.right (V m 0 main_v38) (fun e => hc (hcw.mp ((congrArg (k0_cond1 (grid0.coords t)) (nv_at m _)).symm.trans e))))
    isplitl [HT2]; · iexact HT2
    iintro HT2
    isplitl [HA HT0 HT1 HT2]
    · isplitl [HA]; · iexact HA
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iapply (left15_off m hok hnv c t (Nat.le_of_not_lt hc) d15)
    iexact H15

include hnv in
theorem body_obligation (c : Dev nD) : Pipeline.BodyObligation (dats m hok 0 c) (defs₀ (F := F)) Variants.none () Set.univ := fun t => by
  rw [bigSep_W0, bigSep_W0]
  exact triple_restated (sound_body m hok hnv c t) (by rw [defs₀_row]) .rfl fun _ => .rfl

include hnv in
set_option backward.isDefEq.respectTransparency.types false in
theorem run_main : θ_run defs (onTc (τ := τ) (main (F := F))) (s₀ m ρ)
    (fun r => Pipeline.FramePost (Pipeline.pin pcfgs (adm m hok)) (dats m hok) 0 (V m) r ∧ r.2.sem = fun _ => 0) :=
  Pipeline.θ_run_frameP_shared (Q' := _) pcfgs (adm m hok) (dats m hok) (0 : Fin 1) launch₀0 defs₀ Variants.none m ρ main
    (hbody := fun c => (body_obligation m hok hnv c).loose) (hq := fun _ _ _ => rfl)
    (howed := fun _ _ => rfl) (V := V m) (hmain := hmain m Variants.none) (hA := A_eq m hok)
    (hpf := fun c k => by obtain rfl : c = 0 := Subsingleton.elim _ _; rfl) (hΦ := fun _ _ => rfl)

end Cert.Proof.FfnRun
end
-- ==== Proof.FfnTables.lean ====
/- The feed-forward's tables: which expert serves each tile of rows. -/
module

public import proofs.«01_k».proof.Proof.FfnRef
public import proofs.«01_k».proof.Proof.FfnRun
public import proofs.«01_k».proof.Proof.Gen.On_written
public import Idealize.ShloMosaic.Lib.Pointwise
public import Idealize.ShloMosaic.Lib.IndicatorCount
public import Idealize.ShloMosaic.Lib.Routing.OpsOne

@[expose] public section

set_option maxRecDepth 65536

noncomputable section

namespace Cert.Proof.FfnTables

open Cert.Kernel2Ideal Cert.Kernel2Ideal.Gen Cert.Proof.FfnRun Cert.Proof.FfnRef
open Idealize.ShloMosaic Idealize.ShloMosaic.TcCoe Idealize.ShloMosaic.Tactic

variable {F : FTy → Type} [FloatOps F]

/-! ## Words -/

/-- How many of the words are at most `n`. -/
def cls (e : IVec S112 32) (n : Nat) : Nat := (Finset.univ.filter fun k : Fin 112 => (e (ix1 k)).toInt ≤ (n : Int)).card

theorem cls_le (e : IVec S112 32) (n : Nat) : cls e n ≤ 112 :=
  (Finset.card_le_univ _).trans (by simp)

/-- Below the last word not every word counts. -/
theorem cls_lt (e : IVec S112 32) (n : Nat) (h : (n : Int) < (e (ix1 111)).toInt) : cls e n < 112 := by
  have : cls e n < (Finset.univ : Finset (Fin 112)).card := by
    refine Finset.card_lt_card ⟨Finset.filter_subset _ _, fun hs => ?_⟩
    have := (Finset.mem_filter.1 (hs (Finset.mem_univ (111 : Fin 112)))).2
    omega
  simpa using this

/-- When the words are whole tiles, a row counts what its tile's first row counts. -/
theorem cls_tile (e : IVec S112 32) (he : ∀ k : Fin 112, (e (ix1 k)).toNat % 256 = 0) (n : Nat) : cls e (256 * (n / 256)) = cls e n := by
  unfold cls
  refine congrArg Finset.card (Finset.filter_congr fun k _ => ?_)
  have h := he k
  have hb := (e (ix1 k)).isLt
  rw [BitVec.toInt_eq_toNat_cond]
  split_ifs <;> push_cast <;> omega

theorem sle_iff (a : BitVec 32) (n : Nat) (hn : n < 2 ^ 31) : IntOp.cmpi .sle a (BitVec.ofNat 32 n) = 1#1 ↔ a.toInt ≤ (n : Int) := by
  have : (BitVec.ofNat 32 n).toInt = (n : Int) := by
    rw [BitVec.toInt_eq_toNat_cond, BitVec.toNat_ofNat, Nat.mod_eq_of_lt (by omega), if_pos (by omega)]
  rw [← this]
  show BitVec.ofBool (a.sle (BitVec.ofNat 32 n)) = 1#1 ↔ _
  unfold BitVec.sle
  by_cases h : a.toInt ≤ (BitVec.ofNat 32 n).toInt <;> simp [h]

theorem count_eq (e : IVec S112 32) (n : Nat) (hn : n < 2 ^ 31) :
    Finset.fold IntOp.addi (0#32) (fun x : Fin 112 => BitVec.setWidth 32 (IntOp.cmpi .sle (e (ix1 x)) (BitVec.ofNat 32 n))) Finset.univ = BitVec.ofNat 32 (cls e n) := by
  rw [IndicatorCount.fold_addi_setWidth_eq_card]
  unfold cls
  congr 2
  exact Finset.filter_congr fun k _ => sle_iff _ _ hn

theorem fold_addi {n : Nat} (f : Fin n → BitVec 32) : Finset.fold IntOp.addi (0#32) f Finset.univ = ∑ i, f i := rfl

/-- A sum with one live word. -/
theorem pick_eq (l : IVec S112 32) (k : Fin 112) (w : BitVec 32) (hw : w = BitVec.ofNat 32 k.val) :
    Finset.fold IntOp.addi (0#32) (fun x : Fin 112 => Scalar.select (IntOp.cmpi .eq w (BitVec.ofNat 32 x.val)) (l (ix1 x)) 0#32) Finset.univ = l (ix1 k) := by
  subst hw
  rw [fold_addi, Finset.sum_eq_single k]
  · simp [Scalar.select, IntOp.cmpi]
  · intro b _ hb
    have : BitVec.ofNat 32 k.val ≠ BitVec.ofNat 32 b.val := fun h => hb (Fin.ext (by
      have := congrArg BitVec.toNat h
      simp only [BitVec.toNat_ofNat] at this
      have h1 := k.isLt; have h2 := b.isLt
      omega))
    simp [Scalar.select, IntOp.cmpi, beq_eq_false_iff_ne.2 this]
  · exact fun h => absurd (Finset.mem_univ k) h

/-! ## The host's words -/

theorem padded_mod (a0 : FVec F S1x128 .f32) (k : Fin 112) : (padded a0 (ix1 k)).toNat % 256 = 0 := by
  unfold padded
  pointwise
  unfold IntOp.muli
  rw [BitVec.toNat_mul]
  show _ * 256 % 2 ^ 32 % 256 = 0
  omega

theorem one_index {n : Nat} (k : Fin n) : Idealize.ShloMosaic.ix1 k = ValueIdx.ix1 k := by
  funext a
  fin_cases a
  rfl

theorem mod_sum {n : Nat} (S : Finset (Fin n)) (x : Fin n → BitVec 32) (h : ∀ i, (x i).toNat % 256 = 0) : (∑ i ∈ S, x i).toNat % 256 = 0 := by
  induction S using Finset.cons_induction with
  | empty => rfl
  | cons a S ha ih =>
    rw [Finset.sum_cons, BitVec.toNat_add]
    have := h a
    omega

/-- Every class ends on a whole tile. -/
theorem ends_mod (a0 : FVec F S1x128 .f32) (k : Fin 112) : (ends a0 (ix1 k)).toNat % 256 = 0 := by
  unfold ends Cert.Pre_some_rows.fn_cumsum Cert.Pre_some_rows.fn_cumsum_0
  have := Routing.cumsum_vec (N := 112) (Nm1 := 111) rfl (padded a0) (broadcastInDim Cert.Pre_some_rows.S_ ![] Cert.Pre_some_rows.Facts.bcast_S_S_ (constantI Cert.Pre_some_rows.S_ 32 0#32)) rfl
    Cert.Pre_some_rows.Facts.reduceWindows_S112_S112_w112s1p111_0 Cert.Pre_some_rows.Facts.h_S_ k
  rw [one_index]
  refine (congrArg (fun w => w.toNat % 256) this).trans ?_
  refine mod_sum _ _ fun i => ?_
  split_ifs
  · rw [← one_index]; exact padded_mod a0 i
  · rfl

/-- A row's class, as the reference counts it. -/
theorem classes_at (e : IVec S112 32) (r : Fin 62976) : classes e (ix1 r) = BitVec.ofNat 32 (cls e r.val) := by
  unfold classes
  pointwise
  exact count_eq e r.val (by have := r.isLt; omega)

/-- The word the reference picks for a row. -/
theorem picked_at (l : IVec S112 32) (w : IVec Cert.Reference2Ideal.S62976 32) (r : Fin 62976) (k : Fin 112) (hw : w (ix1 r) = BitVec.ofNat 32 k.val) : picked l w (ix1 r) = l (ix1 k) := by
  unfold picked
  pointwise
  exact pick_eq l k _ hw

/-- Each tile's class. -/
def tileCls (e : IVec S112 32) : IVec S246 32 :=
  minsi (Host.reduce IntOp.addi (extui 32 (cmpi .sle
      (broadcastInDim S246x112 ![0, 1] bcast_S1x112_S246x112_0_1 (broadcastInDim S1x112 ![1] bcast_S112_S1x112_1 e))
      (broadcastInDim S246x112 ![0, 1] bcast_S246x1_S246x112_0_1 (broadcastInDim S246x1 ![0] bcast_S246_S246x1_0
        (muli (iotaInDim S246 32 0) (broadcastInDim S246 ![] bcast_S_S246 (constantI S_ 32 256#32)))))) natLt_1_32)
    (constantI S_ 32 0#32) reducesTo_S246x112_S246_d1 h_S_) (broadcastInDim S246 ![] bcast_S_S246 (constantI S_ 32 111#32))

/-- The table's word at each tile's class. -/
def pickT (l : IVec S112 32) (k : IVec S246 32) : IVec S246 32 :=
  Host.reduce IntOp.addi (select (cmpi .eq
      (broadcastInDim S246x112 ![0, 1] bcast_S246x1_S246x112_0_1 (broadcastInDim S246x1 ![0] bcast_S246_S246x1_0 k))
      (broadcastInDim S246x112 ![0, 1] bcast_S1x112_S246x112_0_1 (broadcastInDim S1x112 ![1] bcast_S112_S1x112_1 (iotaInDim S112 32 0))))
      (broadcastInDim S246x112 ![1] bcast_S112_S246x112_1 l) (broadcastInDim S246x112 ![] bcast_S_S246x112 (constantI S_ 32 0#32)))
    (constantI S_ 32 0#32) reducesTo_S246x112_S246_d1 h_S_

/-- Floor division as the host writes it. -/
def floorDiv (x y : IVec S_ 32) : IVec S_ 32 :=
  select (andi (cmpi .ne (signi x) (signi y)) (cmpi .ne (Host.remsi x y) (constantI S_ 32 0#32))) (subi (Host.divsi x y) (constantI S_ 32 1#32)) (Host.divsi x y)

/-- How many pairs of tiles hold rows. -/
def pairs (e : IVec S112 32) : IVec S1 32 :=
  shapeCast S1 (floorDiv (addi (floorDiv (shapeCast S_ (extractStridedSlice S1 ![111] e slices_S112_S1_111) shapeCasts_S1_S_) (constantI S_ 32 256#32)) (constantI S_ 32 1#32)) (constantI S_ 32 2#32)) shapeCasts_S_S1

/-- The class a tile is given. -/
def tcls (e : IVec S112 32) (t : Nat) : Fin 112 := ⟨min (cls e (256 * t)) 111, by omega⟩

theorem clamp_eq : ∀ n : Nat, n ≤ 112 → IntOp.minsi (BitVec.ofNat 32 n) 111#32 = BitVec.ofNat 32 (min n 111) := by decide +kernel

theorem tileCls_at (e : IVec S112 32) (t : Fin 246) : tileCls e (ix1 t) = BitVec.ofNat 32 (tcls e t.val).val := by
  unfold tileCls
  pointwise
  have h : IntOp.muli (BitVec.ofNat 32 t.val) 256#32 = BitVec.ofNat 32 (256 * t.val) := by
    unfold IntOp.muli
    apply BitVec.eq_of_toNat_eq
    rw [BitVec.toNat_mul, BitVec.toNat_ofNat, BitVec.toNat_ofNat]
    show t.val % 2 ^ 32 * 256 % 2 ^ 32 = 256 * t.val % 2 ^ 32
    have := t.isLt
    omega
  rw [h, count_eq e (256 * t.val) (by have := t.isLt; omega)]
  have hc := cls_le e (256 * t.val)
  exact clamp_eq _ hc

theorem pickT_at (l e : IVec S112 32) (t : Fin 246) : pickT l (tileCls e) (ix1 t) = l (ix1 (tcls e t.val)) := by
  unfold pickT
  pointwise
  exact pick_eq l _ _ (tileCls_at e t)

/-- The sign of a word. -/
def sgn (x : BitVec 32) : BitVec 32 := if x = 0 then 0 else if x.msb = true then -1 else 1

/-- Floor division of words as the host writes it. -/
def fdiv (x y : BitVec 32) : BitVec 32 :=
  Scalar.select (IntOp.andi (IntOp.cmpi .ne (sgn x) (sgn y)) (IntOp.cmpi .ne (IntOp.remsi .host x y) 0#32)) (IntOp.subi (IntOp.divsi .host x y) 1#32) (IntOp.divsi .host x y)

theorem fdiv_eq (x y : BitVec 32) (hx : x.toNat < 2 ^ 31) (hy : 0 < y.toNat ∧ y.toNat < 2 ^ 31) : (fdiv x y).toNat = x.toNat / y.toNat := by
  have mx : x.msb = false := by rw [BitVec.msb_eq_decide]; exact decide_eq_false (by omega)
  have my : y.msb = false := by rw [BitVec.msb_eq_decide]; exact decide_eq_false (by omega)
  have y0 : y ≠ 0 := fun h => by subst h; exact absurd hy.1 (by decide)
  have hc : ¬ IntOp.SDivCorner x y := by
    rintro (h | ⟨h, _⟩)
    · exact y0 h
    · subst h; exact absurd mx (by decide)
  have hd : IntOp.divsi .host x y = x / y := by
    unfold IntOp.divsi
    rw [if_neg hc, BitVec.sdiv_eq, mx, my]
    rfl
  have hr : IntOp.remsi .host x y = x % y := by
    unfold IntOp.remsi
    rw [if_neg hc, BitVec.srem_eq, mx, my]
  unfold fdiv
  rw [hd, hr]
  have hs : IntOp.andi (IntOp.cmpi .ne (sgn x) (sgn y)) (IntOp.cmpi .ne (x % y) 0#32) = 0#1 := by
    by_cases h0 : x = 0
    · subst h0
      have : (0 : BitVec 32) % y = 0#32 := by simp
      rw [this]
      simp [IntOp.andi, IntOp.cmpi]
    · unfold sgn
      rw [if_neg h0, if_neg y0, mx, my]
      simp [IntOp.andi, IntOp.cmpi]
  rw [hs]
  exact BitVec.toNat_udiv

theorem floorDiv_at (x y : IVec S_ 32) (i : S_.Idx) : floorDiv x y i = fdiv (x i) (y i) := by
  unfold floorDiv
  pointwise
  rfl

/-- With rows at all, the pairs that hold them. -/
theorem pairs_at (e : IVec S112 32) (i : S1.Idx) (h : 1 ≤ (e (ix1 111)).toInt) : (pairs e i).toNat = ((e (ix1 111)).toNat / 256 + 1) / 2 := by
  obtain rfl := one_ix i (ix1 0)
  have hp : pairs e (ix1 0) = fdiv (IntOp.addi (fdiv (e (ix1 111)) 256#32) 1#32) 2#32 := by
    unfold pairs
    pointwise
    simp only [floorDiv_at]
    pointwise
    rw [floorDiv_at]
    pointwise
  have hb := (e (ix1 111)).isLt
  have h0 : (e (ix1 111)).toNat < 2 ^ 31 := by
    rw [BitVec.toInt_eq_toNat_cond] at h
    split_ifs at h <;> omega
  have h1 : (fdiv (e (ix1 111)) 256#32).toNat = (e (ix1 111)).toNat / 256 := fdiv_eq _ _ h0 (by decide)
  have h2 : (IntOp.addi (fdiv (e (ix1 111)) 256#32) 1#32).toNat = (e (ix1 111)).toNat / 256 + 1 := by
    unfold IntOp.addi
    rw [BitVec.toNat_add, h1]
    show (_ + 1) % 2 ^ 32 = _
    omega
  rw [hp, fdiv_eq _ _ (by omega) (by decide), h2]
  rfl

/-- The kernel's two tables: each class's first expert, -/
def firstK : IVec S112 32 := fun i => lit0 (S112.rowMajor i)
/-- and its second. -/
def secondK : IVec S112 32 := fun i => lit1 (S112.rowMajor i)

theorem firstK_eq : firstK = firsts := funext fun i => (by decide : ∀ k : Fin 112, lit0 k = Cert.Reference2Ideal.lit0 k) (S112.rowMajor i)
theorem secondK_eq : secondK = seconds := funext fun i => (by decide : ∀ k : Fin 112, lit1 k = Cert.Reference2Ideal.lit1 k) (S112.rowMajor i)
theorem firsts_lt (i : S112.Idx) : (firsts i).toNat < 32 := (by decide : ∀ k : Fin 112, (Cert.Reference2Ideal.lit0 k).toNat < 32) (S112.rowMajor i)
theorem seconds_lt (i : S112.Idx) : (seconds i).toNat < 32 := (by decide : ∀ k : Fin 112, (Cert.Reference2Ideal.lit1 k).toNat < 32) (S112.rowMajor i)
theorem firsts_ne (i : S112.Idx) : firsts i ≠ seconds i := (by decide : ∀ k : Fin 112, Cert.Reference2Ideal.lit0 k ≠ Cert.Reference2Ideal.lit1 k) (S112.rowMajor i)

variable (m : (ℓ : Loc nD τ sig) → Buf (Elt F) ℓ) (c : Dev nD)

/-- Where each class's rows end, from the counts in memory. -/
abbrev endsM : IVec S112 32 := ends (F := F) (m ((c : Thread nD τ).loc main_arg0))

theorem tabA_eq : V m c main_v45 = pickT firsts (tileCls (endsM m c)) := by
  rw [← firstK_eq]
  unfold V
  after_reads_simp
  simp -implicitDefEqProofs only [StableHlo.TRef.toBuf, StableHlo.TRef.ofBuf, cast_eq]
  unfold pickT tileCls firstK endsM ends padded Cert.Pre_some_rows.fn_cumsum Cert.Pre_some_rows.fn_cumsum_0 Cert.Pre_some_rows.fn_floor_divide Cert.Pre_some_rows.fn_where
  rfl

theorem tabB_eq : V m c main_v47 = pickT seconds (tileCls (endsM m c)) := by
  rw [← secondK_eq]
  unfold V
  after_reads_simp
  simp -implicitDefEqProofs only [StableHlo.TRef.toBuf, StableHlo.TRef.ofBuf, cast_eq]
  unfold pickT tileCls secondK endsM ends padded Cert.Pre_some_rows.fn_cumsum Cert.Pre_some_rows.fn_cumsum_0 Cert.Pre_some_rows.fn_floor_divide Cert.Pre_some_rows.fn_where
  rfl

theorem pairs_eq : V m c main_v38 = pairs (endsM m c) := by
  unfold V
  after_reads_simp
  simp -implicitDefEqProofs only [StableHlo.TRef.toBuf, StableHlo.TRef.ofBuf, cast_eq]
  unfold pairs floorDiv endsM ends padded Cert.Pre_some_rows.fn_cumsum Cert.Pre_some_rows.fn_cumsum_0 Cert.Pre_some_rows.fn_floor_divide Cert.Pre_some_rows.fn_where
  rfl

end Cert.Proof.FfnTables
end
-- ==== Proof.FfnFrame.lean ====
/- With rows at all, the feed-forward's run: its tables fit, and its arguments are unchanged. -/
module

public import proofs.«01_k».proof.Proof.FfnTables

@[expose] public section

set_option maxRecDepth 65536

noncomputable section

namespace Cert.Proof.FfnFrame

open Cert.Kernel2Ideal Cert.Kernel2Ideal.Gen Cert.Proof.FfnRun Cert.Proof.FfnRef Cert.Proof.FfnTables
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The precondition of the call, at any choice of the float values. -/
def SomeRows : Prop := ∀ c : Dev nD,
  Cert.Pre_some_rows.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1

variable {m}

theorem fn_at (a0 : FVec F S1x128 .f32) (a1 : FVec F S62976x2176 .f32) (a2 a3 : FVec F S1x32x2048x256 .f32) (a4 : FVec F S1x32x256x2048 .f32) (a5 : FVec F S1x2048 .f32) (a6 : FVec F S2048 .f32) :
    Cert.Pre_some_rows.fn (F := F) a0 a1 a2 a3 a4 a5 a6 ix0 = IntOp.cmpi .sge (ends a0 (ix1 111)) 1#32 := by
  have : Cert.Pre_some_rows.fn (F := F) a0 a1 a2 a3 a4 a5 a6 = cmpi .sge (shapeCast Cert.Pre_some_rows.S_ (extractStridedSlice Cert.Pre_some_rows.S1 ![111] (ends a0) Cert.Pre_some_rows.Facts.slices_S112_S1_111) Cert.Pre_some_rows.Facts.shapeCasts_S1_S_) (constantI Cert.Pre_some_rows.S_ 32 1#32) := rfl
  rw [this]
  pointwise

/-- The last class's end is past the first row. -/
theorem ends_pos (h : SomeRows m) (c : Dev nD) : 1 ≤ (endsM m c (ix1 111)).toInt := by
  have h1 := congrFun (h c) ix0
  rw [fn_at] at h1
  have h2 : BitVec.ofBool ((1#32).sle (endsM m c (ix1 111))) = 1#1 := h1
  have h3 : (1#32).sle (endsM m c (ix1 111)) = true := by
    cases hb : (1#32).sle (endsM m c (ix1 111))
    · rw [hb] at h2; exact absurd h2 (by decide)
    · rfl
  unfold BitVec.sle at h3
  exact of_decide_eq_true h3

theorem nv_eq (h : SomeRows m) : (nvw m).toNat = ((endsM m 0 (ix1 111)).toNat / 256 + 1) / 2 := by
  unfold nvw
  rw [pairs_eq]
  exact pairs_at _ _ (ends_pos h 0)

/-- A positive end is a whole number of tiles, at least one. -/
theorem ends_tiles (h : SomeRows m) : 256 ≤ (endsM m 0 (ix1 111)).toNat ∧ (endsM m 0 (ix1 111)).toNat < 2 ^ 31 := by
  have h1 := ends_pos h 0
  have h2 := ends_mod (F := F) (m (((0 : Dev nD) : Thread nD τ).loc main_arg0)) 111
  change (endsM m 0 (ix1 111)).toNat % 256 = 0 at h2
  have hb := (endsM m 0 (ix1 111)).isLt
  rw [BitVec.toInt_eq_toNat_cond] at h1
  split_ifs at h1 <;> omega

theorem nv_ok (h : SomeRows m) : 1 ≤ (nvw m).toNat ∧ (nvw m).toNat < 2 ^ 31 := by
  have h1 := ends_tiles h
  rw [nv_eq h]
  omega

theorem tabA_lt (j : S246.Idx) : ((V m 0 main_v45 : S246.Idx → BitVec 32) j).toNat < 32 := by
  obtain ⟨t, rfl⟩ : ∃ t, j = ix1 t := ⟨j 0, funext fun a => by fin_cases a; rfl⟩
  rw [tabA_eq, pickT_at]
  exact firsts_lt _

theorem tabB_lt (j : S246.Idx) : ((V m 0 main_v47 : S246.Idx → BitVec 32) j).toNat < 32 := by
  obtain ⟨t, rfl⟩ : ∃ t, j = ix1 t := ⟨j 0, funext fun a => by fin_cases a; rfl⟩
  rw [tabB_eq, pickT_at]
  exact seconds_lt _

/-- A slab of one expert's words. -/
theorem slab_up (n : Nat) (hn : n < 32) : ∃ h : (∀ a, ((![n, 0, 0] : Fin 3 → Nat) a + 1) * S1x2048x256.size a ≤ S32x2048x256.size a),
    EltTy.bits .bf16 = 32 ∨ (Rect.block (s := S32x2048x256) S1x2048x256.size ![n, 0, 0] h).WholeWords (EltTy.packing .bf16) := by
  refine ⟨fun a => ?_, .inr (.inr ⟨by decide, rfl, rfl, rfl⟩)⟩
  match a with
  | ⟨0, _⟩ => show (n + 1) * 1 ≤ 32; omega
  | ⟨1, _⟩ => show (0 + 1) * 2048 ≤ 2048; omega
  | ⟨2, _⟩ => show (0 + 1) * 256 ≤ 256; omega

theorem slab_down (n : Nat) (hn : n < 32) : ∃ h : (∀ a, ((![n, 0, 0] : Fin 3 → Nat) a + 1) * S1x256x2048.size a ≤ S32x256x2048.size a),
    EltTy.bits .bf16 = 32 ∨ (Rect.block (s := S32x256x2048) S1x256x2048.size ![n, 0, 0] h).WholeWords (EltTy.packing .bf16) := by
  refine ⟨fun a => ?_, .inr (.inr ⟨by decide, rfl, rfl, rfl⟩)⟩
  match a with
  | ⟨0, _⟩ => show (n + 1) * 1 ≤ 32; omega
  | ⟨1, _⟩ => show (0 + 1) * 256 ≤ 256; omega
  | ⟨2, _⟩ => show (0 + 1) * 2048 ≤ 2048; omega

/-- The row block's index, clamped to the last that computes. -/
theorem row_lt (h : SomeRows m) (i : grid0.Coords) (j : S1.Idx) : (Scalar.minsi (BitVec.ofNat 32 (i 0).val) (Scalar.subi ((V m 0 main_v38 : S1.Idx → BitVec 32) j) 1#32)).toNat < 123 := by
  rw [nv_at m j, min_word _ (i 0).isLt _ (nv_ok h).1 (nv_ok h).2]
  exact lt_of_le_of_lt (Nat.min_le_left _ _) (i 0).isLt

/-- The tables fit. -/
theorem ok (h : SomeRows m) : ok0 (tabs m) := by
  refine ⟨fun i => ⟨fun a => ?_, .inl rfl⟩, fun i => slab_up _ (tabA_lt _), fun i => slab_up _ (tabA_lt _), fun i => slab_down _ (tabA_lt _), fun i => slab_up _ (tabB_lt _), fun i => slab_up _ (tabB_lt _), fun i => slab_down _ (tabB_lt _),
    fun i => slab_up _ (tabA_lt _), fun i => slab_up _ (tabA_lt _), fun i => slab_down _ (tabA_lt _), fun i => slab_up _ (tabB_lt _), fun i => slab_up _ (tabB_lt _), fun i => slab_down _ (tabB_lt _), fun i => ⟨fun a => ?_, .inl rfl⟩⟩
  · match a with
    | ⟨0, _⟩ =>
      have := row_lt h i ((Rect.unit (s := S1) ![0] S1.size inb_S1_S1_0).point numel1_S1)
      show ((Scalar.minsi (BitVec.ofNat 32 (i 0).val) (Scalar.subi ((V m 0 main_v38 : S1.Idx → BitVec 32) ((Rect.unit (s := S1) ![0] S1.size inb_S1_S1_0).point numel1_S1)) 1#32)).toNat + 1) * 512 ≤ 62976
      omega
    | ⟨1, _⟩ => show (0 + 1) * 2176 ≤ 2176; omega
  · match a with
    | ⟨0, _⟩ =>
      have := row_lt h i ((Rect.unit (s := S1) ![0] S1.size inb_S1_S1_0).point numel1_S1)
      show ((Scalar.minsi (BitVec.ofNat 32 (i 0).val) (Scalar.subi ((V m 0 main_v38 : S1.Idx → BitVec 32) ((Rect.unit (s := S1) ![0] S1.size inb_S1_S1_0).point numel1_S1)) 1#32)).toNat + 1) * 512 ≤ 62976
      omega
    | ⟨1, _⟩ => show (0 + 1) * 2048 ≤ 2048; omega

/-- An array that is no window's is among the kept ones. -/
theorem rest_of (b : Ref sig .tc) (h1 : b.isScoped = false) (h2 : ∀ w, (spec0 w).arr.view.ref ≠ b) : b ∈ Pipeline.restRefs sig spec0 :=
  Pipeline.mem_restRefs_of b h1 h2

/-- What the run leaves in the result. -/
def res (h : SomeRows m) (c : Dev nD) : FVec F S62976x2048 .f32 := (dats m (ok h) 0 c).arrAt 15 (cfg0 (adm m (ok h) 0)).N

/-- The kernel's run: the arguments are unchanged, nothing is in flight. -/
theorem run (h : SomeRows m) :
    θ_run (defs (F := F)) (onTc (τ := τ) (main (F := F))) ⟨m, fun _ => 0, ρ⟩ (fun r => (∀ c : Dev nD,
      r.2.mem ((c.tc : Thread nD τ).loc main_v48) = res h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r hr => ⟨fun c => ?_, hr.2⟩) (run_main m ρ (ok h) (nv_ok h))
  have hf := hr.1 c
  refine ⟨hf.1 15, (hf.2 main_arg0 (rest_of main_arg0 (by decide) (by decide))).trans ?_,
    (hf.1 0).trans ?_,
    (hf.2 main_arg2 (rest_of main_arg2 (by decide) (by decide))).trans ?_,
    (hf.2 main_arg3 (rest_of main_arg3 (by decide) (by decide))).trans ?_,
    (hf.2 main_arg4 (rest_of main_arg4 (by decide) (by decide))).trans ?_,
    (hf.2 main_arg5 (rest_of main_arg5 (by decide) (by decide))).trans ?_,
    (hf.2 main_arg6 (rest_of main_arg6 (by decide) (by decide))).trans ?_⟩
  · unfold V
    after_reads_simp
  · refine (Pipeline.Dat.arrAt_in (dats m (ok h) 0 c) 0 rfl _).trans ?_
    rw [A_eq]
    change V m c main_arg1 = _
    unfold V
    after_reads_simp
  all_goals
    unfold V
    after_reads_simp

end Cert.Proof.FfnFrame
end
-- ==== Proof.FfnVal.lean ====
/- What a grid point of the feed-forward call computes, read at a row and a column. -/
module

public import proofs.«01_k».proof.Proof.FfnBody
public import Idealize.ShloMosaic.Lib.Pointwise

@[expose] public section

set_option maxRecDepth 65536

noncomputable section

namespace Cert.Proof.FfnVal

open Cert.Kernel2Ideal Cert.Kernel2Ideal.Gen Cert.Proof.FfnBody
open Idealize.ShloMosaic Idealize.ShloMosaic.TcCoe Idealize.ShloMosaic.Tactic

/-- One over the root of a row's mean square. -/
def scale (x : Fin 2048 → EReal) : EReal :=
  Ideal.rsqrt (Ideal.div (∑ k, x k * x k) (Ideal.ofBits .f32 0x45000000#32) + Ideal.ofBits .f32 0x358637BD#32)

/-- A row normalized and weighted. -/
def normed (x w : Fin 2048 → EReal) (j : Fin 2048) : EReal := x j * scale x * w j

/-- One expert's hidden value: the gate's silu times the up projection times the row's weight. -/
def hidden (z : Fin 2048 → EReal) (g u : Fin 2048 → Fin 256 → EReal) (c : EReal) (f : Fin 256) : EReal :=
  (∑ k, z k * g k f) * Ideal.div 1 (1 + Ideal.exp (0 - ∑ k, z k * g k f)) * (∑ k, z k * u k f) * c

/-- What an expert adds to a row. -/
def expert (z : Fin 2048 → EReal) (g u : Fin 2048 → Fin 256 → EReal) (d : Fin 256 → Fin 2048 → EReal) (c : EReal) (j : Fin 2048) : EReal :=
  ∑ f, hidden z g u c f * d f j

/-- A row through two experts and the last normalization. -/
def rowOut (x n1 n2 : Fin 2048 → EReal) (ga ua : Fin 2048 → Fin 256 → EReal) (da : Fin 256 → Fin 2048 → EReal) (ca : EReal)
    (gb ub : Fin 2048 → Fin 256 → EReal) (db : Fin 256 → Fin 2048 → EReal) (cb : EReal) : Fin 2048 → EReal :=
  normed (fun j => x j + expert (normed x n1) ga ua da ca j + expert (normed x n1) gb ub db cb j) n2

variable (x : Vec Ideal S256x2048 .f32) (w : Vec Ideal S256x128 .f32) (n : Vec Ideal S1x2048 .f32)

theorem pay2_at (r : Fin 256) (j : Fin 2048) : k0_pay2 x n (ix2 r j) = normed (fun k => x (ix2 r k)) (fun k => n (ix2 0 k)) j := by
  unfold k0_pay2; pointwise; rfl
theorem pay3_at (r : Fin 256) (j : Fin 2048) : k0_pay3 x n (ix2 r j) = normed (fun k => x (ix2 r k)) (fun k => n (ix2 0 k)) j := by
  unfold k0_pay3; pointwise; rfl

variable (z : FVec Ideal S256x2048 .bf16) (v : Vec Ideal S1x2048x256 .bf16)

theorem pay5_at (r f : Fin 256) : k0_pay5 z v (ix2 r f) = ∑ k, z (ix2 r k) * v (ix3 0 k f) := by
  unfold k0_pay5; pointwise
theorem pay6_at (r f : Fin 256) : k0_pay6 z v (ix2 r f) = ∑ k, z (ix2 r k) * v (ix3 0 k f) := by
  unfold k0_pay6; pointwise
theorem pay7_at (r f : Fin 256) : k0_pay7 z v (ix2 r f) = ∑ k, z (ix2 r k) * v (ix3 0 k f) := by
  unfold k0_pay7; pointwise
theorem pay8_at (r f : Fin 256) : k0_pay8 z v (ix2 r f) = ∑ k, z (ix2 r k) * v (ix3 0 k f) := by
  unfold k0_pay8; pointwise
theorem pay9_at (r f : Fin 256) : k0_pay9 z v (ix2 r f) = ∑ k, z (ix2 r k) * v (ix3 0 k f) := by
  unfold k0_pay9; pointwise
theorem pay10_at (r f : Fin 256) : k0_pay10 z v (ix2 r f) = ∑ k, z (ix2 r k) * v (ix3 0 k f) := by
  unfold k0_pay10; pointwise
theorem pay4_at (r f : Fin 256) : k0_pay4 x n v (ix2 r f) = ∑ k, normed (fun k => x (ix2 r k)) (fun k => n (ix2 0 k)) k * v (ix3 0 k f) := by
  unfold k0_pay4; pointwise; exact Finset.sum_congr rfl fun k _ => congrArg (· * _) (pay2_at x n r k)

variable (g u : FVec Ideal S256x256 .f32)

/-- Silu of the gate times the up projection. -/
def silu (g u : EReal) : EReal := g * Ideal.div 1 (1 + Ideal.exp (0 - g)) * u

theorem pay11_at (r f : Fin 256) : k0_pay11 z g v (ix2 r f) = silu (g (ix2 r f)) (∑ k, z (ix2 r k) * v (ix3 0 k f)) := by
  unfold k0_pay11; pointwise; rfl
theorem pay12_at (r f : Fin 256) : k0_pay12 w g u (ix2 r f) = silu (g (ix2 r f)) (u (ix2 r f)) * w (ix2 r 2) := by
  unfold k0_pay12; pointwise; rfl
theorem pay13_at (r f : Fin 256) : k0_pay13 w g u (ix2 r f) = silu (g (ix2 r f)) (u (ix2 r f)) * w (ix2 r 3) := by
  unfold k0_pay13; pointwise; rfl
theorem pay14_at (r f : Fin 256) : k0_pay14 w g u (ix2 r f) = silu (g (ix2 r f)) (u (ix2 r f)) * w (ix2 r 3) := by
  unfold k0_pay14; pointwise; rfl

variable (d d' : Vec Ideal S1x256x2048 .bf16) (h h' : FVec Ideal S256x256 .bf16)

theorem pay15_at (r : Fin 256) (j : Fin 2048) : k0_pay15 x w g d (ix2 r j) = x (ix2 r j) + ∑ f, g (ix2 r f) * w (ix2 r 2) * d (ix3 0 f j) := by
  unfold k0_pay15; pointwise
theorem pay16_at (r : Fin 256) (j : Fin 2048) : k0_pay16 h x d n (ix2 r j)
    = normed (fun k => x (ix2 r k) + ∑ f, h (ix2 r f) * d (ix3 0 f k)) (fun k => n (ix2 0 k)) j := by
  unfold k0_pay16; pointwise; rfl
theorem pay1_at (r : Fin 256) (j : Fin 2048) : k0_pay1 x n (ix2 r j) = x (ix2 r j) * n (ix2 0 j) := by
  unfold k0_pay1; pointwise
theorem pay17_at (r : Fin 256) (j : Fin 2048) : k0_pay17 x h h' d d' (ix2 r j)
    = (fun y : Fin 2048 → EReal => y j * scale y) (fun k => x (ix2 r k) + ∑ f, h (ix2 r f) * d (ix3 0 f k) + ∑ f, h' (ix2 r f) * d' (ix3 0 f k)) := by
  unfold k0_pay17; pointwise; rfl

variable (x0 : Vec Ideal S512x2176 .f32) (x1 x2 : Vec Ideal S1x2048x256 .bf16) (x3 : Vec Ideal S1x256x2048 .bf16) (x4 x5 : Vec Ideal S1x2048x256 .bf16) (x6 : Vec Ideal S1x256x2048 .bf16)
  (x7 x8 : Vec Ideal S1x2048x256 .bf16) (x9 : Vec Ideal S1x256x2048 .bf16) (x10 x11 : Vec Ideal S1x2048x256 .bf16) (x12 : Vec Ideal S1x256x2048 .bf16) (x13 x14 : Vec Ideal S1x2048 .f32)

/-- An index of the row block, by row and column. -/
theorem ld_xTop (r : Fin 256) (k : Fin 2048) : ld xTop x0 (ix2 r k) = x0 (ix2 ⟨r.val, by omega⟩ ⟨k.val, by omega⟩) :=
  congrArg x0 (funext fun a => Fin.ext (by
    match a with
    | ⟨0, _⟩ => show 0 + 1 * r.val = r.val; omega
    | ⟨1, _⟩ => show 0 + 1 * k.val = k.val; omega))
theorem ld_xBot (r : Fin 256) (k : Fin 2048) : ld xBot x0 (ix2 r k) = x0 (ix2 ⟨256 + r.val, by omega⟩ ⟨k.val, by omega⟩) :=
  congrArg x0 (funext fun a => Fin.ext (by
    match a with
    | ⟨0, _⟩ => show 256 + 1 * r.val = _; show _ = 256 + r.val; omega
    | ⟨1, _⟩ => show 0 + 1 * k.val = k.val; omega))
theorem ld_wTop (r : Fin 256) (k : Fin 128) : ld wTop x0 (ix2 r k) = x0 (ix2 ⟨r.val, by omega⟩ ⟨2048 + k.val, by omega⟩) :=
  congrArg x0 (funext fun a => Fin.ext (by
    match a with
    | ⟨0, _⟩ => show 0 + 1 * r.val = r.val; omega
    | ⟨1, _⟩ => show 2048 + 1 * k.val = _; show _ = 2048 + k.val; omega))
theorem ld_wBot (r : Fin 256) (k : Fin 128) : ld wBot x0 (ix2 r k) = x0 (ix2 ⟨256 + r.val, by omega⟩ ⟨2048 + k.val, by omega⟩) :=
  congrArg x0 (funext fun a => Fin.ext (by
    match a with
    | ⟨0, _⟩ => show 256 + 1 * r.val = _; show _ = 256 + r.val; omega
    | ⟨1, _⟩ => show 2048 + 1 * k.val = _; show _ = 2048 + k.val; omega))
theorem ld_rN : ld rN n = n := funext fun i => congrArg n (funext fun a => Fin.ext (by
    match a with
    | ⟨0, _⟩ => show 0 + 1 * (i 0).val = (i 0).val; omega
    | ⟨1, _⟩ => show 0 + 1 * (i 1).val = (i 1).val; omega))
theorem ld_rU : ld rU v = v := funext fun i => congrArg v (funext fun a => Fin.ext (by
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega))
theorem ld_rD : ld rD d = d := funext fun i => congrArg d (funext fun a => Fin.ext (by
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega))

/-- A row of the first tile. -/
theorem topV_at (r : Fin 256) (j : Fin 2048) : topV x0 x1 x2 x3 x4 x5 x6 x13 x14 (ix2 r j)
    = rowOut (fun k => ld xTop x0 (ix2 r k)) (fun k => x13 (ix2 0 k)) (fun k => x14 (ix2 0 k))
        (fun k f => x1 (ix3 0 k f)) (fun k f => x2 (ix3 0 k f)) (fun f k => x3 (ix3 0 f k)) (ld wTop x0 (ix2 r 2))
        (fun k f => x4 (ix3 0 k f)) (fun k f => x5 (ix3 0 k f)) (fun f k => x6 (ix3 0 f k)) (ld wTop x0 (ix2 r 3)) j := by
  unfold topV
  rw [ld_rN, ld_rN, ld_rU, ld_rU, ld_rU, ld_rU, ld_rD, ld_rD]
  simp only [pay16_at, pay15_at, pay13_at, pay11_at, pay4_at, pay6_at, pay9_at, pay2_at]
  rfl

/-- A row of the second tile. -/
theorem botV_at (r : Fin 256) (j : Fin 2048) : botV x0 x7 x8 x9 x10 x11 x12 x13 x14 (ix2 r j)
    = rowOut (fun k => ld xBot x0 (ix2 r k)) (fun k => x13 (ix2 0 k)) (fun k => x14 (ix2 0 k))
        (fun k f => x7 (ix3 0 k f)) (fun k f => x8 (ix3 0 k f)) (fun f k => x9 (ix3 0 f k)) (ld wBot x0 (ix2 r 2))
        (fun k f => x10 (ix3 0 k f)) (fun k f => x11 (ix3 0 k f)) (fun f k => x12 (ix3 0 f k)) (ld wBot x0 (ix2 r 3)) j := by
  unfold botV
  rw [ld_rN, ld_rN, ld_rU, ld_rU, ld_rU, ld_rU, ld_rD, ld_rD]
  simp only [pay1_at, pay17_at, pay12_at, pay14_at, pay5_at, pay7_at, pay8_at, pay10_at, pay3_at]
  rfl

end Cert.Proof.FfnVal
end
-- ==== Proof.FfnDense.lean ====
/- The feed-forward reference's value at a row whose class the tables name. -/
module

public import proofs.«01_k».proof.Proof.FfnTables
public import proofs.«01_k».proof.Proof.FfnVal

@[expose] public section

set_option maxRecDepth 65536

noncomputable section

namespace Cert.Proof.FfnDense

open Cert.Reference2Ideal Cert.Proof.FfnRef Cert.Proof.FfnTables Cert.Proof.FfnVal
open Idealize.ShloMosaic

/-- The expert a table's word names, for a tile. -/
def firstOf (e : IVec S112 32) (t : Nat) : Fin 32 := ⟨(firsts (ix1 (tcls e t))).toNat, firsts_lt _⟩
def secondOf (e : IVec S112 32) (t : Nat) : Fin 32 := ⟨(seconds (ix1 (tcls e t))).toNat, seconds_lt _⟩

theorem first_ne_second (e : IVec S112 32) (t : Nat) : firstOf e t ≠ secondOf e t := fun h =>
  firsts_ne _ (BitVec.eq_of_toNat_eq (congrArg (fun x : Fin 32 => x.val) h))

variable (a0 : FVec Ideal S1x128 .f32) (a1 : FVec Ideal S62976x2176 .f32) (a2 a3 : FVec Ideal S1x32x2048x256 .f32) (a4 : FVec Ideal S1x32x256x2048 .f32) (a5 : FVec Ideal S1x2048 .f32) (a6 : FVec Ideal S2048 .f32)

/-- A row through experts `p` and `q`. -/
def rowWith (p q : Fin 32) (r : Fin 62976) : Fin 2048 → EReal :=
  rowOut (fun k => a1 (ix2 r ⟨k.val, by omega⟩)) (fun k => a5 (ix2 0 k)) (fun k => a6 (ix1 k))
    (fun k f => a2 (ix4 0 p k f)) (fun k f => a3 (ix4 0 p k f)) (fun f k => a4 (ix4 0 p f k)) (a1 (ix2 r 2050))
    (fun k f => a2 (ix4 0 q k f)) (fun k f => a3 (ix4 0 q k f)) (fun f k => a4 (ix4 0 q f k)) (a1 (ix2 r 2051))

theorem rowsNormed_at (x : FVec Ideal S62976x2048 .f32) (n : FVec Ideal S2048 .f32) (r : Fin 62976) (j : Fin 2048) :
    rowsNormed x n (ix2 r j) = normed (fun k => x (ix2 r k)) (fun k => n (ix1 k)) j := by
  unfold rowsNormed; pointwise; rfl

theorem proj_at (z : FVec Ideal S62976x2048 .f32) (w : FVec Ideal S1x32x2048x256 .f32) (r : Fin 62976) (e : Fin 32) (f : Fin 256) :
    proj z w (ix3 r e f) = ∑ k, z (ix2 r k) * w (ix4 0 e k f) := by
  unfold proj; pointwise

theorem hiddens_at (g u : FVec Ideal S62976x32x256 .f32) (c : FVec Ideal S62976x32 .f32) (r : Fin 62976) (e : Fin 32) (f : Fin 256) :
    hiddens g u c (ix3 r e f) = silu (g (ix3 r e f)) (u (ix3 r e f)) * c (ix2 r e) := by
  unfold hiddens silu; pointwise; rw [zero_sub]

theorem mixed_at (x : FVec Ideal S62976x2048 .f32) (h : FVec Ideal S62976x32x256 .f32) (d : FVec Ideal S1x32x256x2048 .f32) (r : Fin 62976) (j : Fin 2048) :
    mixed x h d (ix2 r j) = x (ix2 r j) + ∑ e, ∑ f, h (ix3 r e f) * d (ix4 0 e f j) := by
  unfold mixed; pointwise

theorem feats_at (r : Fin 62976) (j : Fin 2048) : feats a1 (ix2 r j) = a1 (ix2 r ⟨j.val, by omega⟩) := by
  unfold feats; pointwise

theorem weights_at (p q : IVec S62976 32) (r : Fin 62976) (e : Fin 32) :
    weights p q a1 (ix2 r e) = if (p (ix1 r)).toNat = e.val then a1 (ix2 r 2050) else if (q (ix1 r)).toNat = e.val then a1 (ix2 r 2051) else 0 := by
  have h : ∀ (v : BitVec 32) (x y : EReal), Scalar.select (IntOp.cmpi .eq v (BitVec.ofNat 32 e.val)) x y = if v.toNat = e.val then x else y := by
    intro v x y
    by_cases hv : v.toNat = e.val
    · have : v = BitVec.ofNat 32 e.val := BitVec.eq_of_toNat_eq (by rw [hv, BitVec.toNat_ofNat]; omega)
      rw [if_pos hv, this]
      simp [Scalar.select, IntOp.cmpi]
    · have : v ≠ BitVec.ofNat 32 e.val := fun h => hv (by rw [h, BitVec.toNat_ofNat]; omega)
      rw [if_neg hv]
      simp [Scalar.select, IntOp.cmpi, beq_eq_false_iff_ne.mpr this]
  rw [← h, ← h]
  unfold weights isExpert; pointwise

/-- The sum over all experts is the sum over the two the row goes to. -/
theorem two_experts (p q : Fin 32) (hpq : p ≠ q) (wa wb : EReal) (s : Fin 32 → Fin 256 → EReal) (d : Fin 32 → Fin 256 → EReal) :
    (∑ e, ∑ f, s e f * (if p.val = e.val then wa else if q.val = e.val then wb else 0) * d e f)
      = (∑ f, s p f * wa * d p f) + ∑ f, s q f * wb * d q f := by
  rw [Fintype.sum_eq_add p q hpq]
  · rw [if_pos rfl, if_neg (fun h => hpq (Fin.ext h)), if_pos rfl]
  · rintro e ⟨h1, h2⟩
    rw [if_neg (fun h => h1 (Fin.ext h.symm)), if_neg (fun h => h2 (Fin.ext h.symm))]
    simp

set_option maxHeartbeats 2000000 in
/-- The reference at a row of a used tile. -/
theorem dense_at (r : Fin 62976) (j : Fin 2048) (h : (r.val : Int) < (ends a0 (ix1 111)).toInt) :
    dense a0 a1 a2 a3 a4 a5 a6 (ix2 r j) = rowWith a1 a2 a3 a4 a5 a6 (firstOf (ends a0) (r.val / 256)) (secondOf (ends a0) (r.val / 256)) r j := by
  have hc : classes (ends a0) (ix1 r) = BitVec.ofNat 32 (tcls (ends a0) (r.val / 256)).val := by
    rw [classes_at]
    refine congrArg _ ?_
    show _ = min (cls (ends a0) (256 * (r.val / 256))) 111
    rw [cls_tile _ (ends_mod a0)]
    have := cls_lt _ _ h
    omega
  have hp := picked_at firsts _ r _ hc
  have hq := picked_at seconds _ r _ hc
  have hn : ∀ k, rowsNormed (feats a1) (shapeCast S2048 a5 Facts₀.shapeCasts_S1x2048_S2048) (ix2 r k)
      = normed (fun k => a1 (ix2 r ⟨k.val, by omega⟩)) (fun k => a5 (ix2 0 k)) k := by
    intro k
    rw [rowsNormed_at]
    simp only [feats_at]
    refine congrArg (fun w => normed _ w k) (funext fun k => ?_)
    pointwise
  unfold dense
  rw [rowsNormed_at]
  unfold rowWith rowOut
  refine congrArg (fun x => normed x _ j) (funext fun j => ?_)
  rw [mixed_at, feats_at]
  simp only [hiddens_at, proj_at, hn, weights_at, hp, hq]
  rw [add_assoc]
  refine congrArg (_ + ·) ?_
  generalize hP : firstOf (ends a0) (r.val / 256) = p
  generalize hQ : secondOf (ends a0) (r.val / 256) = q
  have hpq : p ≠ q := hP ▸ hQ ▸ first_ne_second _ _
  have eP : (firsts (ix1 (tcls (ends a0) (r.val / 256)))).toNat = p.val := congrArg (fun x : Fin 32 => x.val) hP
  have eQ : (seconds (ix1 (tcls (ends a0) (r.val / 256)))).toNat = q.val := congrArg (fun x : Fin 32 => x.val) hQ
  rw [eP, eQ]
  refine (two_experts p q hpq (a1 (ix2 r 2050)) (a1 (ix2 r 2051)) (fun e f => silu (∑ k, normed (fun k => a1 (ix2 r ⟨k.val, by omega⟩)) (fun k => a5 (ix2 0 k)) k * a2 (ix4 0 e k f))
    (∑ k, normed (fun k => a1 (ix2 r ⟨k.val, by omega⟩)) (fun k => a5 (ix2 0 k)) k * a3 (ix4 0 e k f))) (fun e f => a4 (ix4 0 e f j))).trans ?_
  rfl

end Cert.Proof.FfnDense
end
-- ==== Proof.FfnBlocks.lean ====
/- The blocks a grid point of the feed-forward call works on, read from the arguments. -/
module

public import proofs.«01_k».proof.Proof.FfnFrame
public import proofs.«01_k».proof.Proof.FfnDense

@[expose] public section

set_option maxRecDepth 65536

noncomputable section

namespace Cert.Proof.FfnBlocks

open Cert.Kernel2Ideal Cert.Kernel2Ideal.Gen Cert.Proof.FfnRun Cert.Proof.FfnTables Cert.Proof.FfnFrame Cert.Proof.FfnDense Cert.Proof.FfnRef
open Idealize.ShloMosaic Idealize.ShloMosaic.TcCoe Idealize.ShloMosaic.Tactic

variable (m : (ℓ : Loc nD τ sig) → Buf (Elt Ideal) ℓ) (c : Dev nD)

/-! ## What the call's arrays hold -/

theorem up_at (w : FVec Ideal S1x32x2048x256 .f32) (e : Fin 32) (k : Fin 2048) (f : Fin 256) :
    truncf (F := Ideal) .bf16 (shapeCast S32x2048x256 w shapeCasts_S1x32x2048x256_S32x2048x256) bitsLt_bf16_f32 (ix3 e k f) = w (ix4 0 e k f) := by
  pointwise

theorem down_at (w : FVec Ideal S1x32x256x2048 .f32) (e : Fin 32) (f : Fin 256) (k : Fin 2048) :
    truncf (F := Ideal) .bf16 (shapeCast S32x256x2048 w shapeCasts_S1x32x256x2048_S32x256x2048) bitsLt_bf16_f32 (ix3 e f k) = w (ix4 0 e f k) := by
  pointwise

theorem V_rows : V m c main_arg1 = m ((c : Thread nD τ).loc main_arg1) := by unfold V; after_reads_simp

theorem V_gate (e : Fin 32) (k : Fin 2048) (f : Fin 256) : (V m c main_v1 : S32x2048x256.Idx → EReal) (ix3 e k f) = (m ((c : Thread nD τ).loc main_arg2) : S1x32x2048x256.Idx → EReal) (ix4 0 e k f) := by
  have : V m c main_v1 = truncf (F := Ideal) .bf16 (shapeCast S32x2048x256 (m ((c : Thread nD τ).loc main_arg2) : FVec Ideal S1x32x2048x256 .f32) shapeCasts_S1x32x2048x256_S32x2048x256) bitsLt_bf16_f32 := by
    unfold V; after_reads_simp; rfl
  rw [this]
  exact up_at _ e k f

theorem V_up (e : Fin 32) (k : Fin 2048) (f : Fin 256) : (V m c main_v3 : S32x2048x256.Idx → EReal) (ix3 e k f) = (m ((c : Thread nD τ).loc main_arg3) : S1x32x2048x256.Idx → EReal) (ix4 0 e k f) := by
  have : V m c main_v3 = truncf (F := Ideal) .bf16 (shapeCast S32x2048x256 (m ((c : Thread nD τ).loc main_arg3) : FVec Ideal S1x32x2048x256 .f32) shapeCasts_S1x32x2048x256_S32x2048x256) bitsLt_bf16_f32 := by
    unfold V; after_reads_simp; rfl
  rw [this]
  exact up_at _ e k f

theorem V_down (e : Fin 32) (f : Fin 256) (k : Fin 2048) : (V m c main_v5 : S32x256x2048.Idx → EReal) (ix3 e f k) = (m ((c : Thread nD τ).loc main_arg4) : S1x32x256x2048.Idx → EReal) (ix4 0 e f k) := by
  have : V m c main_v5 = truncf (F := Ideal) .bf16 (shapeCast S32x256x2048 (m ((c : Thread nD τ).loc main_arg4) : FVec Ideal S1x32x256x2048 .f32) shapeCasts_S1x32x256x2048_S32x256x2048) bitsLt_bf16_f32 := by
    unfold V; after_reads_simp; rfl
  rw [this]
  exact down_at _ e f k

theorem V_norm1 (k : Fin 2048) : (V m c main_v7 : S1x2048.Idx → EReal) (ix2 0 k) = (m ((c : Thread nD τ).loc main_arg5) : S1x2048.Idx → EReal) (ix2 0 k) := by
  have : V m c main_v7 = shapeCast S1x2048 (shapeCast S2048 (m ((c : Thread nD τ).loc main_arg5) : FVec Ideal S1x2048 .f32) shapeCasts_S1x2048_S2048) shapeCasts_S2048_S1x2048 := by
    unfold V; after_reads_simp; rfl
  rw [this]
  pointwise

theorem V_norm2 (k : Fin 2048) : (V m c main_v8 : S1x2048.Idx → EReal) (ix2 0 k) = (m ((c : Thread nD τ).loc main_arg6) : S2048.Idx → EReal) (ix1 k) := by
  have : V m c main_v8 = shapeCast S1x2048 (m ((c : Thread nD τ).loc main_arg6) : FVec Ideal S2048 .f32) shapeCasts_S2048_S1x2048 := by
    unfold V; after_reads_simp; rfl
  rw [this]
  pointwise

/-! ## Where each block lies -/

variable (hok : ok0 (tabs m)) (hnv : 1 ≤ (nvw m).toNat ∧ (nvw m).toNat < 2 ^ 31)

theorem word0 (t : Fin (cfg0 (adm m hok 0)).N) (h : 2 * t.val < 246) :
    (Rect.unit (s := S246) (k0_off1 (grid0.coords t) 0#32) S1.size (k0_off1_inb (grid0.coords t) 0)).point numel1_S1 = ix1 ⟨2 * t.val, h⟩ := by
  have ht : t.val < 123 := lt_of_lt_of_eq t.isLt N_0
  funext a
  match a with
  | ⟨0, _⟩ =>
    refine Fin.ext ?_
    show (Scalar.addi (Scalar.muli 2#32 (BitVec.ofNat 32 ((grid0.coords t) 0).val)) 0#32).toNat + 1 * 0 = 2 * t.val
    rw [coord0 m hok t]
    show ((2#32 * BitVec.ofNat 32 t.val) + 0#32).toNat + 1 * 0 = _
    rw [BitVec.toNat_add, BitVec.toNat_mul]
    simp only [BitVec.toNat_ofNat]
    omega

theorem word1 (t : Fin (cfg0 (adm m hok 0)).N) (h : 2 * t.val + 1 < 246) :
    (Rect.unit (s := S246) (k0_off1 (grid0.coords t) 1#32) S1.size (k0_off1_inb (grid0.coords t) 1)).point numel1_S1 = ix1 ⟨2 * t.val + 1, h⟩ := by
  have ht : t.val < 123 := lt_of_lt_of_eq t.isLt N_0
  funext a
  match a with
  | ⟨0, _⟩ =>
    refine Fin.ext ?_
    show (Scalar.addi (Scalar.muli 2#32 (BitVec.ofNat 32 ((grid0.coords t) 0).val)) 1#32).toNat + 1 * 0 = 2 * t.val + 1
    rw [coord0 m hok t]
    show ((2#32 * BitVec.ofNat 32 t.val) + 1#32).toNat + 1 * 0 = _
    rw [BitVec.toNat_add, BitVec.toNat_mul]
    simp only [BitVec.toNat_ofNat]
    omega

/-- The experts of a tile, as the tables name them. -/
def tileA (s : Fin 246) : Fin 32 := ⟨((V m 0 main_v45 : S246.Idx → BitVec 32) (ix1 s)).toNat, tabA_lt _⟩
def tileB (s : Fin 246) : Fin 32 := ⟨((V m 0 main_v47 : S246.Idx → BitVec 32) (ix1 s)).toNat, tabB_lt _⟩

theorem two_lt (t : Fin (cfg0 (adm m hok 0)).N) : 2 * t.val + 1 < 246 := by
  have ht : t.val < 123 := lt_of_lt_of_eq t.isLt N_0
  omega

/-- The two tiles of a point. -/
def top (t : Fin (cfg0 (adm m hok 0)).N) : Fin 246 := ⟨2 * t.val, Nat.lt_of_succ_lt (two_lt m hok t)⟩
def bot (t : Fin (cfg0 (adm m hok 0)).N) : Fin 246 := ⟨2 * t.val + 1, two_lt m hok t⟩

theorem index1 (t : Fin (cfg0 (adm m hok 0)).N) : ((cfg0 (adm m hok 0)).win 1).index t = ![(tileA m (top m hok t)).val, 0, 0] :=
  congrArg (fun j => ![((V m 0 main_v45 : S246.Idx → BitVec 32) j).toNat, 0, 0]) (word0 m hok t _)
theorem index2 (t : Fin (cfg0 (adm m hok 0)).N) : ((cfg0 (adm m hok 0)).win 2).index t = ![(tileA m (top m hok t)).val, 0, 0] :=
  congrArg (fun j => ![((V m 0 main_v45 : S246.Idx → BitVec 32) j).toNat, 0, 0]) (word0 m hok t _)
theorem index3 (t : Fin (cfg0 (adm m hok 0)).N) : ((cfg0 (adm m hok 0)).win 3).index t = ![(tileA m (top m hok t)).val, 0, 0] :=
  congrArg (fun j => ![((V m 0 main_v45 : S246.Idx → BitVec 32) j).toNat, 0, 0]) (word0 m hok t _)
theorem index4 (t : Fin (cfg0 (adm m hok 0)).N) : ((cfg0 (adm m hok 0)).win 4).index t = ![(tileB m (top m hok t)).val, 0, 0] :=
  congrArg (fun j => ![((V m 0 main_v47 : S246.Idx → BitVec 32) j).toNat, 0, 0]) (word0 m hok t _)
theorem index5 (t : Fin (cfg0 (adm m hok 0)).N) : ((cfg0 (adm m hok 0)).win 5).index t = ![(tileB m (top m hok t)).val, 0, 0] :=
  congrArg (fun j => ![((V m 0 main_v47 : S246.Idx → BitVec 32) j).toNat, 0, 0]) (word0 m hok t _)
theorem index6 (t : Fin (cfg0 (adm m hok 0)).N) : ((cfg0 (adm m hok 0)).win 6).index t = ![(tileB m (top m hok t)).val, 0, 0] :=
  congrArg (fun j => ![((V m 0 main_v47 : S246.Idx → BitVec 32) j).toNat, 0, 0]) (word0 m hok t _)
theorem index7 (t : Fin (cfg0 (adm m hok 0)).N) : ((cfg0 (adm m hok 0)).win 7).index t = ![(tileA m (bot m hok t)).val, 0, 0] :=
  congrArg (fun j => ![((V m 0 main_v45 : S246.Idx → BitVec 32) j).toNat, 0, 0]) (word1 m hok t _)
theorem index8 (t : Fin (cfg0 (adm m hok 0)).N) : ((cfg0 (adm m hok 0)).win 8).index t = ![(tileA m (bot m hok t)).val, 0, 0] :=
  congrArg (fun j => ![((V m 0 main_v45 : S246.Idx → BitVec 32) j).toNat, 0, 0]) (word1 m hok t _)
theorem index9 (t : Fin (cfg0 (adm m hok 0)).N) : ((cfg0 (adm m hok 0)).win 9).index t = ![(tileA m (bot m hok t)).val, 0, 0] :=
  congrArg (fun j => ![((V m 0 main_v45 : S246.Idx → BitVec 32) j).toNat, 0, 0]) (word1 m hok t _)
theorem index10 (t : Fin (cfg0 (adm m hok 0)).N) : ((cfg0 (adm m hok 0)).win 10).index t = ![(tileB m (bot m hok t)).val, 0, 0] :=
  congrArg (fun j => ![((V m 0 main_v47 : S246.Idx → BitVec 32) j).toNat, 0, 0]) (word1 m hok t _)
theorem index11 (t : Fin (cfg0 (adm m hok 0)).N) : ((cfg0 (adm m hok 0)).win 11).index t = ![(tileB m (bot m hok t)).val, 0, 0] :=
  congrArg (fun j => ![((V m 0 main_v47 : S246.Idx → BitVec 32) j).toNat, 0, 0]) (word1 m hok t _)
theorem index12 (t : Fin (cfg0 (adm m hok 0)).N) : ((cfg0 (adm m hok 0)).win 12).index t = ![(tileB m (bot m hok t)).val, 0, 0] :=
  congrArg (fun j => ![((V m 0 main_v47 : S246.Idx → BitVec 32) j).toNat, 0, 0]) (word1 m hok t _)

/-- An index from its coordinates, each a block's index times its size plus a coordinate inside. -/
theorem ix3_of {n0 n1 n2 : ℕ} (x : (⟨3, ![n0, n1, n2]⟩ : Shape).Idx) (e : Fin n0) (k : Fin n1) (f : Fin n2) (i : Fin 3 → ℕ) (s1 s2 : ℕ) (hi : i = ![e.val, 0, 0])
    (h0 : (x 0).val = i 0 * 1 + 1 * 0) (h1 : (x 1).val = i 1 * s1 + 1 * k.val) (h2 : (x 2).val = i 2 * s2 + 1 * f.val) : x = ix3 e k f := by
  subst hi
  funext a
  match a with
  | ⟨0, _⟩ => exact Fin.ext (h0.trans (by show e.val * 1 + 1 * 0 = e.val; omega))
  | ⟨1, _⟩ => exact Fin.ext (h1.trans (by show 0 * s1 + 1 * k.val = k.val; omega))
  | ⟨2, _⟩ => exact Fin.ext (h2.trans (by show 0 * s2 + 1 * f.val = f.val; omega))

theorem ix2_of {n0 n1 : ℕ} (x : (⟨2, ![n0, n1]⟩ : Shape).Idx) (e : Fin n0) (k : Fin n1) (i : Fin 2 → ℕ) (n r s0 s1 : ℕ) (hi : i = ![n, 0]) (he : e.val = n * s0 + r)
    (h0 : (x 0).val = i 0 * s0 + 1 * r) (h1 : (x 1).val = i 1 * s1 + 1 * k.val) : x = ix2 e k := by
  subst hi
  funext a
  match a with
  | ⟨0, _⟩ => exact Fin.ext (h0.trans (by show n * s0 + 1 * r = e.val; omega))
  | ⟨1, _⟩ => exact Fin.ext (h1.trans (by show 0 * s1 + 1 * k.val = k.val; omega))

theorem blk1 (t : Fin (cfg0 (adm m hok 0)).N) (k : Fin 2048) (f : Fin 256) : iblk m hok c 1 t (ix3 0 k f) = (V m c main_v1 : S32x2048x256.Idx → EReal) (ix3 (tileA m (top m hok t)) k f) :=
  congrArg (V m c main_v1 : S32x2048x256.Idx → EReal) (ix3_of _ _ _ _ _ 2048 256 (index1 m hok t) rfl rfl rfl)
theorem blk2 (t : Fin (cfg0 (adm m hok 0)).N) (k : Fin 2048) (f : Fin 256) : iblk m hok c 2 t (ix3 0 k f) = (V m c main_v3 : S32x2048x256.Idx → EReal) (ix3 (tileA m (top m hok t)) k f) :=
  congrArg (V m c main_v3 : S32x2048x256.Idx → EReal) (ix3_of _ _ _ _ _ 2048 256 (index2 m hok t) rfl rfl rfl)
theorem blk3 (t : Fin (cfg0 (adm m hok 0)).N) (f : Fin 256) (k : Fin 2048) : iblk m hok c 3 t (ix3 0 f k) = (V m c main_v5 : S32x256x2048.Idx → EReal) (ix3 (tileA m (top m hok t)) f k) :=
  congrArg (V m c main_v5 : S32x256x2048.Idx → EReal) (ix3_of _ _ _ _ _ 256 2048 (index3 m hok t) rfl rfl rfl)
theorem blk4 (t : Fin (cfg0 (adm m hok 0)).N) (k : Fin 2048) (f : Fin 256) : iblk m hok c 4 t (ix3 0 k f) = (V m c main_v1 : S32x2048x256.Idx → EReal) (ix3 (tileB m (top m hok t)) k f) :=
  congrArg (V m c main_v1 : S32x2048x256.Idx → EReal) (ix3_of _ _ _ _ _ 2048 256 (index4 m hok t) rfl rfl rfl)
theorem blk5 (t : Fin (cfg0 (adm m hok 0)).N) (k : Fin 2048) (f : Fin 256) : iblk m hok c 5 t (ix3 0 k f) = (V m c main_v3 : S32x2048x256.Idx → EReal) (ix3 (tileB m (top m hok t)) k f) :=
  congrArg (V m c main_v3 : S32x2048x256.Idx → EReal) (ix3_of _ _ _ _ _ 2048 256 (index5 m hok t) rfl rfl rfl)
theorem blk6 (t : Fin (cfg0 (adm m hok 0)).N) (f : Fin 256) (k : Fin 2048) : iblk m hok c 6 t (ix3 0 f k) = (V m c main_v5 : S32x256x2048.Idx → EReal) (ix3 (tileB m (top m hok t)) f k) :=
  congrArg (V m c main_v5 : S32x256x2048.Idx → EReal) (ix3_of _ _ _ _ _ 256 2048 (index6 m hok t) rfl rfl rfl)
theorem blk7 (t : Fin (cfg0 (adm m hok 0)).N) (k : Fin 2048) (f : Fin 256) : iblk m hok c 7 t (ix3 0 k f) = (V m c main_v1 : S32x2048x256.Idx → EReal) (ix3 (tileA m (bot m hok t)) k f) :=
  congrArg (V m c main_v1 : S32x2048x256.Idx → EReal) (ix3_of _ _ _ _ _ 2048 256 (index7 m hok t) rfl rfl rfl)
theorem blk8 (t : Fin (cfg0 (adm m hok 0)).N) (k : Fin 2048) (f : Fin 256) : iblk m hok c 8 t (ix3 0 k f) = (V m c main_v3 : S32x2048x256.Idx → EReal) (ix3 (tileA m (bot m hok t)) k f) :=
  congrArg (V m c main_v3 : S32x2048x256.Idx → EReal) (ix3_of _ _ _ _ _ 2048 256 (index8 m hok t) rfl rfl rfl)
theorem blk9 (t : Fin (cfg0 (adm m hok 0)).N) (f : Fin 256) (k : Fin 2048) : iblk m hok c 9 t (ix3 0 f k) = (V m c main_v5 : S32x256x2048.Idx → EReal) (ix3 (tileA m (bot m hok t)) f k) :=
  congrArg (V m c main_v5 : S32x256x2048.Idx → EReal) (ix3_of _ _ _ _ _ 256 2048 (index9 m hok t) rfl rfl rfl)
theorem blk10 (t : Fin (cfg0 (adm m hok 0)).N) (k : Fin 2048) (f : Fin 256) : iblk m hok c 10 t (ix3 0 k f) = (V m c main_v1 : S32x2048x256.Idx → EReal) (ix3 (tileB m (bot m hok t)) k f) :=
  congrArg (V m c main_v1 : S32x2048x256.Idx → EReal) (ix3_of _ _ _ _ _ 2048 256 (index10 m hok t) rfl rfl rfl)
theorem blk11 (t : Fin (cfg0 (adm m hok 0)).N) (k : Fin 2048) (f : Fin 256) : iblk m hok c 11 t (ix3 0 k f) = (V m c main_v3 : S32x2048x256.Idx → EReal) (ix3 (tileB m (bot m hok t)) k f) :=
  congrArg (V m c main_v3 : S32x2048x256.Idx → EReal) (ix3_of _ _ _ _ _ 2048 256 (index11 m hok t) rfl rfl rfl)
theorem blk12 (t : Fin (cfg0 (adm m hok 0)).N) (f : Fin 256) (k : Fin 2048) : iblk m hok c 12 t (ix3 0 f k) = (V m c main_v5 : S32x256x2048.Idx → EReal) (ix3 (tileB m (bot m hok t)) f k) :=
  congrArg (V m c main_v5 : S32x256x2048.Idx → EReal) (ix3_of _ _ _ _ _ 256 2048 (index12 m hok t) rfl rfl rfl)

theorem blk13 (t : Fin (cfg0 (adm m hok 0)).N) (k : Fin 2048) : iblk m hok c 13 t (ix2 0 k) = (V m c main_v7 : S1x2048.Idx → EReal) (ix2 0 k) :=
  congrArg (V m c main_v7 : S1x2048.Idx → EReal) (ix2_of _ _ _ ![0, 0] 0 0 1 2048 rfl rfl rfl rfl)
theorem blk14 (t : Fin (cfg0 (adm m hok 0)).N) (k : Fin 2048) : iblk m hok c 14 t (ix2 0 k) = (V m c main_v8 : S1x2048.Idx → EReal) (ix2 0 k) :=
  congrArg (V m c main_v8 : S1x2048.Idx → EReal) (ix2_of _ _ _ ![0, 0] 0 0 1 2048 rfl rfl rfl rfl)

include hnv in
theorem index0 (t : Fin (cfg0 (adm m hok 0)).N) : ((cfg0 (adm m hok 0)).win 0).index t = ![min t.val ((nvw m).toNat - 1), 0] := index15 m hok hnv t

include hnv in
theorem blk0 (t : Fin (cfg0 (adm m hok 0)).N) (ht : t.val < (nvw m).toNat) (r : Fin 512) (k : Fin 2176) (R : Fin 62976) (hR : R.val = t.val * 512 + r.val) :
    iblk m hok c 0 t (ix2 r k) = (V m c main_arg1 : S62976x2176.Idx → EReal) (ix2 R k) :=
  congrArg (V m c main_arg1 : S62976x2176.Idx → EReal) (ix2_of _ _ _ _ _ r.val 512 2176 (index0 m hok hnv t) (by rw [hR, Nat.min_eq_left (by omega)]) rfl rfl)

end Cert.Proof.FfnBlocks
end
-- ==== Proof.FfnFinal.lean ====
/- What the feed-forward kernel leaves at a row of a used tile. -/
module

public import proofs.«01_k».proof.Proof.FfnBlocks

@[expose] public section

set_option maxRecDepth 65536

noncomputable section

namespace Cert.Proof.FfnFinal

open Cert.Kernel2Ideal Cert.Kernel2Ideal.Gen Cert.Proof.FfnBody Cert.Proof.FfnRun Cert.Proof.FfnTables Cert.Proof.FfnFrame Cert.Proof.FfnDense Cert.Proof.FfnRef Cert.Proof.FfnBlocks Cert.Proof.FfnVal
open Idealize.ShloMosaic Idealize.ShloMosaic.TcCoe Idealize.ShloMosaic.Tactic

/-! ## The two tiles of the block -/

section
variable (x0 : Vec Ideal S512x2176 .f32) (x1 x2 : Vec Ideal S1x2048x256 .bf16) (x3 : Vec Ideal S1x256x2048 .bf16) (x4 x5 : Vec Ideal S1x2048x256 .bf16) (x6 : Vec Ideal S1x256x2048 .bf16)
  (x7 x8 : Vec Ideal S1x2048x256 .bf16) (x9 : Vec Ideal S1x256x2048 .bf16) (x10 x11 : Vec Ideal S1x2048x256 .bf16) (x12 : Vec Ideal S1x256x2048 .bf16) (x13 x14 : Vec Ideal S1x2048 .f32)

theorem top_emb (r : Fin 256) (j : Fin 2048) : (ix2 (⟨r.val, by omega⟩ : Fin 512) j : S512x2048.Idx) = rTop.emb (ix2 r j) := funext fun a => Fin.ext (by
  match a with
  | ⟨0, _⟩ => show r.val = 0 + 1 * r.val; omega
  | ⟨1, _⟩ => show j.val = 0 + 1 * j.val; omega)

theorem bot_emb (r : Fin 256) (j : Fin 2048) : (ix2 (⟨256 + r.val, by omega⟩ : Fin 512) j : S512x2048.Idx) = rBot.emb (ix2 r j) := funext fun a => Fin.ext (by
  match a with
  | ⟨0, _⟩ => show 256 + r.val = 256 + 1 * r.val; omega
  | ⟨1, _⟩ => show j.val = 0 + 1 * j.val; omega)

theorem top_not_bot (r : Fin 256) (j : Fin 2048) : (ix2 (⟨r.val, by omega⟩ : Fin 512) j : S512x2048.Idx) ∉ rBot.set := by
  intro h
  rw [Rect.mem_set_unit] at h
  have h0 : 256 ≤ r.val := (h ⟨0, Nat.zero_lt_two⟩).1
  exact absurd r.isLt (not_lt_of_ge h0)

variable (a1 : FVec Ideal S62976x2176 .f32) (a2 a3 : FVec Ideal S1x32x2048x256 .f32) (a4 : FVec Ideal S1x32x256x2048 .f32) (a5 : FVec Ideal S1x2048 .f32) (a6 : FVec Ideal S2048 .f32)

/-- A row's value from the values it is computed from. -/
theorem rowOut_congr {x x' n1 n1' n2 n2' : Fin 2048 → EReal} {ga ga' ua ua' : Fin 2048 → Fin 256 → EReal} {da da' : Fin 256 → Fin 2048 → EReal} {ca ca' : EReal}
    {gb gb' ub ub' : Fin 2048 → Fin 256 → EReal} {db db' : Fin 256 → Fin 2048 → EReal} {cb cb' : EReal}
    (hx : ∀ k, x k = x' k) (hn1 : ∀ k, n1 k = n1' k) (hn2 : ∀ k, n2 k = n2' k) (hga : ∀ k f, ga k f = ga' k f) (hua : ∀ k f, ua k f = ua' k f) (hda : ∀ f k, da f k = da' f k) (hca : ca = ca')
    (hgb : ∀ k f, gb k f = gb' k f) (hub : ∀ k f, ub k f = ub' k f) (hdb : ∀ f k, db f k = db' f k) (hcb : cb = cb') (j : Fin 2048) :
    rowOut x n1 n2 ga ua da ca gb ub db cb j = rowOut x' n1' n2' ga' ua' da' ca' gb' ub' db' cb' j := by
  obtain rfl := funext hx
  obtain rfl := funext hn1
  obtain rfl := funext hn2
  obtain rfl := funext₂ hga
  obtain rfl := funext₂ hua
  obtain rfl := funext₂ hda
  obtain rfl := funext₂ hgb
  obtain rfl := funext₂ hub
  obtain rfl := funext₂ hdb
  rw [hca, hcb]

theorem out_top (p q : Fin 32) (R : Fin 62976) (r : Fin 256) (j : Fin 2048)
    (h0 : ∀ k : Fin 2176, x0 (ix2 (⟨r.val, by omega⟩ : Fin 512) k) = a1 (ix2 R k))
    (h1 : ∀ k f, x1 (ix3 0 k f) = a2 (ix4 0 p k f)) (h2 : ∀ k f, x2 (ix3 0 k f) = a3 (ix4 0 p k f)) (h3 : ∀ f k, x3 (ix3 0 f k) = a4 (ix4 0 p f k))
    (h4 : ∀ k f, x4 (ix3 0 k f) = a2 (ix4 0 q k f)) (h5 : ∀ k f, x5 (ix3 0 k f) = a3 (ix4 0 q k f)) (h6 : ∀ f k, x6 (ix3 0 f k) = a4 (ix4 0 q f k))
    (hn1 : ∀ k, x13 (ix2 0 k) = a5 (ix2 0 k)) (hn2 : ∀ k, x14 (ix2 0 k) = a6 (ix1 k)) :
    outV x0 x1 x2 x3 x4 x5 x6 x7 x8 x9 x10 x11 x12 x13 x14 (ix2 ⟨r.val, by omega⟩ j) = rowWith a1 a2 a3 a4 a5 a6 p q R j := by
  have e : outV x0 x1 x2 x3 x4 x5 x6 x7 x8 x9 x10 x11 x12 x13 x14 (ix2 ⟨r.val, by omega⟩ j) = topV x0 x1 x2 x3 x4 x5 x6 x13 x14 (ix2 r j) := by
    unfold outV
    refine (View.canon_cons_of_not_mem (⟨rBot, botV x0 x7 x8 x9 x10 x11 x12 x13 x14⟩ : View.Piece (Elt Ideal) S512x2048 .f32) _ (top_not_bot r j)).trans ?_
    rw [top_emb]
    exact View.canon_cons_emb rTop _ [] _
  rw [e, topV_at]
  exact rowOut_congr (fun k => (ld_xTop x0 r k).trans (h0 _)) hn1 hn2 h1 h2 h3 ((ld_wTop x0 r 2).trans (h0 _)) h4 h5 h6 ((ld_wTop x0 r 3).trans (h0 _)) j

theorem out_bot (p q : Fin 32) (R : Fin 62976) (r : Fin 256) (j : Fin 2048)
    (h0 : ∀ k : Fin 2176, x0 (ix2 (⟨256 + r.val, by omega⟩ : Fin 512) k) = a1 (ix2 R k))
    (h7 : ∀ k f, x7 (ix3 0 k f) = a2 (ix4 0 p k f)) (h8 : ∀ k f, x8 (ix3 0 k f) = a3 (ix4 0 p k f)) (h9 : ∀ f k, x9 (ix3 0 f k) = a4 (ix4 0 p f k))
    (h10 : ∀ k f, x10 (ix3 0 k f) = a2 (ix4 0 q k f)) (h11 : ∀ k f, x11 (ix3 0 k f) = a3 (ix4 0 q k f)) (h12 : ∀ f k, x12 (ix3 0 f k) = a4 (ix4 0 q f k))
    (hn1 : ∀ k, x13 (ix2 0 k) = a5 (ix2 0 k)) (hn2 : ∀ k, x14 (ix2 0 k) = a6 (ix1 k)) :
    outV x0 x1 x2 x3 x4 x5 x6 x7 x8 x9 x10 x11 x12 x13 x14 (ix2 ⟨256 + r.val, by omega⟩ j) = rowWith a1 a2 a3 a4 a5 a6 p q R j := by
  have e : outV x0 x1 x2 x3 x4 x5 x6 x7 x8 x9 x10 x11 x12 x13 x14 (ix2 ⟨256 + r.val, by omega⟩ j) = botV x0 x7 x8 x9 x10 x11 x12 x13 x14 (ix2 r j) := by
    unfold outV
    rw [bot_emb]
    exact View.canon_cons_emb rBot _ _ _
  rw [e, botV_at]
  exact rowOut_congr (fun k => (ld_xBot x0 r k).trans (h0 _)) hn1 hn2 h7 h8 h9 ((ld_wBot x0 r 2).trans (h0 _)) h10 h11 h12 ((ld_wBot x0 r 3).trans (h0 _)) j

end

/-! ## A point's rows -/

variable (m : (ℓ : Loc nD τ sig) → Buf (Elt Ideal) ℓ) (c : Dev nD)
variable (hok : ok0 (tabs m)) (hnv : 1 ≤ (nvw m).toNat ∧ (nvw m).toNat < 2 ^ 31)

/-- A row through two experts, from the arguments in memory. -/
abbrev rowM (p q : Fin 32) (R : Fin 62976) : Fin 2048 → EReal :=
  rowWith (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p q R

include hnv in
theorem outAt_top (t : Fin (cfg0 (adm m hok 0)).N) (ht : t.val < (nvw m).toNat) (r : Fin 256) (j : Fin 2048) (R : Fin 62976) (hR : R.val = t.val * 512 + r.val) :
    outAt m hok c t (ix2 ⟨r.val, by omega⟩ j) = rowM m c (tileA m (top m hok t)) (tileB m (top m hok t)) R j :=
  out_top _ _ _ _ _ _ _ _ _ _ _ _ _ _ _ _ _ _ _ _ _ _ _ R r j
    (fun k => (blk0 m c hok hnv t ht ⟨r.val, by omega⟩ k R hR).trans (congrFun (V_rows m c) _))
    (fun k f => (blk1 m c hok t k f).trans (V_gate m c _ k f)) (fun k f => (blk2 m c hok t k f).trans (V_up m c _ k f)) (fun f k => (blk3 m c hok t f k).trans (V_down m c _ f k))
    (fun k f => (blk4 m c hok t k f).trans (V_gate m c _ k f)) (fun k f => (blk5 m c hok t k f).trans (V_up m c _ k f)) (fun f k => (blk6 m c hok t f k).trans (V_down m c _ f k))
    (fun k => (blk13 m c hok t k).trans (V_norm1 m c k)) (fun k => (blk14 m c hok t k).trans (V_norm2 m c k))

include hnv in
theorem outAt_bot (t : Fin (cfg0 (adm m hok 0)).N) (ht : t.val < (nvw m).toNat) (r : Fin 256) (j : Fin 2048) (R : Fin 62976) (hR : R.val = t.val * 512 + (256 + r.val)) :
    outAt m hok c t (ix2 ⟨256 + r.val, by omega⟩ j) = rowM m c (tileA m (bot m hok t)) (tileB m (bot m hok t)) R j :=
  out_bot _ _ _ _ _ _ _ _ _ _ _ _ _ _ _ _ _ _ _ _ _ _ _ R r j
    (fun k => (blk0 m c hok hnv t ht ⟨256 + r.val, by omega⟩ k R hR).trans (congrFun (V_rows m c) _))
    (fun k f => (blk7 m c hok t k f).trans (V_gate m c _ k f)) (fun k f => (blk8 m c hok t k f).trans (V_up m c _ k f)) (fun f k => (blk9 m c hok t f k).trans (V_down m c _ f k))
    (fun k f => (blk10 m c hok t k f).trans (V_gate m c _ k f)) (fun k f => (blk11 m c hok t k f).trans (V_up m c _ k f)) (fun f k => (blk12 m c hok t f k).trans (V_down m c _ f k))
    (fun k => (blk13 m c hok t k).trans (V_norm1 m c k)) (fun k => (blk14 m c hok t k).trans (V_norm2 m c k))

/-! ## The tables -/

theorem tileA_eq (s : Fin 246) : tileA m s = firstOf (endsM m 0) s.val := Fin.ext (by
  show ((V m 0 main_v45 : S246.Idx → BitVec 32) (ix1 s)).toNat = _
  rw [tabA_eq, pickT_at]
  rfl)

theorem tileB_eq (s : Fin 246) : tileB m s = secondOf (endsM m 0) s.val := Fin.ext (by
  show ((V m 0 main_v47 : S246.Idx → BitVec 32) (ix1 s)).toNat = _
  rw [tabB_eq, pickT_at]
  rfl)

/-- The rows of a used block. -/
def rowsOf (R : Fin 62976) : Fin 2048 → EReal := rowM m c (firstOf (endsM m 0) (R.val / 256)) (secondOf (endsM m 0) (R.val / 256)) R

include hnv in
theorem outAt_row (t : Fin (cfg0 (adm m hok 0)).N) (ht : t.val < (nvw m).toNat) (r : Fin 512) (j : Fin 2048) (R : Fin 62976) (hR : R.val = t.val * 512 + r.val) :
    outAt m hok c t (ix2 r j) = rowsOf m c R j := by
  unfold rowsOf
  by_cases h : r.val < 256
  · have e : R.val / 256 = (top m hok t).val := by show _ = 2 * t.val; omega
    rw [e, ← tileA_eq, ← tileB_eq]
    exact outAt_top m c hok hnv t ht ⟨r.val, h⟩ j R hR
  · have e : R.val / 256 = (bot m hok t).val := by show _ = 2 * t.val + 1; omega
    rw [e, ← tileA_eq, ← tileB_eq]
    have er : r = ⟨256 + (r.val - 256), by omega⟩ := Fin.ext (by show r.val = 256 + (r.val - 256); omega)
    rw [er]
    exact outAt_bot m c hok hnv t ht ⟨r.val - 256, by omega⟩ j R (by show R.val = t.val * 512 + (256 + (r.val - 256)); omega)

/-! ## The array the run leaves -/

attribute [local irreducible] outAt rowsOf

include hnv in
theorem blk15 (t : Fin (cfg0 (adm m hok 0)).N) (r : Fin 512) (k : Fin 2048) (R : Fin 62976) (hR : R.val = (last m hok t).val * 512 + r.val) :
    ((((cfg0 (adm m hok 0)).win 15).blk t).view.emb (ix2 r k) : S62976x2048.Idx) = ix2 R k :=
  ix2_of _ _ _ _ _ _ 512 2048 (index15 m hok hnv t) hR rfl rfl

include hnv in
/-- A block is written back at the point before its index changes, the last one at the last point. -/
theorem flush15_true (t : Fin (cfg0 (adm m hok 0)).N) (h : t.val + 1 < (nvw m).toNat ∨ t.val + 1 = 123) : ((cfg0 (adm m hok 0)).win 15).flush t = true := by
  have ht : t.val < 123 := lt_of_lt_of_eq t.isLt N_0
  unfold Pipeline.Window.flush
  rw [Bool.and_eq_true]
  refine ⟨rfl, ?_⟩
  rw [Bool.or_eq_true]
  by_cases hN : t.val + 1 = 123
  · exact .inl (decide_eq_true (hN.trans N_0.symm))
  · refine .inr (decide_eq_true ⟨lt_of_lt_of_eq (by omega : t.val + 1 < 123) N_0.symm, fun e => ?_⟩)
    rw [index15 m hok hnv, index15 m hok hnv] at e
    have e0 : min (t.val + 1) ((nvw m).toNat - 1) = min t.val ((nvw m).toNat - 1) := congrFun e 0
    omega

include hnv in
theorem arr_row (t : Fin (cfg0 (adm m hok 0)).N) (hf : ((cfg0 (adm m hok 0)).win 15).flush t = true) (r : Fin 512) (j : Fin 2048) (R : Fin 62976) (hR : R.val = (last m hok t).val * 512 + r.val) :
    ((dats m hok 0 c).arrAt 15 (cfg0 (adm m hok 0)).N : S62976x2048.Idx → EReal) (ix2 R j) = rowsOf m c R j := by
  have hl : ∀ u, (last m hok u).val < (nvw m).toNat := fun u => by
    show min u.val ((nvw m).toNat - 1) < _; omega
  refine (dats m hok 0 c).arrAt_forall_of_flushed 15 (fun (i : S62976x2048.Idx) (v : EReal) => v = rowsOf m c (i 0) (i 1)) ?_ _ t (ix2 R j) t.isLt hf ?_
  · intro u _ y
    obtain ⟨r', k', rfl⟩ : ∃ (r' : Fin 512) (k' : Fin 2048), y = ix2 r' k' := ⟨_, _, eq_ix2 (n0 := 512) (n1 := 2048) y⟩
    have hb := (last m hok u).isLt.trans_eq N_0
    have e := blk15 m hok hnv u r' k' ⟨(last m hok u).val * 512 + r'.val, by omega⟩ rfl
    refine Eq.trans ?_ ((outAt_row m c hok hnv (last m hok u) (hl u) r' k' ⟨(last m hok u).val * 512 + r'.val, by omega⟩ rfl).trans (congrArg (fun i : S62976x2048.Idx => rowsOf m c (i 0) (i 1)) e.symm))
    exact congrFun (after_15 m hok c u) (ix2 r' k')
  · exact (blk15 m hok hnv t r j R hR) ▸ (((cfg0 (adm m hok 0)).win 15).blk t).view.emb_mem_set _

/-- The result at a row the tiles use. -/
theorem res_row (h : SomeRows m) (R : Fin 62976) (j : Fin 2048) (hR : (R.val : Int) < (endsM m 0 (ix1 111)).toInt) : (res h c : S62976x2048.Idx → EReal) (ix2 R j) = rowsOf m c R j := by
  have hnv := nv_ok h
  have e := nv_eq h
  have em : (endsM m 0 (ix1 111)).toNat % 256 = 0 := ends_mod (F := Ideal) (m (((0 : Dev nD) : Thread nD τ).loc main_arg0)) 111
  have et := ends_tiles h
  have hb : R.val / 512 < (nvw m).toNat := by
    rw [BitVec.toInt_eq_toNat_of_lt (by omega)] at hR
    omega
  unfold res
  by_cases hl : R.val / 512 + 1 < (nvw m).toNat
  · refine arr_row m c (ok h) hnv ⟨R.val / 512, lt_of_lt_of_eq (by omega : R.val / 512 < 123) N_0.symm⟩ (flush15_true m (ok h) hnv _ (.inl hl)) ⟨R.val % 512, Nat.mod_lt _ (by decide)⟩ j R ?_
    show R.val = min (R.val / 512) ((nvw m).toNat - 1) * 512 + R.val % 512
    rw [Nat.min_eq_left (by omega)]; omega
  · refine arr_row m c (ok h) hnv ⟨122, lt_of_lt_of_eq (by omega : 122 < 123) N_0.symm⟩ (flush15_true m (ok h) hnv _ (.inr rfl)) ⟨R.val % 512, Nat.mod_lt _ (by decide)⟩ j R ?_
    show R.val = min 122 ((nvw m).toNat - 1) * 512 + R.val % 512
    rw [show min 122 ((nvw m).toNat - 1) = R.val / 512 by omega]; omega

end Cert.Proof.FfnFinal
end
-- ==== Proof.FfnValue.lean ====
/- The feed-forward kernel and the dense layer agree at every row of a used tile. -/
module

public import proofs.«01_k».proof.Proof.FfnFinal

@[expose] public section

set_option maxRecDepth 65536

noncomputable section

namespace Cert.Proof.FfnValue

open Cert.Kernel2Ideal Cert.Kernel2Ideal.Gen Cert.Proof.FfnTables Cert.Proof.FfnFrame Cert.Proof.FfnDense Cert.Proof.FfnRef Cert.Proof.FfnFinal Cert.Proof.FfnRun
open Idealize.ShloMosaic Idealize.ShloMosaic.TcCoe Idealize.ShloMosaic.Tactic

attribute [local instance] Cert.On_written.Gen.facts

section
variable (a0 : FVec Ideal S1x128 .f32) (a1 : FVec Ideal S62976x2176 .f32) (a2 a3 : FVec Ideal S1x32x2048x256 .f32) (a4 : FVec Ideal S1x32x256x2048 .f32) (a5 : FVec Ideal S1x2048 .f32) (a6 : FVec Ideal S2048 .f32)

/-- Which rows are compared: those before the last class's end. -/
theorem mask_at (r : Fin 62976) (j : Fin 2048) :
    Cert.On_written.fn (F := Ideal) a0 a1 a2 a3 a4 a5 a6 (ix2 r j) = IntOp.cmpi .slt (BitVec.ofNat 32 r.val) (ends a0 (ix1 111)) := by
  have : Cert.On_written.fn (F := Ideal) a0 a1 a2 a3 a4 a5 a6 = broadcastInDim Cert.On_written.S62976x2048 ![0, 1] Cert.On_written.Facts.bcast_S62976x1_S62976x2048_0_1
      (broadcastInDim Cert.On_written.S62976x1 ![0] Cert.On_written.Facts.bcast_S62976_S62976x1_0 (cmpi .slt (iotaInDim Cert.On_written.S62976 32 0)
        (broadcastInDim Cert.On_written.S62976 ![] Cert.On_written.Facts.bcast_S_S62976 (shapeCast Cert.On_written.S_ (extractStridedSlice Cert.On_written.S1 ![111] (ends a0) Cert.On_written.Facts.slices_S112_S1_111) Cert.On_written.Facts.shapeCasts_S1_S_)))) := rfl
  rw [this]
  pointwise

theorem mask_lt (r : Fin 62976) (j : Fin 2048) (h : Cert.On_written.fn (F := Ideal) a0 a1 a2 a3 a4 a5 a6 (ix2 r j) = 1#1) : (r.val : Int) < (ends a0 (ix1 111)).toInt := by
  rw [mask_at] at h
  have h2 : BitVec.ofBool ((BitVec.ofNat 32 r.val).slt (ends a0 (ix1 111))) = 1#1 := h
  have h3 : (BitVec.ofNat 32 r.val).slt (ends a0 (ix1 111)) = true := by
    cases hb : (BitVec.ofNat 32 r.val).slt (ends a0 (ix1 111))
    · rw [hb] at h2; exact absurd h2 (by decide)
    · rfl
  rw [BitVec.slt_iff_toInt_lt] at h3
  have hr := r.isLt
  have hn : (BitVec.ofNat 32 r.val).toNat = r.val := by
    rw [BitVec.toNat_ofNat]; exact Nat.mod_eq_of_lt (by omega)
  rw [BitVec.toInt_eq_toNat_of_lt (by omega), hn] at h3
  exact h3

end

variable (m : (ℓ : Loc nD τ sig) → Buf (Elt Ideal) ℓ)

/-- The dense layer of the arguments in memory. -/
abbrev denseM (c : Dev nD) : S62976x2048.Idx → EReal :=
  dense (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem res_dense (h : SomeRows m) (c : Dev nD) (i : S62976x2048.Idx)
    (hi : Cert.On_written.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i = 1#1) :
    (res h c : S62976x2048.Idx → EReal) i = denseM m c i := by
  obtain ⟨r, j, rfl⟩ : ∃ (r : Fin 62976) (j : Fin 2048), i = ix2 r j := ⟨_, _, eq_ix2 (n0 := 62976) (n1 := 2048) i⟩
  obtain rfl : c = 0 := Subsingleton.elim _ _
  have hr := mask_lt _ _ _ _ _ _ _ r j hi
  rw [res_row m 0 h r j hr]
  exact (dense_at _ _ _ _ _ _ _ r j hr).symm

end Cert.Proof.FfnValue
end
-- ==== Proof.FfnSame.lean ====
/- The two printed feed-forward kernels are one text: `Kernel2` and `Kernel2Ideal` run alike at every choice of the float values. -/
module
public import proofs.«01_k».proof.Proof.Gen.Kernel2
public import proofs.«01_k».proof.Proof.Gen.Kernel2Ideal
@[expose] public section
set_option maxRecDepth 65536
set_option maxHeartbeats 8000000
noncomputable section
namespace Cert.Proof.FfnSame
open Idealize.ShloMosaic Idealize.SL.Sem
attribute [local instance] Cert.Kernel2.Gen.facts Cert.Kernel2Ideal.Gen.facts
variable {F : FTy → Type} [FloatOps F]
/-! The pieces that the kernel's body is printed in. -/

theorem part1 : @Cert.Kernel2.k0_part1 F _ _ = @Cert.Kernel2Ideal.k0_part1 F _ _ := rfl
theorem part2 : @Cert.Kernel2.k0_part2 F _ _ = @Cert.Kernel2Ideal.k0_part2 F _ _ := rfl
theorem part3 : @Cert.Kernel2.k0_part3 F _ _ = @Cert.Kernel2Ideal.k0_part3 F _ _ := rfl
theorem part4 : @Cert.Kernel2.k0_part4 F _ _ = @Cert.Kernel2Ideal.k0_part4 F _ _ := rfl

/-- The body. -/
theorem body : @Cert.Kernel2.cc0_moe_ffn F _ _ = @Cert.Kernel2Ideal.cc0_moe_ffn F _ _:= by
  funext i a1 h1 a2 h2 a3 h3 a4 h4 a5 h5 a6 h6 a7 h7 a8 h8 a9 h9 a10 h10 a11 h11 a12 h12 a13 h13 a14 h14 a15 h15 a16 h16 a17 h17 a18 h18 a19 h19
  unfold Cert.Kernel2.cc0_moe_ffn Cert.Kernel2Ideal.cc0_moe_ffn
  simp only [part1, part2, part3, part4]
  rfl
/-- The body tables. -/
theorem tables : Cert.Kernel2.defs₀ (F := F) = Cert.Kernel2Ideal.defs₀ (F := F) := by
  unfold Cert.Kernel2.defs₀ Cert.Kernel2Ideal.defs₀
  rw [body]
  refine congrArg Defs.onTc (funext fun ℓ => funext fun a => ?_)
  obtain rfl : ℓ = 0 := Subsingleton.elim (α := Fin 1) _ _
  rfl
/-- The pipelines. -/
theorem pipelines : Cert.Kernel2.pcfgs (F := F) = Cert.Kernel2Ideal.pcfgs (F := F) := by
  rfl
/-- The labels. -/
theorem labels : Cert.Kernel2.defs (F := F) = Cert.Kernel2Ideal.defs (F := F) := by
  unfold Cert.Kernel2.defs Cert.Kernel2Ideal.defs
  exact congrArg (Pipeline.defs Cert.Kernel2Ideal.pcfgs) tables
/-- The host programs. -/
theorem mains : Cert.Kernel2.main (F := F) = Cert.Kernel2Ideal.main (F := F) := by
  rfl

/-- So their runs are the same. -/
theorem runs : θ_run (Cert.Kernel2.defs (F := F)) (onTc (τ := Cert.Kernel2.τ) (Cert.Kernel2.main (F := F))) = θ_run (Cert.Kernel2Ideal.defs (F := F)) (onTc (τ := Cert.Kernel2Ideal.τ) (Cert.Kernel2Ideal.main (F := F))) := by
  rw [mains]
  exact congrArg (fun d => θ_run d (onTc (τ := Cert.Kernel2Ideal.τ) (Cert.Kernel2Ideal.main (F := F)))) labels

/-- What the one run ends in, the other ends in. -/
theorem of_run {m : (ℓ : Loc Cert.Kernel2.nD Cert.Kernel2.τ Cert.Kernel2.sig) → Buf (Elt F) ℓ} {g : Dev Cert.Kernel2.nD → PrngReg}
    {post : PUnit × MemSt Cert.Kernel2Ideal.nD Cert.Kernel2Ideal.τ Cert.Kernel2Ideal.sig (Elt F) → Prop}
    (h : θ_run (Cert.Kernel2Ideal.defs (F := F)) (onTc (τ := Cert.Kernel2Ideal.τ) (Cert.Kernel2Ideal.main (F := F))) ⟨m, fun _ => 0, g⟩ post) :
    θ_run (Cert.Kernel2.defs (F := F)) (onTc (τ := Cert.Kernel2.τ) (Cert.Kernel2.main (F := F))) ⟨m, fun _ => 0, g⟩ post := by
  rw [runs]
  exact h

end Cert.Proof.FfnSame
end
-- ==== Proof.FfnRef3.lean ====
/- The run of the reference that weights the experts' outputs. -/
module

public import proofs.«01_k».proof.Proof.FfnRef
public import proofs.«01_k».proof.Proof.Gen.Reference3Ideal
public import proofs.«01_k».proof.Proof.Gen.Pre_finite_weights

@[expose] public section

set_option maxRecDepth 16384

noncomputable section

namespace Cert.Proof.FfnRef3

open Idealize.ShloMosaic
open Idealize.ShloMosaic.TcCoe Idealize.ShloMosaic.Tactic
open Idealize.SL.Sem
open Cert.Proof.FfnRef

variable {F : FTy → Type} [FloatOps F]

section
open Cert.Reference3Ideal Cert.Reference3Ideal.Facts₀

/-- The gate's silu times the up projection. -/
def silus (g u : FVec F S62976x32x256 .f32) : FVec F S62976x32x256 .f32 :=
  mulf (mulf g (Host.divf (broadcastInDim S62976x32x256 ![] bcast_S_S62976x32x256 (constant (F := F) S_ .f32 0x3F800000#32))
      (addf (broadcastInDim S62976x32x256 ![] bcast_S_S62976x32x256 (constant (F := F) S_ .f32 0x3F800000#32)) (Host.exp (Host.negf g))))) u

/-- Every expert's output on every row. -/
def outs (h : FVec F S62976x32x256 .f32) (d : FVec F S1x32x256x2048 .f32) : FVec F S62976x32x2048 .f32 :=
  transpose S62976x32x2048 [2, 0, 1] (Host.dotGeneral dot_S32x256x2048_S62976x32x256_S32x2048x62976_1_2_2_0_0_1 none (shapeCast S32x256x2048 d shapeCasts_S1x32x256x2048_S32x256x2048) h)
    transposes_S32x2048x62976_S62976x32x2048_2_0_1

/-- The rows with the weighted outputs. -/
def added (x : FVec F S62976x2048 .f32) (c : FVec F S62976x32 .f32) (o : FVec F S62976x32x2048 .f32) : FVec F S62976x2048 .f32 :=
  addf x (Host.reduceAdd (mulf (broadcastInDim S62976x32x2048 ![0, 1, 2] bcast_S62976x32x1_S62976x32x2048_0_1_2 (broadcastInDim S62976x32x1 ![0, 1] bcast_S62976x32_S62976x32x1_0_1 c)) o)
    (constant (F := F) S_ .f32 0x00000000#32) reducesTo_S62976x32x2048_S62976x2048_d1 h_S_)

/-- The reference's result. -/
def dense3 (a0 : FVec F S1x128 .f32) (a1 : FVec F S62976x2176 .f32) (a2 a3 : FVec F S1x32x2048x256 .f32) (a4 : FVec F S1x32x256x2048 .f32) (a5 : FVec F S1x2048 .f32) (a6 : FVec F S2048 .f32) : FVec F S62976x2048 .f32 :=
  rowsNormed (added (feats a1) (weights (picked firsts (classes (ends a0))) (picked seconds (classes (ends a0))) a1)
    (outs (silus (proj (rowsNormed (feats a1) (shapeCast S2048 a5 shapeCasts_S1x2048_S2048)) a2) (proj (rowsNormed (feats a1) (shapeCast S2048 a5 shapeCasts_S1x2048_S2048)) a3)) a4)) a6

theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v91) = dense3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  hlo_run
  · refine fun c => ⟨?_, trivial, trivial, trivial, trivial, trivial, trivial, trivial⟩
    simp -implicitDefEqProofs only [StableHlo.TRef.toBuf, StableHlo.TRef.ofBuf, cast_eq]
    unfold dense3 outs added silus rowsNormed feats proj weights isExpert picked classes firsts seconds ends padded Cert.Pre_some_rows.fn_cumsum Cert.Pre_some_rows.fn_cumsum_0 Cert.Pre_some_rows.fn_floor_divide Cert.Pre_some_rows.fn_where
    rfl
  · exact sem_eq_zero_of_no_sems rfl _

end

end Cert.Proof.FfnRef3
end
-- ==== Proof.FfnInf.lean ====
/- A finite factor goes inside a sum over the extended reals, but for which infinity comes out; and a row with an infinite entry is normalized to zeros. -/
module

public import proofs.«01_k».proof.Proof.FfnVal

@[expose] public section

noncomputable section

namespace Cert.Proof.FfnInf

open Cert.Proof.FfnVal
open Idealize.ShloMosaic

/-- An infinity. -/
def Inf (x : EReal) : Prop := x = ⊤ ∨ x = ⊥

/-- Equal, or both an infinity. -/
def Agree (x y : EReal) : Prop := x = y ∨ (Inf x ∧ Inf y)

theorem Agree.inf {x y : EReal} (h : Agree x y) (hx : Inf x) : Inf y := by
  rcases h with rfl | h
  · exact hx
  · exact h.2

theorem Agree.symm {x y : EReal} (h : Agree x y) : Agree y x := h.imp Eq.symm And.symm

theorem Agree.trans {x y z : EReal} (h : Agree x y) (h' : Agree y z) : Agree x z := by
  rcases h with rfl | h
  · exact h'
  · exact .inr ⟨h.1, h'.inf h.2⟩

theorem inf_add_left {a : EReal} (b : EReal) (h : Inf a) : Inf (a + b) := by
  rcases h with rfl | rfl
  · induction b using EReal.rec with
    | bot => exact .inr (EReal.add_bot _)
    | coe r => exact .inl (EReal.top_add_coe r)
    | top => exact .inl EReal.top_add_top
  · exact .inr (EReal.bot_add _)

theorem inf_add_right {a : EReal} (b : EReal) (h : Inf a) : Inf (b + a) := add_comm a b ▸ inf_add_left b h

theorem Agree.add {a a' b b' : EReal} (ha : Agree a a') (hb : Agree b b') : Agree (a + b) (a' + b') := by
  rcases ha with rfl | ha
  · rcases hb with rfl | hb
    · exact .inl rfl
    · exact .inr ⟨inf_add_right _ hb.1, inf_add_right _ hb.2⟩
  · exact .inr ⟨inf_add_left _ ha.1, inf_add_left _ ha.2⟩

theorem Agree.sum {ι : Type} (s : Finset ι) {v w : ι → EReal} (h : ∀ i, Agree (v i) (w i)) : Agree (∑ i ∈ s, v i) (∑ i ∈ s, w i) := by
  classical
  induction s using Finset.induction_on with
  | empty => exact .inl rfl
  | insert a s ha ih => rw [Finset.sum_insert ha, Finset.sum_insert ha]; exact (h a).add ih

theorem inf_mul {c : ℝ} (hc : c ≠ 0) {a : EReal} (h : Inf a) : Inf ((c : EReal) * a) := by
  rcases lt_or_gt_of_ne hc with hc | hc
  · rcases h with rfl | rfl
    · exact .inr (EReal.coe_mul_top_of_neg hc)
    · exact .inl (EReal.coe_mul_bot_of_neg hc)
  · rcases h with rfl | rfl
    · exact .inl (EReal.coe_mul_top_of_pos hc)
    · exact .inr (EReal.coe_mul_bot_of_pos hc)

theorem inf_or_real (a : EReal) : Inf a ∨ ∃ r : ℝ, a = r := by
  induction a using EReal.rec with
  | bot => exact .inl (.inr rfl)
  | coe r => exact .inr ⟨r, rfl⟩
  | top => exact .inl (.inl rfl)

theorem agree_mul_add (c : ℝ) (a b : EReal) : Agree ((c : EReal) * (a + b)) (c * a + c * b) := by
  by_cases hc : c = 0
  · subst hc; left; simp
  rcases inf_or_real a with ha | ⟨r, rfl⟩
  · exact .inr ⟨inf_mul hc (inf_add_left b ha), inf_add_left _ (inf_mul hc ha)⟩
  rcases inf_or_real b with hb | ⟨q, rfl⟩
  · exact .inr ⟨inf_mul hc (inf_add_right _ hb), inf_add_right _ (inf_mul hc hb)⟩
  left
  rw [← EReal.coe_add, ← EReal.coe_mul, ← EReal.coe_mul, ← EReal.coe_mul, ← EReal.coe_add, mul_add]

theorem agree_mul_sum {ι : Type} (s : Finset ι) (c : ℝ) (v : ι → EReal) : Agree ((c : EReal) * ∑ i ∈ s, v i) (∑ i ∈ s, (c : EReal) * v i) := by
  classical
  induction s using Finset.induction_on with
  | empty => left; simp
  | insert a s ha ih =>
    rw [Finset.sum_insert ha, Finset.sum_insert ha]
    exact (agree_mul_add c _ _).trans (Agree.add (.inl rfl) ih)

theorem mul_self_nonneg' (a : EReal) : 0 ≤ a * a := by
  induction a using EReal.rec with
  | bot => simp
  | coe r => rw [← EReal.coe_mul]; exact EReal.coe_nonneg.mpr (mul_self_nonneg r)
  | top => simp

/-- The sum of squares with an infinite entry. -/
theorem squares_top (x : Fin 2048 → EReal) (k : Fin 2048) (h : Inf (x k)) : ∑ i, x i * x i = ⊤ := by
  have h1 : x k * x k = ⊤ := by
    rcases h with h | h <;> rw [h] <;> simp
  exact top_le_iff.mp (h1 ▸ Finset.single_le_sum (f := fun i => x i * x i) (fun i _ => mul_self_nonneg' (x i)) (Finset.mem_univ k))

theorem width : Ideal.ofBits .f32 0x45000000#32 = ((2048 : ℝ) : EReal) := by
  simp [Ideal.ofBits, Ideal.ieee]
  refine (EReal.coe_mul _ _).symm.trans (congrArg _ ?_)
  norm_num

theorem eps_ne_bot : Ideal.ofBits .f32 0x358637BD#32 ≠ ⊥ := by
  simp [Ideal.ofBits, Ideal.ieee]
  exact fun h => EReal.coe_ne_bot _ ((EReal.coe_mul _ _).trans h)

theorem scale_zero (x : Fin 2048 → EReal) (k : Fin 2048) (h : Inf (x k)) : scale x = 0 := by
  unfold scale
  have hd : Ideal.div ⊤ ((2048 : ℝ) : EReal) = ⊤ := by
    unfold Ideal.div
    rw [if_neg (by rw [← EReal.coe_zero, EReal.coe_eq_coe_iff]; norm_num), ← EReal.coe_inv]
    exact EReal.top_mul_coe_of_pos (by norm_num)
  rw [squares_top x k h, width, hd, EReal.top_add_of_ne_bot eps_ne_bot]
  rfl

theorem normed_zero (x w : Fin 2048 → EReal) (k j : Fin 2048) (h : Inf (x k)) : normed x w j = 0 := by
  unfold normed
  rw [scale_zero x k h, mul_zero, zero_mul]

/-- Rows that agree are normalized to the same row. -/
theorem normed_agree (x y w : Fin 2048 → EReal) (h : ∀ k, Agree (x k) (y k)) (j : Fin 2048) : normed x w j = normed y w j := by
  by_cases hi : ∃ k, Inf (x k)
  · obtain ⟨k, hk⟩ := hi
    rw [normed_zero x w k j hk, normed_zero y w k j ((h k).inf hk)]
  · have : x = y := funext fun k => (h k).resolve_right fun h' => hi ⟨k, h'.1⟩
    rw [this]

end Cert.Proof.FfnInf
end
-- ==== Proof.FfnDense3.lean ====
/- Weighting an expert's output gives the row that weighting its hidden values gives, when the weight is finite. -/
module

public import proofs.«01_k».proof.Proof.FfnRef3
public import proofs.«01_k».proof.Proof.FfnValue
public import proofs.«01_k».proof.Proof.FfnInf

@[expose] public section

set_option maxRecDepth 65536

noncomputable section

namespace Cert.Proof.FfnDense3

open Cert.Reference3Ideal Cert.Proof.FfnRef Cert.Proof.FfnRef3 Cert.Proof.FfnDense Cert.Proof.FfnVal Cert.Proof.FfnInf
open Idealize.ShloMosaic

theorem silus_at (g u : FVec Ideal S62976x32x256 .f32) (r : Fin 62976) (e : Fin 32) (f : Fin 256) :
    silus g u (ix3 r e f) = silu (g (ix3 r e f)) (u (ix3 r e f)) := by
  unfold silus silu; pointwise; rw [zero_sub]

theorem outs_at (h : FVec Ideal S62976x32x256 .f32) (d : FVec Ideal S1x32x256x2048 .f32) (r : Fin 62976) (e : Fin 32) (j : Fin 2048) :
    outs h d (ix3 r e j) = ∑ f, d (ix4 0 e f j) * h (ix3 r e f) := by
  unfold outs; pointwise

theorem added_at (x : FVec Ideal S62976x2048 .f32) (c : FVec Ideal S62976x32 .f32) (o : FVec Ideal S62976x32x2048 .f32) (r : Fin 62976) (j : Fin 2048) :
    added x c o (ix2 r j) = x (ix2 r j) + ∑ e, c (ix2 r e) * o (ix3 r e j) := by
  unfold added; pointwise

theorem swap (c d h : EReal) : c * (d * h) = h * c * d := by rw [mul_comm d h, ← mul_assoc, mul_comm c h]

variable (a0 : FVec Ideal S1x128 .f32) (a1 : FVec Ideal S62976x2176 .f32) (a2 a3 : FVec Ideal S1x32x2048x256 .f32) (a4 : FVec Ideal S1x32x256x2048 .f32) (a5 : FVec Ideal S1x2048 .f32) (a6 : FVec Ideal S2048 .f32)

/-- Both references compute the same row when its weights are finite. -/
theorem dense3_at (r : Fin 62976) (h : ∀ k : Fin 2176, k.val = 2050 ∨ k.val = 2051 → ∃ c : ℝ, a1 (ix2 r k) = (c : EReal)) (j : Fin 2048) :
    dense3 a0 a1 a2 a3 a4 a5 a6 (ix2 r j) = dense a0 a1 a2 a3 a4 a5 a6 (ix2 r j) := by
  unfold dense3 dense
  rw [rowsNormed_at, rowsNormed_at]
  refine normed_agree _ _ _ (fun j => ?_) j
  rw [added_at, mixed_at]
  refine Agree.add (.inl rfl) (Agree.sum _ fun e => ?_)
  have hw : ∃ c : ℝ, weights (picked firsts (classes (ends a0))) (picked seconds (classes (ends a0))) a1 (ix2 r e) = (c : EReal) := by
    rw [weights_at]
    split
    · exact h 2050 (.inl rfl)
    · split
      · exact h 2051 (.inr rfl)
      · exact ⟨0, EReal.coe_zero.symm⟩
  obtain ⟨c, hc⟩ := hw
  rw [outs_at, hc]
  refine (agree_mul_sum _ c _).trans (Agree.sum _ fun f => .inl ?_)
  rw [hiddens_at, silus_at, hc]
  exact swap _ _ _

/-! ## The precondition -/

/-- Its first half is that there is a row. -/
theorem some_rows (h : (Cert.Pre_finite_weights.fn (F := Ideal) a0 a1 a2 a3 a4 a5 a6).1 = fun _ => 1#1) :
    Cert.Pre_some_rows.fn (F := Ideal) a0 a1 a2 a3 a4 a5 a6 = fun _ => 1#1 := h

/-- Its second half says the two weights are finite, in every row before the last class's end. -/
theorem weight_at (r : Fin 62976) (k : Fin 2) :
    (Cert.Pre_finite_weights.fn (F := Ideal) a0 a1 a2 a3 a4 a5 a6).2 (ix2 r k)
      = IntOp.ori (IntOp.cmpi .sge (BitVec.ofNat 32 r.val) (ends a0 (ix1 111)))
          (Ideal.cmp .olt (max (a1 (ix2 r ⟨2050 + k.val, by omega⟩)) (-a1 (ix2 r ⟨2050 + k.val, by omega⟩))) (Ideal.ofBits .f32 0x7F800000#32)) := by
  have : (Cert.Pre_finite_weights.fn (F := Ideal) a0 a1 a2 a3 a4 a5 a6).2
      = ori (broadcastInDim Cert.Pre_finite_weights.S62976x2 ![0, 1] Cert.Pre_finite_weights.Facts.bcast_S62976x1_S62976x2_0_1
          (cmpi .sge (broadcastInDim Cert.Pre_finite_weights.S62976x1 ![0] Cert.Pre_finite_weights.Facts.bcast_S62976_S62976x1_0 (iotaInDim Cert.Pre_finite_weights.S62976 32 0))
            (broadcastInDim Cert.Pre_finite_weights.S62976x1 ![] Cert.Pre_finite_weights.Facts.bcast_S_S62976x1
              (shapeCast Cert.Pre_finite_weights.S_ (extractStridedSlice Cert.Pre_finite_weights.S1 ![111] (ends a0) Cert.Pre_finite_weights.Facts.slices_S112_S1_111) Cert.Pre_finite_weights.Facts.shapeCasts_S1_S_))))
          (cmpf .olt (Host.absf (extractStridedSlice Cert.Pre_finite_weights.S62976x2 ![0, 2050] a1 Cert.Pre_finite_weights.Facts.slices_S62976x2176_S62976x2_0_2050))
            (broadcastInDim Cert.Pre_finite_weights.S62976x2 ![] Cert.Pre_finite_weights.Facts.bcast_S_S62976x2 (constant (F := Ideal) Cert.Pre_finite_weights.S_ .f32 0x7F800000#32))) := rfl
  rw [this]
  pointwise
  rfl

theorem finite (x : EReal) (h : Ideal.cmp .olt (max x (-x)) (Ideal.ofBits .f32 0x7F800000#32) = 1#1) : ∃ c : ℝ, x = (c : EReal) := by
  have htop : Ideal.ofBits .f32 0x7F800000#32 = ⊤ := by simp [Ideal.ofBits, Ideal.ieee]
  rw [htop] at h
  rcases inf_or_real x with (rfl | rfl) | h'
  · simp [Ideal.cmp] at h
  · simp [Ideal.cmp] at h
  · exact h'

/-- A row before the end is not at or past it. -/
theorem not_past (v e : BitVec 32) (b : BitVec 1) (hs : IntOp.cmpi .slt v e = 1#1) (h : IntOp.ori (IntOp.cmpi .sge v e) b = 1#1) : b = 1#1 := by
  have h1 : BitVec.ofBool (v.slt e) = 1#1 := hs
  have h2 : v.slt e = true := by
    cases hb : v.slt e
    · rw [hb] at h1; exact absurd h1 (by decide)
    · rfl
  have h3 : e.sle v = false := by
    rw [BitVec.slt_iff_toInt_lt] at h2
    unfold BitVec.sle
    exact decide_eq_false (by omega)
  have h4 : BitVec.ofBool (e.sle v) ||| b = 1#1 := h
  rw [h3] at h4
  exact (BitVec.zero_or (x := b)).symm.trans h4

theorem weights_ok (h : (Cert.Pre_finite_weights.fn (F := Ideal) a0 a1 a2 a3 a4 a5 a6).2 = fun _ => 1#1) (r : Fin 62976) (hr : IntOp.cmpi .slt (BitVec.ofNat 32 r.val) (ends a0 (ix1 111)) = 1#1)
    (k : Fin 2176) (hk : k.val = 2050 ∨ k.val = 2051) : ∃ c : ℝ, a1 (ix2 r k) = (c : EReal) := by
  obtain ⟨q, rfl⟩ : ∃ q : Fin 2, k = ⟨2050 + q.val, by omega⟩ := ⟨⟨k.val - 2050, by omega⟩, Fin.ext (by show k.val = 2050 + (k.val - 2050); omega)⟩
  exact finite _ (not_past _ _ _ hr ((weight_at a0 a1 a2 a3 a4 a5 a6 r q).symm.trans (congrFun h (ix2 r q))))

attribute [local instance] Cert.On_written.Gen.facts

/-- Both references agree at the rows compared. -/
theorem dense3_eq (h : (Cert.Pre_finite_weights.fn (F := Ideal) a0 a1 a2 a3 a4 a5 a6).2 = fun _ => 1#1) (i : S62976x2048.Idx)
    (hi : Cert.On_written.fn (F := Ideal) a0 a1 a2 a3 a4 a5 a6 i = 1#1) :
    dense3 (F := Ideal) a0 a1 a2 a3 a4 a5 a6 i = dense a0 a1 a2 a3 a4 a5 a6 i := by
  obtain ⟨r, j, rfl⟩ : ∃ (r : Fin 62976) (j : Fin 2048), i = ix2 r j := ⟨_, _, eq_ix2 (n0 := 62976) (n1 := 2048) i⟩
  rw [FfnValue.mask_at] at hi
  exact dense3_at a0 a1 a2 a3 a4 a5 a6 r (weights_ok a0 a1 a2 a3 a4 a5 a6 h r hi) j

end Cert.Proof.FfnDense3
end
-- ==== Proof.lean ====
/- The proof of the claim: the sample dispatch of v10 writes the rows where the dense scatter does, and the experts' call computes the dense layer at every row of a used tile. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Reference3Ideal
public import proofs.«01_k».proof.Proof.Gen.Pre_rows_apart
public import proofs.«01_k».proof.Proof.Gen.Pre_finite_weights
public import proofs.«01_k».proof.Proof.Value
public import proofs.«01_k».proof.Proof.Same
public import proofs.«01_k».proof.Proof.FfnValue
public import proofs.«01_k».proof.Proof.FfnSame
public import proofs.«01_k».proof.Proof.FfnDense3
public import Idealize.ShloMosaic.Adequacy
public import Idealize.ShloMosaic.Init

@[expose] public section

set_option maxRecDepth 16384

noncomputable section

namespace Cert.Proof

open Idealize.ShloMosaic Idealize.SL.Sem

/-- Equal arguments give equal results. -/
theorem same {F : FTy → Type} [FloatOps F] {a0 b0 : FVec F Cert.Pre_rows_apart.S1x128 .f32} {a1 b1 : FVec F Cert.Pre_rows_apart.S1024x128 .f32}
    {a2 b2 : FVec F Cert.ReferenceIdeal.S1024x2176 .f32} {a3 b3 : FVec F Cert.ReferenceIdeal.S62976x2176 .f32}
    (h0 : a0 = b0) (h1 : a1 = b1) (h2 : a2 = b2) (h3 : a3 = b3) : Refs.dense a0 a1 a2 a3 = Refs.dense b0 b1 b2 b3 := by
  subst h0 h1 h2 h3
  rfl

section
attribute [local instance] Cert.Kernel.Gen.facts Cert.KernelIdeal.Gen.facts Cert.ReferenceIdeal.Gen.facts Cert.Reference.Gen.facts Cert.Pre_rows_apart.Gen.facts

theorem frame : Cert.quiescent_Kernel := fun m g h =>
  Same.of_run ((θ_run Cert.KernelIdeal.defs _ _).mono (fun _ hr => ⟨fun c => (hr.1 c).2, hr.2⟩) (Value.run (F := Bits) (m := m) g h))

theorem frame_ideal : Cert.quiescent_KernelIdeal := fun m g h =>
  (θ_run Cert.KernelIdeal.defs _ _).mono (fun _ hr => ⟨fun c => (hr.1 c).2, hr.2⟩) (Value.run (F := Ideal) (m := m) g h)

theorem frame_reference_ideal : Cert.quiescent_ReferenceIdeal := fun m g _ =>
  (θ_run Cert.ReferenceIdeal.defs _ _).mono (fun _ hr => ⟨fun c => (hr.1 c).2, hr.2⟩) (Refs.run (F := Ideal) m g)

theorem frame_reference : Cert.quiescent_Reference := fun m g _ =>
  (θ_run Cert.ReferenceIdeal.defs _ _).mono (fun _ hr => ⟨fun c => (hr.1 c).2, hr.2⟩) (Refs.run (F := Bits) m g)

theorem bits : Cert.bitexact_Kernel_Reference := fun m g m' g' h he =>
  ⟨fun c => Refs.dense (F := Bits) (m (c.tc.loc Cert.KernelIdeal.main_arg0)) (m (c.tc.loc Cert.KernelIdeal.main_arg1)) (m (c.tc.loc Cert.KernelIdeal.main_arg2)) (m (c.tc.loc Cert.KernelIdeal.main_arg3)),
   Same.of_run ((θ_run Cert.KernelIdeal.defs _ _).mono (fun _ hr => hr.1) (Value.run (F := Bits) (m := m) g h)),
   (θ_run Cert.ReferenceIdeal.defs _ _).mono (fun _ hr c => ⟨(hr.1 c).1.trans (same (he c).1 (he c).2.1 (he c).2.2.1 (he c).2.2.2), (hr.1 c).2⟩) (Refs.run (F := Bits) m' g')⟩

theorem algebra : Cert.algebraic_KernelIdeal_ReferenceIdeal := fun m g m' g' h he =>
  ⟨fun c => Refs.dense (F := Ideal) (m (c.tc.loc Cert.KernelIdeal.main_arg0)) (m (c.tc.loc Cert.KernelIdeal.main_arg1)) (m (c.tc.loc Cert.KernelIdeal.main_arg2)) (m (c.tc.loc Cert.KernelIdeal.main_arg3)),
   (θ_run Cert.KernelIdeal.defs _ _).mono (fun _ hr => hr.1) (Value.run (F := Ideal) (m := m) g h),
   (θ_run Cert.ReferenceIdeal.defs _ _).mono (fun _ hr c => ⟨(hr.1 c).1.trans (same (he c).1 (he c).2.1 (he c).2.2.1 (he c).2.2.2), (hr.1 c).2⟩) (Refs.run (F := Ideal) m' g')⟩
end

/-! ## The experts -/

section
attribute [local instance] Cert.Kernel2.Gen.facts Cert.Kernel2Ideal.Gen.facts Cert.Reference2Ideal.Gen.facts Cert.Pre_some_rows.Gen.facts Cert.On_written.Gen.facts

/-- Equal arguments give equal dense layers. -/
theorem same_dense {a0 b0 : FVec Ideal Cert.Kernel2Ideal.S1x128 .f32} {a1 b1 : FVec Ideal Cert.Kernel2Ideal.S62976x2176 .f32} {a2 b2 a3 b3 : FVec Ideal Cert.Kernel2Ideal.S1x32x2048x256 .f32}
    {a4 b4 : FVec Ideal Cert.Kernel2Ideal.S1x32x256x2048 .f32} {a5 b5 : FVec Ideal Cert.Kernel2Ideal.S1x2048 .f32} {a6 b6 : FVec Ideal Cert.Kernel2Ideal.S2048 .f32}
    (h0 : a0 = b0) (h1 : a1 = b1) (h2 : a2 = b2) (h3 : a3 = b3) (h4 : a4 = b4) (h5 : a5 = b5) (h6 : a6 = b6) :
    FfnRef.dense (F := Ideal) a0 a1 a2 a3 a4 a5 a6 = FfnRef.dense b0 b1 b2 b3 b4 b5 b6 := by
  subst h0 h1 h2 h3 h4 h5 h6
  rfl

set_option maxHeartbeats 4000000 in
theorem frame_experts : Cert.quiescent_Kernel2 := fun m g h =>
  FfnSame.of_run ((θ_run Cert.Kernel2Ideal.defs _ _).mono (fun _ hr => ⟨fun c => (hr.1 c).2, hr.2⟩) (FfnFrame.run (F := Bits) (m := m) g h))

theorem frame_experts_ideal : Cert.quiescent_Kernel2Ideal := fun m g h =>
  (θ_run Cert.Kernel2Ideal.defs _ _).mono (fun _ hr => ⟨fun c => (hr.1 c).2, hr.2⟩) (FfnFrame.run (F := Ideal) (m := m) g h)

theorem frame_dense : Cert.quiescent_Reference2Ideal := fun m g _ =>
  (θ_run Cert.Reference2Ideal.defs _ _).mono (fun _ hr => ⟨fun c => (hr.1 c).2, hr.2⟩) (FfnRef.run (F := Ideal) m g)

theorem algebra_experts : Cert.algebraic_Kernel2Ideal_Reference2Ideal_on_written := fun m g m' g' h he =>
  ⟨fun c => FfnValue.denseM m c,
   (θ_run Cert.Kernel2Ideal.defs _ _).mono (fun _ hr c => ⟨fun i hi => (congrFun (hr.1 c).1 i).trans (FfnValue.res_dense m h c i hi), (hr.1 c).2⟩) (FfnFrame.run (F := Ideal) (m := m) g h),
   (θ_run Cert.Reference2Ideal.defs _ _).mono (fun _ hr c => ⟨fun i _ => congrFun ((hr.1 c).1.trans
      (same_dense (he c).1 (he c).2.1 (he c).2.2.1 (he c).2.2.2.1 (he c).2.2.2.2.1 (he c).2.2.2.2.2.1 (he c).2.2.2.2.2.2)) i, (hr.1 c).2⟩) (FfnRef.run (F := Ideal) m' g')⟩
end

/-! ## The experts, each output weighted -/

section
attribute [local instance] Cert.Kernel2Ideal.Gen.facts Cert.Reference3Ideal.Gen.facts Cert.Pre_some_rows.Gen.facts Cert.Pre_finite_weights.Gen.facts Cert.On_written.Gen.facts

/-- Equal arguments give equal layers. -/
theorem same_dense3 {a0 b0 : FVec Ideal Cert.Kernel2Ideal.S1x128 .f32} {a1 b1 : FVec Ideal Cert.Kernel2Ideal.S62976x2176 .f32} {a2 b2 a3 b3 : FVec Ideal Cert.Kernel2Ideal.S1x32x2048x256 .f32}
    {a4 b4 : FVec Ideal Cert.Kernel2Ideal.S1x32x256x2048 .f32} {a5 b5 : FVec Ideal Cert.Kernel2Ideal.S1x2048 .f32} {a6 b6 : FVec Ideal Cert.Kernel2Ideal.S2048 .f32}
    (h0 : a0 = b0) (h1 : a1 = b1) (h2 : a2 = b2) (h3 : a3 = b3) (h4 : a4 = b4) (h5 : a5 = b5) (h6 : a6 = b6) :
    FfnRef3.dense3 (F := Ideal) a0 a1 a2 a3 a4 a5 a6 = FfnRef3.dense3 b0 b1 b2 b3 b4 b5 b6 := by
  subst h0 h1 h2 h3 h4 h5 h6
  rfl

theorem some_of_weighted {m : (ℓ : Loc Cert.Kernel2Ideal.nD Cert.Kernel2Ideal.τ Cert.Kernel2Ideal.sig) → Buf (Elt Ideal) ℓ}
    (h : Cert.Pre_Kernel2Ideal_finite_weights m) : Cert.Pre_Kernel2Ideal m := fun c => FfnDense3.some_rows _ _ _ _ _ _ _ (h c).1

theorem frame_dense3 : Cert.quiescent_Reference3Ideal := fun m g _ =>
  (θ_run Cert.Reference3Ideal.defs _ _).mono (fun _ hr => ⟨fun c => (hr.1 c).2, hr.2⟩) (FfnRef3.run (F := Ideal) m g)

theorem algebra_experts3 : Cert.algebraic_Kernel2Ideal_Reference3Ideal_on_written_pre_finite_weights := fun m g m' g' h he =>
  ⟨fun c => FfnValue.denseM m c,
   (θ_run Cert.Kernel2Ideal.defs _ _).mono (fun _ hr c => ⟨fun i hi => (congrFun (hr.1 c).1 i).trans (FfnValue.res_dense m (some_of_weighted h) c i hi), (hr.1 c).2⟩)
     (FfnFrame.run (F := Ideal) (m := m) g (some_of_weighted h)),
   (θ_run Cert.Reference3Ideal.defs _ _).mono (fun _ hr c => ⟨fun i hi => (congrFun ((hr.1 c).1.trans
      (same_dense3 (he c).1 (he c).2.1 (he c).2.2.1 (he c).2.2.2.1 (he c).2.2.2.2.1 (he c).2.2.2.2.2.1 (he c).2.2.2.2.2.2)) i).trans
        (FfnDense3.dense3_eq _ _ _ _ _ _ _ (h c).2 i hi), (hr.1 c).2⟩) (FfnRef3.run (F := Ideal) m' g')⟩
end

theorem claim : Cert.Claim :=
  ⟨Cert.Kernel.Gen.facts, Cert.KernelIdeal.Gen.facts, Cert.ReferenceIdeal.Gen.facts, Cert.Reference.Gen.facts, Cert.Kernel2.Gen.facts, Cert.Kernel2Ideal.Gen.facts, Cert.Reference2Ideal.Gen.facts, Cert.Reference3Ideal.Gen.facts,
    Cert.Pre_rows_apart.Gen.facts, Cert.Pre_some_rows.Gen.facts, Cert.Pre_finite_weights.Gen.facts, Cert.On_written.Gen.facts,
    frame, frame_ideal, frame_reference_ideal, fun m g _ => frame_reference_ideal m g trivial, frame_reference,
    frame_experts, frame_experts_ideal, fun m g h => frame_experts_ideal m g (some_of_weighted h), frame_dense, fun m g _ => frame_dense m g trivial,
    frame_dense3, fun m g _ => frame_dense3 m g trivial, trivial, bits, algebra, trivial, algebra_experts, algebra_experts3⟩

end Cert.Proof
end
